-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_ok [hPre_boxes_ok : Cert.Pre_boxes_ok.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_ok [hPre_boxes_ok : Cert.Pre_boxes_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_boxes_ok [hKernelIdeal : Cert.KernelIdeal.Facts] [hPre_boxes_ok : Cert.Pre_boxes_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_ok [hReferenceIdeal : Cert.ReferenceIdeal.Facts] [hPre_boxes_ok : Cert.Pre_boxes_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_boxes_ok [hKernelIdeal : Cert.KernelIdeal.Facts] [hReferenceIdeal : Cert.ReferenceIdeal.Facts] [hPre_boxes_ok : Cert.Pre_boxes_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_boxes_ok : Cert.Pre_boxes_ok.Facts),
    quiescent_Kernel (hKernel := hKernel)
    ∧ quiescent_KernelIdeal (hKernelIdeal := hKernelIdeal)
    ∧ quiescent_KernelIdeal_pre_boxes_ok (hKernelIdeal := hKernelIdeal) (hPre_boxes_ok := hPre_boxes_ok)
    ∧ quiescent_ReferenceIdeal (hReferenceIdeal := hReferenceIdeal)
    ∧ quiescent_ReferenceIdeal_pre_boxes_ok (hReferenceIdeal := hReferenceIdeal) (hPre_boxes_ok := hPre_boxes_ok)
    ∧ preserves_Kernel_KernelIdeal
    ∧ algebraic_KernelIdeal_ReferenceIdeal_pre_boxes_ok (hKernelIdeal := hKernelIdeal) (hReferenceIdeal := hReferenceIdeal) (hPre_boxes_ok := hPre_boxes_ok)
-- ==== Pre_boxes_ok.lean ====
abbrev S20000x4 : Shape := ⟨2, ![20000, 4]⟩
abbrev S20000 : Shape := ⟨1, ![20000]⟩
abbrev S20000x1 : Shape := ⟨2, ![20000, 1]⟩
abbrev S_ : Shape := ⟨0, ![]⟩

class Facts : Prop where
  slices_S20000x4_S20000x1_0_0 : S20000x4.Slices ![0, 0] S20000x1
  shapeCasts_S20000x1_S20000 : S20000x1.ShapeCasts S20000
  slices_S20000x4_S20000x1_0_1 : S20000x4.Slices ![0, 1] S20000x1
  slices_S20000x4_S20000x1_0_2 : S20000x4.Slices ![0, 2] S20000x1
  slices_S20000x4_S20000x1_0_3 : S20000x4.Slices ![0, 3] S20000x1
  bcast_S_S20000 : S_.BroadcastsInDim S20000 (![] : Fin 0 → Fin S20000.rank)
  bcast_S_S20000x4 : S_.BroadcastsInDim S20000x4 (![] : Fin 0 → Fin S20000x4.rank)
  reducesTo_S20000x4_S_d0_1 : S20000x4.ReducesTo [0, 1] S_
  h_S_ : 0 < S_.numel
  reducesTo_S20000_S_d0 : S20000.ReducesTo [0] S_

variable [Facts]

def fn_clip {F : FTy → Type} [FloatOps F] (arg0 : FVec F S20000 .f32) (arg1 : FVec F S_ .f32) : FVec F S20000 .f32 :=
  let v0 : FVec F S_ .f32 := id arg1
  let v1 : FVec F S20000 .f32 := broadcastInDim S20000 ![] bcast_S_S20000 v0
  let v2 : FVec F S20000 .f32 := maximumf v1 arg0
  v2

def fn_part1 {F : FTy → Type} [FloatOps F] (main_v12 : FVec F S20000 .f32) (main_v18 : IVec S_ 1) (main_v19 : FVec F S20000 .f32) : IVec S_ 1 :=
  let main_v20 : FVec F S20000 .f32 := subf main_v19 main_v12
  let main_cst_2 : FVec F S_ .f32 := constant S_ .f32 0x322BCC77#32
  let main_v21 : FVec F S20000 .f32 := broadcastInDim S20000 ![] bcast_S_S20000 main_cst_2
  let main_v22 : FVec F S20000 .f32 := addf main_v20 main_v21
  let main_v23 : FVec F S20000 .f32 := Host.divf main_v12 main_v22
  let main_cst_3 : FVec F S_ .f32 := constant S_ .f32 0x3F000000#32
  let main_v24 : FVec F S20000 .f32 := broadcastInDim S20000 ![] bcast_S_S20000 main_cst_3
  let main_v25 : IVec S20000 1 := cmpf .ogt main_v23 main_v24
  let main_c_4 : IVec S_ 1 := constantI S_ 1 1#1
  let main_v26 : IVec S_ 1 := (fun x v => Host.reduce IntOp.andi x v reducesTo_S20000_S_d0 h_S_) main_v25 main_c_4
  let main_v27 : IVec S_ 1 := andi main_v18 main_v26
  main_v27

def fn {F : FTy → Type} [FloatOps F] (main_arg0 : FVec F S20000x4 .f32) (main_arg1 : FVec F S20000 .f32) : IVec S_ 1 :=
  let main_v0 : FVec F S20000x1 .f32 := (extractStridedSlice S20000x1 ![0, 0] · slices_S20000x4_S20000x1_0_0) main_arg0
  let main_v1 : FVec F S20000 .f32 := shapeCast S20000 main_v0 shapeCasts_S20000x1_S20000
  let main_v2 : FVec F S20000x1 .f32 := (extractStridedSlice S20000x1 ![0, 1] · slices_S20000x4_S20000x1_0_1) main_arg0
  let main_v3 : FVec F S20000 .f32 := shapeCast S20000 main_v2 shapeCasts_S20000x1_S20000
  let main_v4 : FVec F S20000x1 .f32 := (extractStridedSlice S20000x1 ![0, 2] · slices_S20000x4_S20000x1_0_2) main_arg0
  let main_v5 : FVec F S20000 .f32 := shapeCast S20000 main_v4 shapeCasts_S20000x1_S20000
  let main_v6 : FVec F S20000x1 .f32 := (extractStridedSlice S20000x1 ![0, 3] · slices_S20000x4_S20000x1_0_3) main_arg0
  let main_v7 : FVec F S20000 .f32 := shapeCast S20000 main_v6 shapeCasts_S20000x1_S20000
  let main_v8 : FVec F S20000 .f32 := subf main_v5 main_v1
  let main_cst : FVec F S_ .f32 := constant S_ .f32 0x00000000#32
  let main_v9 : FVec F S20000 .f32 := fn_clip (F := F) main_v8 main_cst
  let main_v10 : FVec F S20000 .f32 := subf main_v7 main_v3
  let main_cst_0 : FVec F S_ .f32 := constant S_ .f32 0x00000000#32
  let main_v11 : FVec F S20000 .f32 := fn_clip (F := F) main_v10 main_cst_0
  let main_v12 : FVec F S20000 .f32 := mulf main_v9 main_v11
  let main_v13 : FVec F S20000 .f32 := subf main_v5 main_v1
  let main_v14 : FVec F S20000 .f32 := subf main_v7 main_v3
  let main_v15 : FVec F S20000 .f32 := mulf main_v13 main_v14
  let main_cst_1 : FVec F S_ .f32 := constant S_ .f32 0xBF800000#32
  let main_v16 : FVec F S20000x4 .f32 := broadcastInDim S20000x4 ![] bcast_S_S20000x4 main_cst_1
  let main_v17 : IVec S20000x4 1 := cmpf .oge main_arg0 main_v16
  let main_c : IVec S_ 1 := constantI S_ 1 1#1
  let main_v18 : IVec S_ 1 := (fun x v => Host.reduce IntOp.andi x v reducesTo_S20000x4_S_d0_1 h_S_) main_v17 main_c
  let main_v19 : FVec F S20000 .f32 := addf main_v15 main_v15
  fn_part1 (F := F) main_v12 main_v18 main_v19
-- ==== Kernel.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S20480 : Shape := ⟨1, ![20480]⟩
abbrev S160x128 : Shape := ⟨2, ![160, 128]⟩
abbrev S512x5 : Shape := ⟨2, ![512, 5]⟩
abbrev S1x128 : Shape := ⟨2, ![1, 128]⟩
abbrev S128 : Shape := ⟨1, ![128]⟩
abbrev S1 : Shape := ⟨1, ![1]⟩
abbrev S1x1 : Shape := ⟨2, ![1, 1]⟩
abbrev S1x160x128 : Shape := ⟨3, ![1, 160, 128]⟩
abbrev S1x1x1 : Shape := ⟨3, ![1, 1, 1]⟩
abbrev S1x5 : Shape := ⟨2, ![1, 5]⟩

abbrev nBuf : Space → Nat
  | .hbm => 46
  | .vmem => 7
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S20000x1, .f32⟩
  | .hbm, ⟨3, _⟩ => ⟨S20000, .f32⟩
  | .hbm, ⟨4, _⟩ => ⟨S_, .i32⟩
  | .hbm, ⟨5, _⟩ => ⟨S_, .f32⟩
  | .hbm, ⟨6, _⟩ => ⟨S20480, .f32⟩
  | .hbm, ⟨7, _⟩ => ⟨S160x128, .f32⟩
  | .hbm, ⟨8, _⟩ => ⟨S20000x1, .f32⟩
  | .hbm, ⟨9, _⟩ => ⟨S20000, .f32⟩
  | .hbm, ⟨10, _⟩ => ⟨S_, .i32⟩
  | .hbm, ⟨11, _⟩ => ⟨S_, .f32⟩
  | .hbm, ⟨12, _⟩ => ⟨S20480, .f32⟩
  | .hbm, ⟨13, _⟩ => ⟨S160x128, .f32⟩
  | .hbm, ⟨14, _⟩ => ⟨S20000x1, .f32⟩
  | .hbm, ⟨15, _⟩ => ⟨S20000, .f32⟩
  | .hbm, ⟨16, _⟩ => ⟨S_, .i32⟩
  | .hbm, ⟨17, _⟩ => ⟨S_, .f32⟩
  | .hbm, ⟨18, _⟩ => ⟨S20480, .f32⟩
  | .hbm, ⟨19, _⟩ => ⟨S160x128, .f32⟩
  | .hbm, ⟨20, _⟩ => ⟨S20000x1, .f32⟩
  | .hbm, ⟨21, _⟩ => ⟨S20000, .f32⟩
  | .hbm, ⟨22, _⟩ => ⟨S_, .i32⟩
  | .hbm, ⟨23, _⟩ => ⟨S_, .f32⟩
  | .hbm, ⟨24, _⟩ => ⟨S20480, .f32⟩
  | .hbm, ⟨25, _⟩ => ⟨S160x128, .f32⟩
  | .hbm, ⟨26, _⟩ => ⟨S20000x1, .f32⟩
  | .hbm, ⟨27, _⟩ => ⟨S20000, .f32⟩
  | .hbm, ⟨28, _⟩ => ⟨S20000x1, .f32⟩
  | .hbm, ⟨29, _⟩ => ⟨S20000, .f32⟩
  | .hbm, ⟨30, _⟩ => ⟨S20000, .f32⟩
  | .hbm, ⟨31, _⟩ => ⟨S20000x1, .f32⟩
  | .hbm, ⟨32, _⟩ => ⟨S20000, .f32⟩
  | .hbm, ⟨33, _⟩ => ⟨S20000x1, .f32⟩
  | .hbm, ⟨34, _⟩ => ⟨S20000, .f32⟩
  | .hbm, ⟨35, _⟩ => ⟨S20000, .f32⟩
  | .hbm, ⟨36, _⟩ => ⟨S20000, .f32⟩
  | .hbm, ⟨37, _⟩ => ⟨S_, .i32⟩
  | .hbm, ⟨38, _⟩ => ⟨S_, .f32⟩
  | .hbm, ⟨39, _⟩ => ⟨S20480, .f32⟩
  | .hbm, ⟨40, _⟩ => ⟨S160x128, .f32⟩
  | .hbm, ⟨41, _⟩ => ⟨S_, .f32⟩
  | .hbm, ⟨42, _⟩ => ⟨S_, .f32⟩
  | .hbm, ⟨43, _⟩ => ⟨S20480, .f32⟩
  | .hbm, ⟨44, _⟩ => ⟨S160x128, .f32⟩
  | .hbm, ⟨45, _⟩ => ⟨S512x5, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S512x5, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_call3_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_call4_v0 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_call5_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_off1 (arg7 : BitVec 32) : Fin 2 → Nat :=
  let v370 : Index := Scalar.indexCast arg7
  let c0_92 : Index := 0#32
  ![v370.toNat, 0]

def k0_chk1 (arg7 : BitVec 32) : Prop :=
  (∀ a, (k0_off1 arg7) a + S1x5.size a ≤ S512x5.size a)
theorem k0_off1_inb : ∀ (arg7 : BitVec 32) (k0_hw1 : k0_chk1 arg7), ∀ a, (k0_off1 arg7) a + S1x5.size a ≤ S512x5.size a := fun arg7 k0_hw1 => k0_hw1

def k0_off2 (arg7 : BitVec 32) : Fin 2 → Nat :=
  let c1_i32_110 : BitVec 32 := 1#32
  let v422 : BitVec 32 := Scalar.addi arg7 c1_i32_110
  let v423 : Index := Scalar.indexCast v422
  let c0_111 : Index := 0#32
  ![v423.toNat, 0]
def k0_cond1 (arg7 : BitVec 32) (v373 : BitVec 32) : BitVec 1 :=
  let c0_i32_93 : BitVec 32 := 0#32
  let v374 : BitVec 1 := Scalar.cmpi .sgt v373 c0_i32_93
  let c511_i32 : BitVec 32 := 511#32
  let v375 : BitVec 1 := Scalar.cmpi .slt arg7 c511_i32
  let v376 : BitVec 1 := Scalar.andi v374 v375
  let v377 : BitVec 32 := Scalar.extui v376
  let c0_i32_94 : BitVec 32 := 0#32
  let v378 : BitVec 1 := Scalar.cmpi .ne v377 c0_i32_94
  v378

def k0_chk2 (arg7 : BitVec 32) (v373 : BitVec 32) : Prop :=
  (∀ (k0_h1 : k0_cond1 arg7 v373 = 1#1), ∀ a, (k0_off2 arg7) a + S1x5.size a ≤ S512x5.size a)
theorem k0_off2_inb : ∀ (arg7 : BitVec 32) (v373 : BitVec 32) (k0_hw2 : k0_chk2 arg7 v373), ∀ (k0_h1 : k0_cond1 arg7 v373 = 1#1), ∀ a, (k0_off2 arg7) a + S1x5.size a ≤ S512x5.size a := fun arg7 v373 k0_hw2 k0_h1 => k0_hw2 k0_h1

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S_ : Shape := ⟨0, ![]⟩
abbrev S512 : Shape := ⟨1, ![512]⟩
abbrev S1 : Shape := ⟨1, ![1]⟩
abbrev S1x4 : Shape := ⟨2, ![1, 4]⟩
abbrev S4 : Shape := ⟨1, ![4]⟩
abbrev S20000x1 : Shape := ⟨2, ![20000, 1]⟩
abbrev S512x1 : Shape := ⟨2, ![512, 1]⟩
abbrev S1x1 : Shape := ⟨2, ![1, 1]⟩
abbrev S512x4 : Shape := ⟨2, ![512, 4]⟩
abbrev S512x5 : Shape := ⟨2, ![512, 5]⟩

abbrev nBuf : Space → Nat
  | .hbm => 194
  | .vmem => 0
  | .smem => 0
  | _ => 0

abbrev hbmTy0_0 (i : Nat) : BufTy := match i % 128 with
  | 0 => ⟨S20000x4, .f32⟩
  | 1 => ⟨S20000, .f32⟩
  | 2 => ⟨S_, .i1⟩
  | 3 => ⟨S20000, .i1⟩
  | 4 => ⟨S_, .i32⟩
  | 5 => ⟨S512, .i32⟩
  | 6 => ⟨S_, .f32⟩
  | 7 => ⟨S_, .i32⟩
  | 8 => ⟨S_, .i32⟩
  | 9 => ⟨S20000, .f32⟩
  | 10 => ⟨S_, .f32⟩
  | 11 => ⟨S20000x4, .f32⟩
  | 12 => ⟨S_, .i32⟩
  | 13 => ⟨S_, .i32⟩
  | 14 => ⟨S20000, .i1⟩
  | 15 => ⟨S512, .i32⟩
  | 16 => ⟨S_, .i32⟩
  | 17 => ⟨S_, .i1⟩
  | 18 => ⟨S_, .i32⟩
  | 19 => ⟨S_, .i32⟩
  | 20 => ⟨S20000, .f32⟩
  | 21 => ⟨S20000, .f32⟩
  | 22 => ⟨S20000, .i32⟩
  | 23 => ⟨S_, .f32⟩
  | 24 => ⟨S_, .i32⟩
  | 25 => ⟨S_, .f32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S1, .f32⟩
  | 33 => ⟨S_, .f32⟩
  | 34 => ⟨S_, .f32⟩
  | 35 => ⟨S_, .f32⟩
  | 36 => ⟨S_, .i1⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S1x4, .f32⟩
  | 51 => ⟨S4, .f32⟩
  | 52 => ⟨S1, .f32⟩
  | 53 => ⟨S_, .f32⟩
  | 54 => ⟨S20000x1, .f32⟩
  | 55 => ⟨S20000, .f32⟩
  | 56 => ⟨S20000, .f32⟩
  | 57 => ⟨S20000, .f32⟩
  | 58 => ⟨S1, .f32⟩
  | 59 => ⟨S_, .f32⟩
  | 60 => ⟨S20000x1, .f32⟩
  | 61 => ⟨S20000, .f32⟩
  | 62 => ⟨S20000, .f32⟩
  | 63 => ⟨S20000, .f32⟩
  | 64 => ⟨S1, .f32⟩
  | 65 => ⟨S_, .f32⟩
  | 66 => ⟨S20000x1, .f32⟩
  | 67 => ⟨S20000, .f32⟩
  | 68 => ⟨S20000, .f32⟩
  | 69 => ⟨S20000, .f32⟩
  | 70 => ⟨S1, .f32⟩
  | 71 => ⟨S_, .f32⟩
  | 72 => ⟨S20000x1, .f32⟩
  | 73 => ⟨S20000, .f32⟩
  | 74 => ⟨S20000, .f32⟩
  | 75 => ⟨S20000, .f32⟩
  | 76 => ⟨S20000, .f32⟩
  | 77 => ⟨S_, .f32⟩
  | 78 => ⟨S_, .f32⟩
  | 79 => ⟨S20000, .f32⟩
  | 80 => ⟨S20000, .f32⟩
  | 81 => ⟨S20000, .f32⟩
  | 82 => ⟨S_, .f32⟩
  | 83 => ⟨S_, .f32⟩
  | 84 => ⟨S20000, .f32⟩
  | 85 => ⟨S20000, .f32⟩
  | 86 => ⟨S20000, .f32⟩
  | 87 => ⟨S1, .f32⟩
  | 88 => ⟨S_, .f32⟩
  | 89 => ⟨S1, .f32⟩
  | 90 => ⟨S_, .f32⟩
  | 91 => ⟨S_, .f32⟩
  | 92 => ⟨S1, .f32⟩
  | 93 => ⟨S_, .f32⟩
  | 94 => ⟨S1, .f32⟩
  | 95 => ⟨S_, .f32⟩
  | 96 => ⟨S_, .f32⟩
  | 97 => ⟨S_, .f32⟩
  | 98 => ⟨S20000x1, .f32⟩
  | 99 => ⟨S20000, .f32⟩
  | 100 => ⟨S20000x1, .f32⟩
  | 101 => ⟨S20000, .f32⟩
  | 102 => ⟨S20000, .f32⟩
  | 103 => ⟨S20000x1, .f32⟩
  | 104 => ⟨S20000, .f32⟩
  | 105 => ⟨S20000x1, .f32⟩
  | 106 => ⟨S20000, .f32⟩
  | 107 => ⟨S20000, .f32⟩
  | 108 => ⟨S20000, .f32⟩
  | 109 => ⟨S20000, .f32⟩
  | 110 => ⟨S20000, .f32⟩
  | 111 => ⟨S20000, .f32⟩
  | 112 => ⟨S_, .f32⟩
  | 113 => ⟨S20000, .f32⟩
  | 114 => ⟨S20000, .f32⟩
  | 115 => ⟨S20000, .f32⟩
  | 116 => ⟨S_, .f32⟩
  | 117 => ⟨S20000, .f32⟩
  | 118 => ⟨S20000, .i1⟩
  | 119 => ⟨S20000, .i1⟩
  | 120 => ⟨S20000, .i1⟩
  | 121 => ⟨S20000, .i1⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S20000x4, .f32⟩

abbrev hbmTy0_1 (i : Nat) : BufTy := match i % 128 with
  | 0 => ⟨S_, .i32⟩
  | 1 => ⟨S_, .i32⟩
  | 2 => ⟨S1, .i32⟩
  | 3 => ⟨S512, .i32⟩
  | 4 => ⟨S_, .i32⟩
  | 5 => ⟨S_, .i32⟩
  | 6 => ⟨S_, .i32⟩
  | 7 => ⟨S512, .i32⟩
  | 8 => ⟨S512, .i1⟩
  | 9 => ⟨S_, .i32⟩
  | 10 => ⟨S_, .i32⟩
  | 11 => ⟨S512, .i32⟩
  | 12 => ⟨S512, .i32⟩
  | 13 => ⟨S_, .i32⟩
  | 14 => ⟨S512, .i32⟩
  | 15 => ⟨S512, .i1⟩
  | 16 => ⟨S_, .i32⟩
  | 17 => ⟨S512, .i32⟩
  | 18 => ⟨S512, .i32⟩
  | 19 => ⟨S512, .i32⟩
  | 20 => ⟨S512x1, .i32⟩
  | 21 => ⟨S1, .i32⟩
  | 22 => ⟨S_, .i32⟩
  | 23 => ⟨S512x1, .i32⟩
  | 24 => ⟨S512x1, .i1⟩
  | 25 => ⟨S1x1, .i32⟩
  | 26 => ⟨S512x1, .i32⟩
  | 27 => ⟨S512x1, .i1⟩
  | 28 => ⟨S512x1, .i1⟩
  | 29 => ⟨S_, .i1⟩
  | 30 => ⟨S512, .i1⟩
  | 31 => ⟨S512x4, .f32⟩
  | 32 => ⟨S512x4, .i1⟩
  | 33 => ⟨S_, .f32⟩
  | 34 => ⟨S512x4, .f32⟩
  | 35 => ⟨S512x4, .f32⟩
  | 36 => ⟨S512x1, .i1⟩
  | 37 => ⟨S512x1, .f32⟩
  | 38 => ⟨S512x4, .f32⟩
  | 39 => ⟨S512x4, .f32⟩
  | 40 => ⟨S_, .i32⟩
  | 41 => ⟨S512, .i32⟩
  | 42 => ⟨S512, .i1⟩
  | 43 => ⟨S_, .i32⟩
  | 44 => ⟨S512, .i32⟩
  | 45 => ⟨S512, .i32⟩
  | 46 => ⟨S512, .i32⟩
  | 47 => ⟨S512x1, .i32⟩
  | 48 => ⟨S1, .i32⟩
  | 49 => ⟨S_, .i32⟩
  | 50 => ⟨S512x1, .i32⟩
  | 51 => ⟨S512x1, .i1⟩
  | 52 => ⟨S1x1, .i32⟩
  | 53 => ⟨S512x1, .i32⟩
  | 54 => ⟨S512x1, .i1⟩
  | 55 => ⟨S512x1, .i1⟩
  | 56 => ⟨S_, .i1⟩
  | 57 => ⟨S512, .i1⟩
  | 58 => ⟨S512, .f32⟩
  | 59 => ⟨S_, .f32⟩
  | 60 => ⟨S512, .f32⟩
  | 61 => ⟨S512, .f32⟩
  | 62 => ⟨S512, .f32⟩
  | 63 => ⟨S512, .f32⟩
  | 64 => ⟨S512x1, .f32⟩
  | 65 => ⟨S512x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_cst : Ref sig .tc := ⟨.hbm, 6, rfl⟩
abbrev main_c_1 : Ref sig .tc := ⟨.hbm, 7, rfl⟩
abbrev main_c_2 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_while0c_c_11 : Ref sig .tc := ⟨.hbm, 16, rfl⟩
abbrev main_while0c_v16 : Ref sig .tc := ⟨.hbm, 17, rfl⟩
abbrev main_while0b_c_11 : Ref sig .tc := ⟨.hbm, 18, rfl⟩
abbrev main_while0b_v16 : Ref sig .tc := ⟨.hbm, 19, rfl⟩
abbrev main_while0b_call0_v0 : Ref sig .tc := ⟨.hbm, 20, rfl⟩
abbrev main_while0b_v17 : Ref sig .tc := ⟨.hbm, 21, rfl⟩
abbrev main_while0b_call1_v0 : Ref sig .tc := ⟨.hbm, 22, rfl⟩
abbrev main_while0b_call1_cst : Ref sig .tc := ⟨.hbm, 23, rfl⟩
abbrev main_while0b_call1_c : Ref sig .tc := ⟨.hbm, 24, rfl⟩
abbrev main_while0b_call1_v1_0 : Ref sig .tc := ⟨.hbm, 25, rfl⟩
abbrev main_while0b_v18 : Ref sig .tc := ⟨.hbm, 26, rfl⟩
abbrev main_while0b_c_12 : Ref sig .tc := ⟨.hbm, 27, rfl⟩
abbrev main_while0b_v19 : Ref sig .tc := ⟨.hbm, 28, rfl⟩
abbrev main_while0b_c_13 : Ref sig .tc := ⟨.hbm, 29, rfl⟩
abbrev main_while0b_v20 : Ref sig .tc := ⟨.hbm, 30, rfl⟩
abbrev main_while0b_v21 : Ref sig .tc := ⟨.hbm, 31, rfl⟩
abbrev main_while0b_v22 : Ref sig .tc := ⟨.hbm, 32, rfl⟩
abbrev main_while0b_v23 : Ref sig .tc := ⟨.hbm, 33, rfl⟩
abbrev main_while0b_cst_14 : Ref sig .tc := ⟨.hbm, 34, rfl⟩
abbrev main_while0b_v24 : Ref sig .tc := ⟨.hbm, 35, rfl⟩
abbrev main_while0b_v25 : Ref sig .tc := ⟨.hbm, 36, rfl⟩
abbrev main_while0b_c_15 : Ref sig .tc := ⟨.hbm, 37, rfl⟩
abbrev main_while0b_v26 : Ref sig .tc := ⟨.hbm, 38, rfl⟩
abbrev main_while0b_c_16 : Ref sig .tc := ⟨.hbm, 39, rfl⟩
abbrev main_while0b_v27 : Ref sig .tc := ⟨.hbm, 40, rfl⟩
abbrev main_while0b_v28 : Ref sig .tc := ⟨.hbm, 41, rfl⟩
abbrev main_while0b_c_17 : Ref sig .tc := ⟨.hbm, 42, rfl⟩
abbrev main_while0b_c_18 : Ref sig .tc := ⟨.hbm, 43, rfl⟩
abbrev main_while0b_v29 : Ref sig .tc := ⟨.hbm, 44, rfl⟩
abbrev main_while0b_c_19 : Ref sig .tc := ⟨.hbm, 45, rfl⟩
abbrev main_while0b_c_20 : Ref sig .tc := ⟨.hbm, 46, rfl⟩
abbrev main_while0b_v30 : Ref sig .tc := ⟨.hbm, 47, rfl⟩
abbrev main_while0b_c_21 : Ref sig .tc := ⟨.hbm, 48, rfl⟩
abbrev main_while0b_v31 : Ref sig .tc := ⟨.hbm, 49, rfl⟩
abbrev main_while0b_v32 : Ref sig .tc := ⟨.hbm, 50, rfl⟩
abbrev main_while0b_v33 : Ref sig .tc := ⟨.hbm, 51, rfl⟩
abbrev main_while0b_v34 : Ref sig .tc := ⟨.hbm, 52, rfl⟩
abbrev main_while0b_v35 : Ref sig .tc := ⟨.hbm, 53, rfl⟩
abbrev main_while0b_v36 : Ref sig .tc := ⟨.hbm, 54, rfl⟩
abbrev main_while0b_v37 : Ref sig .tc := ⟨.hbm, 55, rfl⟩
abbrev main_while0b_v38 : Ref sig .tc := ⟨.hbm, 56, rfl⟩
abbrev main_while0b_v39 : Ref sig .tc := ⟨.hbm, 57, rfl⟩
abbrev main_while0b_v40 : Ref sig .tc := ⟨.hbm, 58, rfl⟩
abbrev main_while0b_v41 : Ref sig .tc := ⟨.hbm, 59, rfl⟩
abbrev main_while0b_v42 : Ref sig .tc := ⟨.hbm, 60, rfl⟩
abbrev main_while0b_v43 : Ref sig .tc := ⟨.hbm, 61, rfl⟩
abbrev main_while0b_v44 : Ref sig .tc := ⟨.hbm, 62, rfl⟩
abbrev main_while0b_v45 : Ref sig .tc := ⟨.hbm, 63, rfl⟩
abbrev main_while0b_v46 : Ref sig .tc := ⟨.hbm, 64, rfl⟩
abbrev main_while0b_v47 : Ref sig .tc := ⟨.hbm, 65, rfl⟩
abbrev main_while0b_v48 : Ref sig .tc := ⟨.hbm, 66, rfl⟩
abbrev main_while0b_v49 : Ref sig .tc := ⟨.hbm, 67, rfl⟩
abbrev main_while0b_v50 : Ref sig .tc := ⟨.hbm, 68, rfl⟩
abbrev main_while0b_v51 : Ref sig .tc := ⟨.hbm, 69, rfl⟩
abbrev main_while0b_v52 : Ref sig .tc := ⟨.hbm, 70, rfl⟩
abbrev main_while0b_v53 : Ref sig .tc := ⟨.hbm, 71, rfl⟩
abbrev main_while0b_v54 : Ref sig .tc := ⟨.hbm, 72, rfl⟩
abbrev main_while0b_v55 : Ref sig .tc := ⟨.hbm, 73, rfl⟩
abbrev main_while0b_v56 : Ref sig .tc := ⟨.hbm, 74, rfl⟩
abbrev main_while0b_v57 : Ref sig .tc := ⟨.hbm, 75, rfl⟩
abbrev main_while0b_v58 : Ref sig .tc := ⟨.hbm, 76, rfl⟩
abbrev main_while0b_cst_22 : Ref sig .tc := ⟨.hbm, 77, rfl⟩
abbrev main_while0b_call2_v0 : Ref sig .tc := ⟨.hbm, 78, rfl⟩
abbrev main_while0b_call2_v1 : Ref sig .tc := ⟨.hbm, 79, rfl⟩
abbrev main_while0b_v59 : Ref sig .tc := ⟨.hbm, 80, rfl⟩
abbrev main_while0b_v60 : Ref sig .tc := ⟨.hbm, 81, rfl⟩
abbrev main_while0b_cst_23 : Ref sig .tc := ⟨.hbm, 82, rfl⟩
abbrev main_while0b_call3_v0 : Ref sig .tc := ⟨.hbm, 83, rfl⟩
abbrev main_while0b_call3_v1 : Ref sig .tc := ⟨.hbm, 84, rfl⟩
abbrev main_while0b_v61 : Ref sig .tc := ⟨.hbm, 85, rfl⟩
abbrev main_while0b_v62 : Ref sig .tc := ⟨.hbm, 86, rfl⟩
abbrev main_while0b_v63 : Ref sig .tc := ⟨.hbm, 87, rfl⟩
abbrev main_while0b_v64 : Ref sig .tc := ⟨.hbm, 88, rfl⟩
abbrev main_while0b_v65 : Ref sig .tc := ⟨.hbm, 89, rfl⟩
abbrev main_while0b_v66 : Ref sig .tc := ⟨.hbm, 90, rfl⟩
abbrev main_while0b_v67 : Ref sig .tc := ⟨.hbm, 91, rfl⟩
abbrev main_while0b_v68 : Ref sig .tc := ⟨.hbm, 92, rfl⟩
abbrev main_while0b_v69 : Ref sig .tc := ⟨.hbm, 93, rfl⟩
abbrev main_while0b_v70 : Ref sig .tc := ⟨.hbm, 94, rfl⟩
abbrev main_while0b_v71 : Ref sig .tc := ⟨.hbm, 95, rfl⟩
abbrev main_while0b_v72 : Ref sig .tc := ⟨.hbm, 96, rfl⟩
abbrev main_while0b_v73 : Ref sig .tc := ⟨.hbm, 97, rfl⟩
abbrev main_while0b_v74 : Ref sig .tc := ⟨.hbm, 98, rfl⟩
abbrev main_while0b_v75 : Ref sig .tc := ⟨.hbm, 99, rfl⟩
abbrev main_while0b_v76 : Ref sig .tc := ⟨.hbm, 100, rfl⟩
abbrev main_while0b_v77 : Ref sig .tc := ⟨.hbm, 101, rfl⟩
abbrev main_while0b_v78 : Ref sig .tc := ⟨.hbm, 102, rfl⟩
abbrev main_while0b_v79 : Ref sig .tc := ⟨.hbm, 103, rfl⟩
abbrev main_while0b_v80 : Ref sig .tc := ⟨.hbm, 104, rfl⟩
abbrev main_while0b_v81 : Ref sig .tc := ⟨.hbm, 105, rfl⟩
abbrev main_while0b_v82 : Ref sig .tc := ⟨.hbm, 106, rfl⟩
abbrev main_while0b_v83 : Ref sig .tc := ⟨.hbm, 107, rfl⟩
abbrev main_while0b_v84 : Ref sig .tc := ⟨.hbm, 108, rfl⟩
abbrev main_while0b_v85 : Ref sig .tc := ⟨.hbm, 109, rfl⟩
abbrev main_while0b_v86 : Ref sig .tc := ⟨.hbm, 110, rfl⟩
abbrev main_while0b_v87 : Ref sig .tc := ⟨.hbm, 111, rfl⟩
abbrev main_while0b_cst_24 : Ref sig .tc := ⟨.hbm, 112, rfl⟩
abbrev main_while0b_v88 : Ref sig .tc := ⟨.hbm, 113, rfl⟩
abbrev main_while0b_v89 : Ref sig .tc := ⟨.hbm, 114, rfl⟩
abbrev main_while0b_v90 : Ref sig .tc := ⟨.hbm, 115, rfl⟩
abbrev main_while0b_cst_25 : Ref sig .tc := ⟨.hbm, 116, rfl⟩
abbrev main_while0b_v91 : Ref sig .tc := ⟨.hbm, 117, rfl⟩
abbrev main_while0b_v92 : Ref sig .tc := ⟨.hbm, 118, rfl⟩
abbrev main_while0b_v93 : Ref sig .tc := ⟨.hbm, 119, rfl⟩
abbrev main_while0b_v94 : Ref sig .tc := ⟨.hbm, 120, rfl⟩
abbrev main_while0b_v95 : Ref sig .tc := ⟨.hbm, 121, rfl⟩
abbrev main_while0b_c_26 : Ref sig .tc := ⟨.hbm, 122, rfl⟩
abbrev main_while0b_v96 : Ref sig .tc := ⟨.hbm, 123, rfl⟩
abbrev main_while0b_c_27 : Ref sig .tc := ⟨.hbm, 124, rfl⟩
abbrev main_while0b_v97 : Ref sig .tc := ⟨.hbm, 125, rfl⟩
abbrev main_while0b_c_28 : Ref sig .tc := ⟨.hbm, 126, rfl⟩
abbrev main_while0b_v98 : Ref sig .tc := ⟨.hbm, 127, rfl⟩
abbrev main_while0b_v99 : Ref sig .tc := ⟨.hbm, 128, rfl⟩
abbrev main_while0b_v100 : Ref sig .tc := ⟨.hbm, 129, rfl⟩
abbrev main_while0b_v101 : Ref sig .tc := ⟨.hbm, 130, rfl⟩
abbrev main_while0b_v102 : Ref sig .tc := ⟨.hbm, 131, rfl⟩
abbrev main_while0b_c_29 : Ref sig .tc := ⟨.hbm, 132, rfl⟩
abbrev main_while0b_v103 : Ref sig .tc := ⟨.hbm, 133, rfl⟩
abbrev main_c_3 : Ref sig .tc := ⟨.hbm, 134, rfl⟩
abbrev main_v3 : Ref sig .tc := ⟨.hbm, 135, rfl⟩
abbrev main_v4 : Ref sig .tc := ⟨.hbm, 136, rfl⟩
abbrev main_c_4 : Ref sig .tc := ⟨.hbm, 137, rfl⟩
abbrev main_call6_v0 : Ref sig .tc := ⟨.hbm, 138, rfl⟩
abbrev main_call6_v1 : Ref sig .tc := ⟨.hbm, 139, rfl⟩
abbrev main_v5 : Ref sig .tc := ⟨.hbm, 140, rfl⟩
abbrev main_call7_c : Ref sig .tc := ⟨.hbm, 141, rfl⟩
abbrev main_call7_v0 : Ref sig .tc := ⟨.hbm, 142, rfl⟩
abbrev main_call7_v1 : Ref sig .tc := ⟨.hbm, 143, rfl⟩
abbrev main_call7_c_0 : Ref sig .tc := ⟨.hbm, 144, rfl⟩
abbrev main_call7_v2 : Ref sig .tc := ⟨.hbm, 145, rfl⟩
abbrev main_call7_v3 : Ref sig .tc := ⟨.hbm, 146, rfl⟩
abbrev main_call7_v4 : Ref sig .tc := ⟨.hbm, 147, rfl⟩
abbrev main_call7_v5 : Ref sig .tc := ⟨.hbm, 148, rfl⟩
abbrev main_call7_c_1 : Ref sig .tc := ⟨.hbm, 149, rfl⟩
abbrev main_call7_c_2 : Ref sig .tc := ⟨.hbm, 150, rfl⟩
abbrev main_call7_v6 : Ref sig .tc := ⟨.hbm, 151, rfl⟩
abbrev main_call7_v7 : Ref sig .tc := ⟨.hbm, 152, rfl⟩
abbrev main_call7_v8 : Ref sig .tc := ⟨.hbm, 153, rfl⟩
abbrev main_call7_v9 : Ref sig .tc := ⟨.hbm, 154, rfl⟩
abbrev main_call7_v10 : Ref sig .tc := ⟨.hbm, 155, rfl⟩
abbrev main_call7_v11 : Ref sig .tc := ⟨.hbm, 156, rfl⟩
abbrev main_call7_c_3 : Ref sig .tc := ⟨.hbm, 157, rfl⟩
abbrev main_call7_v12 : Ref sig .tc := ⟨.hbm, 158, rfl⟩
abbrev main_call7_v13 : Ref sig .tc := ⟨.hbm, 159, rfl⟩
abbrev main_call7_v14 : Ref sig .tc := ⟨.hbm, 160, rfl⟩
abbrev main_call7_cst : Ref sig .tc := ⟨.hbm, 161, rfl⟩
abbrev main_call7_v15 : Ref sig .tc := ⟨.hbm, 162, rfl⟩
abbrev main_v6 : Ref sig .tc := ⟨.hbm, 163, rfl⟩
abbrev main_v7 : Ref sig .tc := ⟨.hbm, 164, rfl⟩
abbrev main_v8 : Ref sig .tc := ⟨.hbm, 165, rfl⟩
abbrev main_v9 : Ref sig .tc := ⟨.hbm, 166, rfl⟩
abbrev main_v10 : Ref sig .tc := ⟨.hbm, 167, rfl⟩
abbrev main_call8_c : Ref sig .tc := ⟨.hbm, 168, rfl⟩
abbrev main_call8_v0 : Ref sig .tc := ⟨.hbm, 169, rfl⟩
abbrev main_call8_v1 : Ref sig .tc := ⟨.hbm, 170, rfl⟩
abbrev main_call8_c_0 : Ref sig .tc := ⟨.hbm, 171, rfl⟩
abbrev main_call8_v2 : Ref sig .tc := ⟨.hbm, 172, rfl⟩
abbrev main_call8_v3 : Ref sig .tc := ⟨.hbm, 173, rfl⟩
abbrev main_call8_v4 : Ref sig .tc := ⟨.hbm, 174, rfl⟩
abbrev main_call8_v5 : Ref sig .tc := ⟨.hbm, 175, rfl⟩
abbrev main_call8_c_1 : Ref sig .tc := ⟨.hbm, 176, rfl⟩
abbrev main_call8_c_2 : Ref sig .tc := ⟨.hbm, 177, rfl⟩
abbrev main_call8_v6 : Ref sig .tc := ⟨.hbm, 178, rfl⟩
abbrev main_call8_v7 : Ref sig .tc := ⟨.hbm, 179, rfl⟩
abbrev main_call8_v8 : Ref sig .tc := ⟨.hbm, 180, rfl⟩
abbrev main_call8_v9 : Ref sig .tc := ⟨.hbm, 181, rfl⟩
abbrev main_call8_v10 : Ref sig .tc := ⟨.hbm, 182, rfl⟩
abbrev main_call8_v11 : Ref sig .tc := ⟨.hbm, 183, rfl⟩
abbrev main_call8_c_3 : Ref sig .tc := ⟨.hbm, 184, rfl⟩
abbrev main_call8_v12 : Ref sig .tc := ⟨.hbm, 185, rfl⟩
abbrev main_call8_v13 : Ref sig .tc := ⟨.hbm, 186, rfl⟩
abbrev main_call8_cst : Ref sig .tc := ⟨.hbm, 187, rfl⟩
abbrev main_call8_v14 : Ref sig .tc := ⟨.hbm, 188, rfl⟩
abbrev main_v11 : Ref sig .tc := ⟨.hbm, 189, rfl⟩
abbrev main_v12 : Ref sig .tc := ⟨.hbm, 190, rfl⟩
abbrev main_v13 : Ref sig .tc := ⟨.hbm, 191, rfl⟩
abbrev main_v14 : Ref sig .tc := ⟨.hbm, 192, rfl⟩
abbrev main_v15 : Ref sig .tc := ⟨.hbm, 193, rfl⟩

abbrev nD : Nat := 1
abbrev τ : Topo := Topo.v7x

variable {F : FTy → Type} [FloatOps F]

abbrev main_while0_count : Scf.Loop 32 := ⟨0#32, 512#32, 1#32⟩
-- ==== Proof.KI.Sweep.lean ====
/-
  One sweep of the suppression loop as functions of the planes and of the masked scores, for `KernelIdeal`, at any float values.
  The kernel's payloads are composed in the order the loop body reads them: the first pick (the greatest masked score and the
  first place that holds it), its box and the overlap of every box with it, the second pick, and what a sweep leaves — the masked
  scores, one or two rows of the result, and the counter. `outFrom` iterates the sweep on the result's buffer; `outFrom_full` says
  that from counter 0 it fills every row, so that what the buffer held before does not matter.
-/
module

public import proofs.«01_k».proof.Proof.Gen.KernelIdeal
public import proofs.«01_k».proof.Proof.Gen.KernelIdeal.Skeleton
public import Idealize.ShloMosaic.Lib.WritesUnit

@[expose] public section

set_option maxRecDepth 16384

noncomputable section

namespace Cert.Proof.KI

open Cert.KernelIdeal Cert.KernelIdeal.Gen
open Idealize.ShloMosaic Idealize.ShloMosaic.TcCoe
open Idealize.SL Idealize.SL.Sem

variable {F : FTy → Type} [FloatOps F]

/-- The five planes of the boxes, as the loop receives them. -/
structure Planes (F : FTy → Type) [FloatOps F] where
  x1 : FVec F S160x128 .f32
  y1 : FVec F S160x128 .f32
  x2 : FVec F S160x128 .f32
  y2 : FVec F S160x128 .f32
  ar : FVec F S160x128 .f32

/-- The lane number of every lane. -/
def lanes : IVec S1x128 32 := iota .tc S1x128 32 [1] iota_S1x128_d1_w32
/-- The row number of every element of a plane. -/
def rows : IVec S160x128 32 := iota .tc S160x128 32 [0] iota_S160x128_d0_w32

section Values

variable (p : Planes F) (ms : FVec F S160x128 .f32)

/-- The greatest score of each lane. -/
def colMax : FVec F S1x128 .f32 := k0_pay10 ms
/-- The first row that holds it. -/
def colRow : IVec S1x128 32 := k0_pay11 rows ms
/-- The greatest score. -/
def m1 : FVec F S1x1 .f32 := k0_pay12 ms
/-- The first place that holds it. -/
def best1 : IVec S1x1 32 := k0_pay13 rows lanes ms
/-- Whether the first pick is above the threshold. -/
def valid1 : IVec S1x1 1 := k0_pay14 ms
/-- The first pick's box, coordinate by coordinate. -/
def bx1 : FVec F S1x1 .f32 :=
  k0_pay19 rows lanes p.x1 (best1 ms) (k0_pay15 rows lanes ms) (k0_pay16 rows lanes ms) (k0_pay17 rows lanes ms)
def by1 : FVec F S1x1 .f32 :=
  k0_pay20 rows lanes p.y1 (best1 ms) (k0_pay15 rows lanes ms) (k0_pay16 rows lanes ms) (k0_pay17 rows lanes ms)
def bx2 : FVec F S1x1 .f32 :=
  k0_pay21 rows lanes p.x2 (best1 ms) (k0_pay15 rows lanes ms) (k0_pay16 rows lanes ms) (k0_pay17 rows lanes ms)
def by2 : FVec F S1x1 .f32 :=
  k0_pay22 rows lanes p.y2 (best1 ms) (k0_pay15 rows lanes ms) (k0_pay16 rows lanes ms) (k0_pay17 rows lanes ms)
/-- The overlap of every box with the first pick's. -/
def iou1 : FVec F S160x128 .f32 :=
  k0_pay25 p.ar (bx1 p ms) (by1 p ms) (bx2 p ms) (by2 p ms)
    (k0_pay23 rows lanes p.x1 p.x2 (best1 ms) (k0_pay15 rows lanes ms) (k0_pay16 rows lanes ms) (k0_pay17 rows lanes ms))
    (k0_pay24 rows lanes p.y1 p.y2 (best1 ms) (k0_pay15 rows lanes ms) (k0_pay16 rows lanes ms) (k0_pay17 rows lanes ms))
/-- The greatest score apart from the first pick's. -/
def m2 : FVec F S1x1 .f32 :=
  k0_pay33 rows lanes ms (colMax ms) (best1 ms) (k0_pay26 (best1 ms)) 128#32 (k0_pay27 (best1 ms)) (k0_pay28 (best1 ms)) (k0_pay29 (best1 ms))
/-- The first place, apart from the first pick's, that holds it. -/
def best2 : IVec S1 32 :=
  k0_pay34 rows lanes ms (colMax ms) (colRow ms) (best1 ms) (k0_pay26 (best1 ms)) 128#32 (k0_pay27 (best1 ms)) (k0_pay28 (best1 ms)) (k0_pay29 (best1 ms))
/-- Whether the second pick is above the threshold. -/
def valid2 : IVec S1x1 1 := k0_pay35 (m2 ms)
/-- The second pick's place in the plane. -/
def hot2 : IVec S160x128 1 := k0_pay36 rows lanes (best2 ms)
/-- The second pick's box, coordinate by coordinate. -/
def cx1 : FVec F S1x1 .f32 := k0_pay37 rows lanes p.x1 (best2 ms)
def cy1' : FVec F S1 .f32 := k0_pay38 rows lanes p.y1 (best2 ms)
def cy1 : FVec F S1x1 .f32 := k0_pay39 (cy1' p ms)
def cx2 : FVec F S1x1 .f32 := k0_pay40 p.x2 (hot2 ms)
def cy2 : FVec F S1x1 .f32 := k0_pay41 p.y2 (hot2 ms)
/-- The overlap of every box with the second pick's. -/
def iou2 : FVec F S160x128 .f32 := k0_pay42 p.x1 p.y1 p.x2 p.y2 p.ar (hot2 ms) (cx1 p ms) (cy1' p ms)
/-- The width and the height of the overlap of the two picks' boxes. -/
def pairW : FVec F S1x1 .f32 := k0_pay43 p.x2 (bx1 p ms) (bx2 p ms) (hot2 ms) (cx1 p ms)
def pairH : FVec F S1x1 .f32 := k0_pay44 p.y2 (by1 p ms) (by2 p ms) (hot2 ms) (cy1' p ms)
/-- Whether the second pick is taken in the same sweep. -/
def accept : IVec S1x1 1 :=
  k0_pay45 (bx1 p ms) (by1 p ms) (bx2 p ms) (by2 p ms) (valid2 ms) (cx1 p ms) (cy1 p ms) (cx2 p ms) (cy2 p ms) (pairW p ms) (pairH p ms)
/-- The masked scores after the sweep. -/
def msNext : FVec F S160x128 .f32 :=
  k0_pay46 ms (valid1 ms) (bx1 p ms) (by1 p ms) (bx2 p ms) (by2 p ms) (iou1 p ms) (valid2 ms) (cx1 p ms) (cy1 p ms) (cx2 p ms) (cy2 p ms)
    (iou2 p ms) (pairW p ms) (pairH p ms)
/-- The first pick's row of the result. -/
def row1 : FVec F S1x5 .f32 :=
  k0_pay7 lanes (m1 ms) (by2 p ms) (k0_pay47 (F := F) (valid1 ms)) (k0_pay48 lanes (bx1 p ms) (by1 p ms)) (k0_pay49 lanes)
    (Scalar.ofBits .f32 0x00000000#32) (k0_pay50 (bx2 p ms))
/-- The second pick's row of the result. -/
def row2 : FVec F S1x5 .f32 := k0_pay9 lanes (m2 ms) (valid2 ms) (cx1 p ms) (cy1 p ms) (cx2 p ms) (cy2 p ms)
/-- The word that says whether the second pick is taken. -/
def acceptWord : BitVec 32 := extractAt ![0, 0] (k0_pay8 (accept p ms)) inpos_S1x1_p0_0

end Values

/-! ## The counter -/

theorem off1_eq (j : ℕ) (h : j < 512) : k0_off1 (BitVec.ofNat 32 j) = ![j, 0] := by
  have e : (BitVec.ofNat 32 j).toNat = j := by rw [BitVec.toNat_ofNat]; omega
  funext a; fin_cases a
  · exact e
  · rfl

theorem off2_eq (j : ℕ) (h : j < 512) : k0_off2 (BitVec.ofNat 32 j) = ![j + 1, 0] := by
  have e : (BitVec.ofNat 32 j + 1#32).toNat = j + 1 := by
    rw [BitVec.toNat_add, BitVec.toNat_ofNat]
    show (j % 2 ^ 32 + 1 % 2 ^ 32) % 2 ^ 32 = j + 1
    omega
  funext a; fin_cases a
  · exact e
  · rfl

/-- A row of the result's buffer is inside it. -/
theorem row_inb (j : ℕ) (h : j < 512) : ∀ a, (![j, 0] : Fin 2 → ℕ) a + S1x5.size a ≤ S512x5.size a := by
  intro a; fin_cases a
  · show j + 1 ≤ 512; omega
  · show 0 + 5 ≤ 5; omega

/-- Both picks are taken: the second one is accepted and there is a row left for it. -/
def two (p : Planes F) (ms : FVec F S160x128 .f32) (j : ℕ) : Prop := (acceptWord p ms).slt 1#32 = false ∧ j < 511

instance (p : Planes F) (ms : FVec F S160x128 .f32) (j : ℕ) : Decidable (two p ms j) := by unfold two; infer_instance

theorem slt_lit (j : ℕ) (h : j ≤ 512) (n : ℕ) (hn : n ≤ 512) : Scalar.cmpi .slt (BitVec.ofNat 32 j) (BitVec.ofNat 32 n) = 1#1 ↔ j < n := by
  have e : (BitVec.ofNat 32 j).toInt = (j : ℤ) := by
    rw [BitVec.toInt_eq_toNat_of_lt (by rw [BitVec.toNat_ofNat]; omega), BitVec.toNat_ofNat]; congr 1; omega
  have e' : (BitVec.ofNat 32 n).toInt = (n : ℤ) := by
    rw [BitVec.toInt_eq_toNat_of_lt (by rw [BitVec.toNat_ofNat]; omega), BitVec.toNat_ofNat]; congr 1; omega
  show BitVec.ofBool ((BitVec.ofNat 32 j).slt (BitVec.ofNat 32 n)) = 1#1 ↔ _
  rw [BitVec.slt_eq_decide, e, e']
  by_cases hj : j < n
  · simp [hj]
  · simp [hj]

/-- The loop goes on below 512. -/
theorem test_iff (j : ℕ) (h : j ≤ 512) : Scalar.cmpi .slt (BitVec.ofNat 32 j) 512#32 = 1#1 ↔ j < 512 := slt_lit j h 512 (le_refl _)

theorem both_iff (p : Planes F) (ms : FVec F S160x128 .f32) (j : ℕ) (h : j < 512) :
    Scalar.andi (Scalar.cmpi .sgt (acceptWord p ms) 0#32) (Scalar.cmpi .slt (BitVec.ofNat 32 j) 511#32) = 1#1 ↔ two p ms j := by
  have h1 := slt_lit j (by omega) 511 (by omega)
  have h2 : Scalar.cmpi .sgt (acceptWord p ms) 0#32 = 1#1 ↔ (acceptWord p ms).slt 1#32 = false := by
    generalize acceptWord p ms = w
    show BitVec.ofBool ((0#32).slt w) = 1#1 ↔ _
    rw [BitVec.slt_eq_decide, BitVec.slt_eq_decide]
    have e0 : (0#32).toInt = 0 := by decide
    have e1 : (1#32).toInt = 1 := by decide
    rw [e0, e1]
    by_cases hw : 0 < w.toInt
    · simp [hw]; omega
    · simp [hw]; omega
  unfold two
  rw [← h1, ← h2]
  generalize Scalar.cmpi .sgt (acceptWord p ms) 0#32 = a
  generalize Scalar.cmpi .slt (BitVec.ofNat 32 j) 511#32 = b
  revert a b
  show ∀ a b : BitVec 1, a &&& b = 1#1 ↔ _
  decide

theorem cond_iff (p : Planes F) (ms : FVec F S160x128 .f32) (j : ℕ) (h : j < 512) :
    k0_cond1 (BitVec.ofNat 32 j) (acceptWord p ms) = 1#1 ↔ two p ms j := by
  rw [← both_iff p ms j h]
  show BitVec.ofBool ((Scalar.andi (Scalar.cmpi .sgt (acceptWord p ms) 0#32) (Scalar.cmpi .slt (BitVec.ofNat 32 j) 511#32)).zeroExtend 32 != 0#32) = 1#1 ↔ _
  generalize Scalar.andi (Scalar.cmpi .sgt (acceptWord p ms) 0#32) (Scalar.cmpi .slt (BitVec.ofNat 32 j) 511#32) = a
  revert a; decide

/-- The counter after a sweep. -/
def jNext (p : Planes F) (ms : FVec F S160x128 .f32) (j : ℕ) : ℕ := if two p ms j then j + 2 else j + 1

theorem jNext_eq (p : Planes F) (ms : FVec F S160x128 .f32) (j : ℕ) (h : j < 512) :
    Scalar.addi (Scalar.addi (BitVec.ofNat 32 j) 1#32)
      (Scalar.select (Scalar.andi (Scalar.cmpi .sgt (acceptWord p ms) 0#32) (Scalar.cmpi .slt (BitVec.ofNat 32 j) 511#32)) 1#32 0#32)
      = BitVec.ofNat 32 (jNext p ms j) := by
  have hb := both_iff p ms j h
  unfold jNext
  by_cases ht : two p ms j
  · rw [if_pos ht, hb.mpr ht]
    show BitVec.ofNat 32 j + 1#32 + 1#32 = _
    apply BitVec.eq_of_toNat_eq
    simp only [BitVec.toNat_add, BitVec.toNat_ofNat]; omega
  · rw [if_neg ht]
    have hne : ¬ Scalar.andi (Scalar.cmpi .sgt (acceptWord p ms) 0#32) (Scalar.cmpi .slt (BitVec.ofNat 32 j) 511#32) = 1#1 := fun e => ht (hb.mp e)
    rw [show Scalar.select (Scalar.andi (Scalar.cmpi .sgt (acceptWord p ms) 0#32) (Scalar.cmpi .slt (BitVec.ofNat 32 j) 511#32)) 1#32 0#32 = 0#32 from
      if_neg hne]
    show BitVec.ofNat 32 j + 1#32 + 0#32 = _
    apply BitVec.eq_of_toNat_eq
    simp only [BitVec.toNat_add, BitVec.toNat_ofNat]; omega

theorem jNext_gt (p : Planes F) (ms : FVec F S160x128 .f32) (j : ℕ) : j + 1 ≤ jNext p ms j := by
  unfold jNext; split <;> omega
theorem jNext_le (p : Planes F) (ms : FVec F S160x128 .f32) (j : ℕ) (h : j < 512) : jNext p ms j ≤ 512 := by
  unfold jNext; split
  · next h2 => have := h2.2; omega
  · omega

theorem chk1_of (j : ℕ) (h : j < 512) : k0_chk1 (BitVec.ofNat 32 j) := by
  unfold k0_chk1; rw [off1_eq j h]; exact row_inb j h

theorem chk2_of (p : Planes F) (ms : FVec F S160x128 .f32) (j : ℕ) (h : j < 512) : k0_chk2 (BitVec.ofNat 32 j) (acceptWord p ms) := by
  unfold k0_chk2; intro hc
  have ht := (cond_iff p ms j h).mp hc
  rw [off2_eq j h]; exact row_inb (j + 1) (by have := ht.2; omega)

/-! ## The result's buffer -/

/-- Row `j` of the buffer stored over. -/
def putRow (j : ℕ) (h : j < 512) (f : (cc0_stg6_0 : Ref sig .tc).ty.Contents (Elt F)) (r : FVec F S1x5 .f32) :
    (cc0_stg6_0 : Ref sig .tc).ty.Contents (Elt F) :=
  ((Memref.whole cc0_stg6_0).access (Rect.unit (s := S512x5) ![j, 0] S1x5.size (row_inb j h)) : View sig .tc _ _ _).write (Elt F) f r Finset.univ

/-- What the buffer holds at a place after that. -/
theorem putRow_apply (j : ℕ) (h : j < 512) (f : (cc0_stg6_0 : Ref sig .tc).ty.Contents (Elt F)) (r : FVec F S1x5 .f32) (y : S512x5.Idx) :
    putRow j h f r y = if (y 0).val = j then r (fun a => match a with | 0 => (0 : Fin 1) | 1 => (y 1 : Fin 5)) else f y := by
  have hw := View.read_writes_cons_rows (Val := Elt F) (d := ![512, 5]) (View.whole cc0_stg6_0) f (off := ![j, 0]) (size := ![1, 5]) (o := j) (W := 1)
    (row_inb j h) r [] y rfl rfl rfl
  have hl : (View.whole cc0_stg6_0).read (Elt F) ((View.whole cc0_stg6_0).writes (Elt F) f [⟨Rect.unit (s := S512x5) ![j, 0] S1x5.size (row_inb j h), r⟩])
      = putRow j h f r := by
    rw [View.writes_singleton]; rfl
  rw [show putRow j h f r y = _ from (congrFun hl y).symm]
  refine hw.trans ?_
  by_cases hy : (y 0).val = j
  · rw [if_pos hy, dif_pos ⟨by omega, by omega⟩]
    congr 1
    funext a
    apply Fin.ext
    rw [Rect.unitLocal_val]
    fin_cases a
    · show (y 0).val - j = 0; omega
    · show (y 1).val - 0 = (y 1).val; omega
  · rw [if_neg hy, dif_neg (by omega)]
    rfl

/-- There is a row for the second pick when it is taken. -/
theorem two_lt {p : Planes F} {ms : FVec F S160x128 .f32} {j : ℕ} (h : two p ms j) : j + 1 < 512 := by have := h.2; omega

/-- The rows a sweep stores. -/
def putRows (p : Planes F) (ms : FVec F S160x128 .f32) (j : ℕ) (h : j < 512) (f : (cc0_stg6_0 : Ref sig .tc).ty.Contents (Elt F)) :
    (cc0_stg6_0 : Ref sig .tc).ty.Contents (Elt F) :=
  if h2 : two p ms j then putRow (j + 1) (two_lt h2) (putRow j h f (row1 p ms)) (row2 p ms) else putRow j h f (row1 p ms)

/-- The buffer after at most `k` sweeps from counter `j`. -/
def outFrom (p : Planes F) : ℕ → ℕ → FVec F S160x128 .f32 → (cc0_stg6_0 : Ref sig .tc).ty.Contents (Elt F) → (cc0_stg6_0 : Ref sig .tc).ty.Contents (Elt F)
  | 0, _, _, f => f
  | k + 1, j, ms, f => if h : j < 512 then outFrom p k (jNext p ms j) (msNext p ms) (putRows p ms j h f) else f

/-- Two buffers that agree on the rows below the counter end up equal. -/
theorem outFrom_congr (p : Planes F) (k : ℕ) : ∀ (j : ℕ) (ms : FVec F S160x128 .f32) (f g : (cc0_stg6_0 : Ref sig .tc).ty.Contents (Elt F)),
    512 ≤ j + k → (∀ y : S512x5.Idx, (y 0).val < j → f y = g y) → outFrom p k j ms f = outFrom p k j ms g := by
  induction k with
  | zero => intro j ms f g hk hfg; exact funext fun y => hfg y (lt_of_lt_of_le (y 0).isLt (by show 512 ≤ j; omega))
  | succ k ih =>
    intro j ms f g hk hfg
    unfold outFrom
    by_cases h : j < 512
    · rw [dif_pos h, dif_pos h]
      have hj := jNext_gt p ms j
      refine ih _ _ _ _ (by omega) fun y hy => ?_
      unfold putRows
      unfold jNext at hy
      by_cases h2 : two p ms j
      · rw [dif_pos h2, dif_pos h2]; rw [if_pos h2] at hy
        simp only [putRow_apply]
        by_cases e : (y 0).val = j + 1
        · rw [if_pos e, if_pos e]
        · rw [if_neg e, if_neg e]
          by_cases e' : (y 0).val = j
          · rw [if_pos e', if_pos e']
          · rw [if_neg e', if_neg e']; exact hfg y (by omega)
      · rw [dif_neg h2, dif_neg h2]; rw [if_neg h2] at hy
        simp only [putRow_apply]
        by_cases e' : (y 0).val = j
        · rw [if_pos e', if_pos e']
        · rw [if_neg e', if_neg e']; exact hfg y (by omega)
    · rw [dif_neg h, dif_neg h]
      exact funext fun y => hfg y (lt_of_lt_of_le (y 0).isLt (by show 512 ≤ j; omega))

/-- The result of the whole loop: the buffer after 512 sweeps at most, from a buffer of zeros. -/
def outs (p : Planes F) (ms : FVec F S160x128 .f32) : (cc0_stg6_0 : Ref sig .tc).ty.Contents (Elt F) :=
  outFrom p 512 0 ms (fun _ => Scalar.ofBits .f32 0x00000000#32)

/-- It does not depend on what the buffer held before. -/
theorem outFrom_full (p : Planes F) (ms : FVec F S160x128 .f32) (f : (cc0_stg6_0 : Ref sig .tc).ty.Contents (Elt F)) :
    outFrom p 512 0 ms f = outs p ms :=
  outFrom_congr p 512 0 ms _ _ (by omega) fun _ h => absurd h (Nat.not_lt_zero _)

end Cert.Proof.KI

end
-- ==== Proof.KI.Body.lean ====
/-
  `KernelIdeal`'s pipeline, at any float values: the proof data (each input window's buffer at the block it fetches, the result's at the loop's
  result on them), the label of the kernel's loop met by its body sweep by sweep, and the body obligation. The label is answered at
  "at most `k` sweeps to go from counter `j`": holding the result's buffer at `f` it ends with the buffer at `outFrom … k j ms f`.
-/
module

public import proofs.«01_k».proof.Proof.KI.Sweep
public import proofs.«01_k».proof.Proof.Gen.KernelIdeal.Launch
public import proofs.«01_k».proof.Proof.Gen.KernelIdeal.Points
public import Idealize.ShloMosaic.Lib.Tactic
public import Idealize.ShloMosaic.Lib.Pipeline.Frame

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- The loop's variant: the number of sweeps still allowed. -/
abbrev 𝒱₀ : Variants := Variants.nat

variable (m : (ℓ : Loc nD τ sig) → Buf (Elt F) ℓ)

/-! ## The proof data -/

/-- The host operations before the kernel, function by function. -/
abbrev prefixes : List (List (HloOp τ sig (Elt F))) :=
  [hostOps0, hostOps0_1, hostOps0_2, hostOps0_3, hostOps0_4, hostOps0_5, hostOps0_6, hostOps0_7, hostOps0_8, hostOps0_9, hostOps0_10,
    hostOps0_11, hostOps0_12]

/-- What a core's buffers hold when the kernel starts. -/
def V (c : Dev nD) (b : Ref sig .tc) : Buf (Elt F) ((c : Thread nD τ).loc b) :=
  StableHlo.after (prefixes (F := F)).flatten (fun b => m (c, b)) b

/-- The planes the kernel reads: what the host prepared. -/
def planes (c : Dev nD) : Planes F :=
  ⟨k0_pay1 (V m c main_v3), k0_pay2 (V m c main_v7), k0_pay3 (V m c main_v11), k0_pay4 (V m c main_v15), k0_pay5 (V m c main_v28)⟩
/-- The scores the kernel starts from. -/
def ms0 (c : Dev nD) : FVec F S160x128 .f32 := k0_pay6 (V m c main_v30)

/-- The proof data of the one pipeline on core `c`. -/
def dats (_ : Fin 1) (c : Dev nD) : Dat τ (Elt F) Unit ℕ (UR sig nD τ) ℕ (cfg0 (F := F)) c where
  A w := V m c (Pipeline.arrRef spec0 w)
  after w _ := match w with
    | ⟨0, _⟩ => V m c main_v3
    | ⟨1, _⟩ => V m c main_v7
    | ⟨2, _⟩ => V m c main_v11
    | ⟨3, _⟩ => V m c main_v15
    | ⟨4, _⟩ => V m c main_v28
    | ⟨5, _⟩ => V m c main_v30
    | ⟨6, _⟩ => outs (planes m c) (ms0 m c)
  Φ _ := Pipeline.ΦA spec0 c
  q _ := fullShare
  owed _ := 0

/-! ## The loop's label -/

section Label

variable (c : Dev nD) (p : Planes F)

/-- The label with at most `k` sweeps to go from counter `j` and scores `ms`: it takes the result's buffer at `f` and gives it back
    with the rows of those sweeps stored. -/
def spec (k j : ℕ) (ms : FVec F S160x128 .f32) (f : Buf (Elt F) (((c : Dev nD) : Thread nD τ).loc cc0_stg6_0)) :
    sWPT 𝕄 (BitVec 32 × FVec F S160x128 .f32) := do
  sWPT.consume ((((c : Thread nD τ).loc cc0_stg6_0) ↦{fullShare} f))
  let r ← sWPT.arbitrary
  sWPT.produce ((((c : Thread nD τ).loc cc0_stg6_0) ↦{fullShare} (outFrom p k j ms f : Buf (Elt F) (((c : Dev nD) : Thread nD τ).loc cc0_stg6_0))))
  pure r

theorem spec_apply (k j : ℕ) (ms : FVec F S160x128 .f32) (f : Buf (Elt F) (((c : Dev nD) : Thread nD τ).loc cc0_stg6_0))
    (K : BitVec 32 × FVec F S160x128 .f32 → sProp 𝕄) :
    spec c p k j ms f K
      = iprop((((c : Thread nD τ).loc cc0_stg6_0) ↦{fullShare} f) ∗ ∀ r : BitVec 32 × FVec F S160x128 .f32,
          ((((c : Thread nD τ).loc cc0_stg6_0) ↦{fullShare} (outFrom p k j ms f : Buf (Elt F) (((c : Dev nD) : Thread nD τ).loc cc0_stg6_0))) -∗ K r)) := rfl

/-- The memory operations of a sweep, over the rows it stores, the word that says whether there is a second one, and the scores it
    leaves. -/
def sweepProg (arg7 : BitVec 32) (r1 r2 : FVec F S1x5 .f32) (w : BitVec 32) (ms' : FVec F S160x128 .f32) (p : Planes F) :
    Prog (TpuEff nD τ sig (Elt F) (Λ₀ F) .tc) (BitVec 32 × FVec F S160x128 .f32) := do
  have k0_hw1 : k0_chk1 arg7 := (← Prog.lift (TpuEff.assume (k0_chk1 arg7) (k0_chk1.dec arg7))).down
  let _v371 : Vec F S1x5 .f32 ← Prog.lift (.load (Memref.whole cc0_stg6_0) (Rect.unit (s := S512x5) (k0_off1 arg7) S1x5.size (k0_off1_inb arg7 k0_hw1)).toLoadRect (View.loadsAt_vmem h_S1x5))
  Prog.lift (.store (Memref.whole cc0_stg6_0) (Rect.unit (s := S512x5) (k0_off1 arg7) S1x5.size (k0_off1_inb arg7 k0_hw1)) r1 Finset.univ (View.stores_vmem_bits_univ h_S1x5 rfl) (.inl rfl))
  have k0_hw2 : k0_chk2 arg7 w := (← Prog.lift (TpuEff.assume (k0_chk2 arg7 w) (k0_chk2.dec arg7 w))).down
  if k0_h1 : k0_cond1 arg7 w = 1#1 then do
    let _v424 : Vec F S1x5 .f32 ← Prog.lift (.load (Memref.whole cc0_stg6_0) (Rect.unit (s := S512x5) (k0_off2 arg7) S1x5.size (k0_off2_inb arg7 w k0_hw2 k0_h1)).toLoadRect (View.loadsAt_vmem h_S1x5))
    Prog.lift (.store (Memref.whole cc0_stg6_0) (Rect.unit (s := S512x5) (k0_off2 arg7) S1x5.size (k0_off2_inb arg7 w k0_hw2 k0_h1)) r2 Finset.univ (View.stores_vmem_bits_univ h_S1x5 rfl) (.inl rfl))
    pure ⟨⟩
  else do
    pure ⟨⟩
  Prog.lift (.call (1 : (Λ₀ F).Label) ⟨rows, lanes, p.x1, p.y1, p.x2, p.y2, p.ar, Memref.whole cc0_stg6_0, Memref.isWhole_whole _,
    Scalar.addi (Scalar.addi arg7 1#32) (Scalar.select (Scalar.andi (Scalar.cmpi .sgt w 0#32) (Scalar.cmpi .slt arg7 511#32)) 1#32 0#32), ms'⟩)

/-- The loop's body below 512 is the sweep's memory operations over the sweep's values. -/
theorem loop_eq (arg7 : BitVec 32) (ms : FVec F S160x128 .f32) (p : Planes F) (htest : Scalar.cmpi .slt arg7 512#32 = 1#1) :
    cc0_while1 rows lanes p.x1 p.y1 p.x2 p.y2 p.ar (Memref.whole cc0_stg6_0) (Memref.isWhole_whole _) arg7 ms
      = sweepProg arg7 (row1 p ms) (row2 p ms) (acceptWord p ms) (msNext p ms) p := by
  simp only [cc0_while1_eq_skeleton]; unfold cc0_while1_skel sweepProg
  simp only [htest, ↓reduceIte, k0_part1_eq_skeleton, k0_part2_eq_skeleton, k0_part3_eq_skeleton, k0_part4_eq_skeleton,
    k0_part5_eq_skeleton, k0_part6_eq_skeleton, k0_part7_eq_skeleton, k0_part1_skel, k0_part2_skel, k0_part3_skel, k0_part4_skel,
    k0_part5_skel, k0_part6_skel, k0_part7_skel, Prog.lift, Prog.bind_op, Prog.bind_ret, Prog.pure_eq_ret]
  simp only [row1, row2, acceptWord, msNext, accept, pairW, pairH, iou1, iou2, cx1, cy1, cy1', cx2, cy2, hot2, valid2, best2, m2, by1, bx1, by2, bx2,
    valid1, best1, m1, colRow, colMax]
  rfl

/-- The first store of a sweep is `putRow` at the counter, -/
theorem store1_eq (j : ℕ) (h : j < 512) (hc : ∀ a, (k0_off1 (BitVec.ofNat 32 j)) a + S1x5.size a ≤ S512x5.size a)
    (f : (cc0_stg6_0 : Ref sig .tc).ty.Contents (Elt F)) (r : FVec F S1x5 .f32) :
    ((Memref.whole cc0_stg6_0).access (Rect.unit (s := S512x5) (k0_off1 (BitVec.ofNat 32 j)) S1x5.size hc) : View sig .tc _ _ _).write (Elt F) f r Finset.univ
      = putRow j h f r := by
  revert hc; rw [off1_eq j h]; intro hc; rfl
/-- and the second one at the counter's successor. -/
theorem store2_eq (j : ℕ) (h : j + 1 < 512) (hc : ∀ a, (k0_off2 (BitVec.ofNat 32 j)) a + S1x5.size a ≤ S512x5.size a)
    (f : (cc0_stg6_0 : Ref sig .tc).ty.Contents (Elt F)) (r : FVec F S1x5 .f32) :
    ((Memref.whole cc0_stg6_0).access (Rect.unit (s := S512x5) (k0_off2 (BitVec.ofNat 32 j)) S1x5.size hc) : View sig .tc _ _ _).write (Elt F) f r Finset.univ
      = putRow (j + 1) h f r := by
  revert hc; rw [off2_eq j (by omega)]; intro hc; rfl

/-- The record the label is called with. -/
abbrev args (j : ℕ) (ms : FVec F S160x128 .f32) : Cc0While1 F :=
  ⟨rows, lanes, p.x1, p.y1, p.x2, p.y2, p.ar, Memref.whole cc0_stg6_0, Memref.isWhole_whole _, BitVec.ofNat 32 j, ms⟩

/-- The label's body meets its specification: past 512 it returns; below, it stores the sweep's rows and goes on from the next
    counter, by induction on the sweeps allowed. -/
theorem spec_le (E : Set ℕ) : ∀ k j, 512 ≤ j + k → j ≤ 512 → ∀ ms f K, spec c p k j ms f K
      ⊢ wp frame (wpE (defs₀ (F := F)) 𝒱₀ (c : Thread nD τ) (some k)) E (defs₀ (F := F) .tc 1 (args p j ms)) K := by
  intro k
  induction k with
  | zero =>
    intro j hk hj ms f K
    rw [spec_apply]
    show _ ⊢ wp frame (wpE (defs₀ (F := F)) 𝒱₀ (c : Thread nD τ) (some 0)) E
      (cc0_while1 rows lanes p.x1 p.y1 p.x2 p.y2 p.ar (Memref.whole cc0_stg6_0) (Memref.isWhole_whole _) (BitVec.ofNat 32 j) ms) K
    simp only [cc0_while1_eq_skeleton]; unfold cc0_while1_skel
    have htest : ¬ Scalar.cmpi .slt (BitVec.ofNat 32 j) 512#32 = 1#1 := fun e => by have := (test_iff j hj).mp e; omega
    simp only [htest, ↓reduceIte, Prog.pure_eq_ret]
    iintro ⟨H, Hk⟩
    rw [wp_ret]; imodintro
    iapply Hk
    iexact H
  | succ k ih =>
    intro j hk hj ms f K
    rw [spec_apply]
    show _ ⊢ wp frame (wpE (defs₀ (F := F)) 𝒱₀ (c : Thread nD τ) (some (k + 1))) E
      (cc0_while1 rows lanes p.x1 p.y1 p.x2 p.y2 p.ar (Memref.whole cc0_stg6_0) (Memref.isWhole_whole _) (BitVec.ofNat 32 j) ms) K
    by_cases h : j < 512
    · rw [loop_eq _ ms p ((test_iff j hj).mpr h)]
      have hcall := ih (jNext p ms j) (by have := jNext_gt p ms j; omega) (jNext_le p ms j h) (msNext p ms) (putRows p ms j h f)
      have hout : outFrom p (k + 1) j ms f = outFrom p k (jNext p ms j) (msNext p ms) (putRows p ms j h f) := by rw [outFrom, dif_pos h]
      rw [hout]
      have hjn := jNext_eq p ms j h
      have hcond := cond_iff p ms j h
      have hchk := chk2_of p ms j h
      have hput : putRows p ms j h f = if h2 : two p ms j then putRow (j + 1) (two_lt h2) (putRow j h f (row1 p ms)) (row2 p ms)
          else putRow j h f (row1 p ms) := rfl
      generalize putRows p ms j h f = fo at *
      generalize acceptWord p ms = w at *
      generalize row1 p ms = r1 at *
      generalize row2 p ms = r2 at *
      generalize msNext p ms = ms' at *
      generalize jNext p ms j = j' at *
      unfold sweepProg
      rw [hjn]
      simp only [Prog.lift, Prog.bind_op, Prog.bind_ret, Prog.pure_eq_ret]
      iintro ⟨Ho, Hk⟩
      iapply (wp_assume 𝒱₀ (c : Thread nD τ) (some (k + 1)) E (chk1_of j h))
      iapply (wp_load 𝒱₀ (c : Thread nD τ) (some (k + 1)) E (m := Memref.whole cc0_stg6_0) (Finset.subset_univ _)) $$ Ho; iintro Ho
      iapply (wp_store 𝒱₀ (c : Thread nD τ) (some (k + 1)) E (m := Memref.whole cc0_stg6_0)
        (r := Rect.unit (s := S512x5) (k0_off1 (BitVec.ofNat 32 j)) S1x5.size (k0_off1_inb (BitVec.ofNat 32 j) (chk1_of j h)))
        (Mk := Finset.univ) (Finset.subset_univ _)) $$ Ho; iintro Ho
      rw [store1_eq j h]
      iapply (wp_assume 𝒱₀ (c : Thread nD τ) (some (k + 1)) E hchk)
      by_cases ht : two p ms j
      · rw [dif_pos ht] at hput
        have hc := hcond.mpr ht
        simp only [dif_pos hc, Prog.bind_op, Prog.bind_ret]
        iapply (wp_load 𝒱₀ (c : Thread nD τ) (some (k + 1)) E (m := Memref.whole cc0_stg6_0) (Finset.subset_univ _)) $$ Ho; iintro Ho
        iapply (wp_store 𝒱₀ (c : Thread nD τ) (some (k + 1)) E (m := Memref.whole cc0_stg6_0)
          (r := Rect.unit (s := S512x5) (k0_off2 (BitVec.ofNat 32 j)) S1x5.size (k0_off2_inb (BitVec.ofNat 32 j) w hchk hc))
          (Mk := Finset.univ) (Finset.subset_univ _)) $$ Ho; iintro Ho
        rw [store2_eq j (two_lt ht), ← hput]
        iapply (wp_call_spec 𝒱₀ (c : Thread nD τ) (some (k + 1)) E (spec c p k j' ms' fo) k
          (fun u hu => by cases hu; exact Nat.lt_succ_self k) hcall)
        rw [spec_apply]
        isplitl [Ho]; · iexact Ho
        iintro %r Ho
        rw [wp_ret]; imodintro
        iapply Hk
        iexact Ho
      · rw [dif_neg ht] at hput
        have hc : ¬ k0_cond1 (BitVec.ofNat 32 j) w = 1#1 := fun e => ht (hcond.mp e)
        simp only [dif_neg hc, Prog.bind_op, Prog.bind_ret]
        rw [← hput]
        iapply (wp_call_spec 𝒱₀ (c : Thread nD τ) (some (k + 1)) E (spec c p k j' ms' fo) k
          (fun u hu => by cases hu; exact Nat.lt_succ_self k) hcall)
        rw [spec_apply]
        isplitl [Ho]; · iexact Ho
        iintro %r Ho
        rw [wp_ret]; imodintro
        iapply Hk
        iexact Ho
    · simp only [cc0_while1_eq_skeleton]; unfold cc0_while1_skel
      have htest : ¬ Scalar.cmpi .slt (BitVec.ofNat 32 j) 512#32 = 1#1 := fun e => h ((test_iff j hj).mp e)
      simp only [htest, ↓reduceIte, Prog.pure_eq_ret]
      iintro ⟨H, Hk⟩
      rw [wp_ret]; imodintro
      iapply Hk
      rw [outFrom, dif_neg h]
      iexact H

end Label

/-! ## The body obligation -/

/-- Holding a whole buffer at `X` is its points-to at contents equal to `X`. -/
theorem owns_whole (c : Dev nD) (b : Ref sig .tc) (X : b.ty.Contents (Elt F)) :
    (owns (Ix := Unit) (Name := ℕ) (U := UR sig nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem zero_off : (![0, 0] : Fin 2 → ℕ) = fun _ => 0 := by funext a; fin_cases a <;> rfl

/-- Each window's block is its whole array. -/
theorem read_0 (c : Dev nD) (f : Buf (Elt F) ((c : Thread nD τ).loc main_v3)) : (win0_0.blk t0_0).view.read (Elt F) f = f :=
  Memref.read_access_unit_zero (Elt F) main_v3
    (show (fun a => (win0_0.index t0_0) a * main_v3.ty.shape.size a) = fun _ => 0 from
      funext fun a => by fin_cases a <;> decide) (fun a => by fin_cases a <;> decide) f
theorem read_1 (c : Dev nD) (f : Buf (Elt F) ((c : Thread nD τ).loc main_v7)) : (win0_1.blk t0_0).view.read (Elt F) f = f :=
  Memref.read_access_unit_zero (Elt F) main_v7
    (show (fun a => (win0_1.index t0_0) a * main_v7.ty.shape.size a) = fun _ => 0 from
      funext fun a => by fin_cases a <;> decide) (fun a => by fin_cases a <;> decide) f
theorem read_2 (c : Dev nD) (f : Buf (Elt F) ((c : Thread nD τ).loc main_v11)) : (win0_2.blk t0_0).view.read (Elt F) f = f :=
  Memref.read_access_unit_zero (Elt F) main_v11
    (show (fun a => (win0_2.index t0_0) a * main_v11.ty.shape.size a) = fun _ => 0 from
      funext fun a => by fin_cases a <;> decide) (fun a => by fin_cases a <;> decide) f
theorem read_3 (c : Dev nD) (f : Buf (Elt F) ((c : Thread nD τ).loc main_v15)) : (win0_3.blk t0_0).view.read (Elt F) f = f :=
  Memref.read_access_unit_zero (Elt F) main_v15
    (show (fun a => (win0_3.index t0_0) a * main_v15.ty.shape.size a) = fun _ => 0 from
      funext fun a => by fin_cases a <;> decide) (fun a => by fin_cases a <;> decide) f
theorem read_4 (c : Dev nD) (f : Buf (Elt F) ((c : Thread nD τ).loc main_v28)) : (win0_4.blk t0_0).view.read (Elt F) f = f :=
  Memref.read_access_unit_zero (Elt F) main_v28
    (show (fun a => (win0_4.index t0_0) a * main_v28.ty.shape.size a) = fun _ => 0 from
      funext fun a => by fin_cases a <;> decide) (fun a => by fin_cases a <;> decide) f
theorem read_5 (c : Dev nD) (f : Buf (Elt F) ((c : Thread nD τ).loc main_v30)) : (win0_5.blk t0_0).view.read (Elt F) f = f :=
  Memref.read_access_unit_zero (Elt F) main_v30
    (show (fun a => (win0_5.index t0_0) a * main_v30.ty.shape.size a) = fun _ => 0 from
      funext fun a => by fin_cases a <;> decide) (fun a => by fin_cases a <;> decide) f
theorem read_6 (c : Dev nD) (f : Buf (Elt F) ((c : Thread nD τ).loc main_v31)) : (win0_6.blk t0_0).view.read (Elt F) f = f :=
  Memref.read_access_unit_zero (Elt F) main_v31
    (show (fun a => (win0_6.index t0_0) a * main_v31.ty.shape.size a) = fun _ => 0 from
      funext fun a => by fin_cases a <;> decide) (fun a => by fin_cases a <;> decide) f

/-- What each input's staging buffer holds when the body runs, -/
theorem before_0 (c : Dev nD) (t : Fin (cfg0 (F := F)).N) (d) : (dats m 0 c).before (0 : Fin 7) t d = V m c main_v3 := by
  rw [fin_N0 t]; refine ((dats m 0 c).before_fetched (0 : Fin 7) t0_0 (fetch0_0 (F := F) t0_0) d).trans ?_; unfold Dat.fetched Dat.blockOf; dsimp only [dats]
  exact Eq.trans (b := (win0_0.blk t0_0).view.read (Elt F) (V m c main_v3)) rfl (read_0 (F := F) c (V m c main_v3))
theorem before_1 (c : Dev nD) (t : Fin (cfg0 (F := F)).N) (d) : (dats m 0 c).before (1 : Fin 7) t d = V m c main_v7 := by
  rw [fin_N0 t]; refine ((dats m 0 c).before_fetched (1 : Fin 7) t0_0 (fetch0_1 (F := F) t0_0) d).trans ?_; unfold Dat.fetched Dat.blockOf; dsimp only [dats]
  exact Eq.trans (b := (win0_1.blk t0_0).view.read (Elt F) (V m c main_v7)) rfl (read_1 (F := F) c (V m c main_v7))
theorem before_2 (c : Dev nD) (t : Fin (cfg0 (F := F)).N) (d) : (dats m 0 c).before (2 : Fin 7) t d = V m c main_v11 := by
  rw [fin_N0 t]; refine ((dats m 0 c).before_fetched (2 : Fin 7) t0_0 (fetch0_2 (F := F) t0_0) d).trans ?_; unfold Dat.fetched Dat.blockOf; dsimp only [dats]
  exact Eq.trans (b := (win0_2.blk t0_0).view.read (Elt F) (V m c main_v11)) rfl (read_2 (F := F) c (V m c main_v11))
theorem before_3 (c : Dev nD) (t : Fin (cfg0 (F := F)).N) (d) : (dats m 0 c).before (3 : Fin 7) t d = V m c main_v15 := by
  rw [fin_N0 t]; refine ((dats m 0 c).before_fetched (3 : Fin 7) t0_0 (fetch0_3 (F := F) t0_0) d).trans ?_; unfold Dat.fetched Dat.blockOf; dsimp only [dats]
  exact Eq.trans (b := (win0_3.blk t0_0).view.read (Elt F) (V m c main_v15)) rfl (read_3 (F := F) c (V m c main_v15))
theorem before_4 (c : Dev nD) (t : Fin (cfg0 (F := F)).N) (d) : (dats m 0 c).before (4 : Fin 7) t d = V m c main_v28 := by
  rw [fin_N0 t]; refine ((dats m 0 c).before_fetched (4 : Fin 7) t0_0 (fetch0_4 (F := F) t0_0) d).trans ?_; unfold Dat.fetched Dat.blockOf; dsimp only [dats]
  exact Eq.trans (b := (win0_4.blk t0_0).view.read (Elt F) (V m c main_v28)) rfl (read_4 (F := F) c (V m c main_v28))
theorem before_5 (c : Dev nD) (t : Fin (cfg0 (F := F)).N) (d) : (dats m 0 c).before (5 : Fin 7) t d = V m c main_v30 := by
  rw [fin_N0 t]; refine ((dats m 0 c).before_fetched (5 : Fin 7) t0_0 (fetch0_5 (F := F) t0_0) d).trans ?_; unfold Dat.fetched Dat.blockOf; dsimp only [dats]
  exact Eq.trans (b := (win0_5.blk t0_0).view.read (Elt F) (V m c main_v30)) rfl (read_5 (F := F) c (V m c main_v30))

/-- and what each staging buffer holds after it. -/
theorem after_0 (c : Dev nD) (t : Fin (cfg0 (F := F)).N) : (dats m 0 c).after (0 : Fin 7) t = V m c main_v3 := by dsimp only [dats]
theorem after_1 (c : Dev nD) (t : Fin (cfg0 (F := F)).N) : (dats m 0 c).after (1 : Fin 7) t = V m c main_v7 := by dsimp only [dats]
theorem after_2 (c : Dev nD) (t : Fin (cfg0 (F := F)).N) : (dats m 0 c).after (2 : Fin 7) t = V m c main_v11 := by dsimp only [dats]
theorem after_3 (c : Dev nD) (t : Fin (cfg0 (F := F)).N) : (dats m 0 c).after (3 : Fin 7) t = V m c main_v15 := by dsimp only [dats]
theorem after_4 (c : Dev nD) (t : Fin (cfg0 (F := F)).N) : (dats m 0 c).after (4 : Fin 7) t = V m c main_v28 := by dsimp only [dats]
theorem after_5 (c : Dev nD) (t : Fin (cfg0 (F := F)).N) : (dats m 0 c).after (5 : Fin 7) t = V m c main_v30 := by dsimp only [dats]
theorem after_6 (c : Dev nD) (t : Fin (cfg0 (F := F)).N) : (dats m 0 c).after (6 : Fin 7) t = outs (planes m c) (ms0 m c) := by dsimp only [dats]

/-- The kernel's body on the seven staging buffers: the six planes are read and left as they were, and the result's buffer ends at the
    loop's result on them, whatever it held. -/
theorem body_run (c : Dev nD) (a0 a1 a2 a3 a4 a5 : FVec F S160x128 .f32) (K : PUnit → sProp 𝕄) :
    iprop(stg c cc0_stg0_0 a0 ∗ stg c cc0_stg1_0 a1 ∗ stg c cc0_stg2_0 a2 ∗ stg c cc0_stg3_0 a3 ∗ stg c cc0_stg4_0 a4 ∗ stg c cc0_stg5_0 a5
        ∗ (∃ f : Buf (Elt F) (((c : Dev nD) : Thread nD τ).loc cc0_stg6_0), (((c : Thread nD τ).loc cc0_stg6_0) ↦{fullShare} f))
        ∗ (iprop(stg c cc0_stg0_0 a0 ∗ stg c cc0_stg1_0 a1 ∗ stg c cc0_stg2_0 a2 ∗ stg c cc0_stg3_0 a3 ∗ stg c cc0_stg4_0 a4 ∗ stg c cc0_stg5_0 a5
            ∗ stg c cc0_stg6_0 (outs ⟨k0_pay1 a0, k0_pay2 a1, k0_pay3 a2, k0_pay4 a3, k0_pay5 a4⟩ (k0_pay6 a5))) -∗ K ⟨⟩))
      ⊢ wp frame (wpE (defs₀ (F := F)) 𝒱₀ (c : Thread nD τ) none) Set.univ
          (cc0__nms_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _)) K := by
  simp only [cc0__nms_body_eq_skeleton]; unfold cc0__nms_body_skel
  simp only [Prog.lift, Prog.bind_op, Prog.bind_ret, Prog.pure_eq_ret]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, H6⟩, Hk⟩
  subst e0 e1 e2 e3 e4 e5
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  iapply (wp_load 𝒱₀ (c : Thread nD τ) none Set.univ (m := Memref.whole cc0_stg2_0) (Finset.subset_univ _)) $$ H2; iintro H2
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_stg4_0) (Finset.subset_univ _)) $$ H4; iintro H4
  iapply (wp_load 𝒱₀ (c : Thread nD τ) none Set.univ (m := Memref.whole cc0_stg5_0) (Finset.subset_univ _)) $$ H5; iintro H5
  have r0 : (Memref.whole cc0_stg0_0).view.readAt (Elt F) (Rect.unit (s := S160x128) ![0, 0] S160x128.size inb_S160x128_S160x128_0_0).toLoadRect f0 = f0 :=
    Memref.readAt_unit_zero (Elt F) cc0_stg0_0 zero_off _ f0
  have r1 : (Memref.whole cc0_stg1_0).view.readAt (Elt F) (Rect.unit (s := S160x128) ![0, 0] S160x128.size inb_S160x128_S160x128_0_0).toLoadRect f1 = f1 :=
    Memref.readAt_unit_zero (Elt F) cc0_stg1_0 zero_off _ f1
  have r2 : (Memref.whole cc0_stg2_0).view.readAt (Elt F) (Rect.unit (s := S160x128) ![0, 0] S160x128.size inb_S160x128_S160x128_0_0).toLoadRect f2 = f2 :=
    Memref.readAt_unit_zero (Elt F) cc0_stg2_0 zero_off _ f2
  have r3 : (Memref.whole cc0_stg3_0).view.readAt (Elt F) (Rect.unit (s := S160x128) ![0, 0] S160x128.size inb_S160x128_S160x128_0_0).toLoadRect f3 = f3 :=
    Memref.readAt_unit_zero (Elt F) cc0_stg3_0 zero_off _ f3
  have r4 : (Memref.whole cc0_stg4_0).view.readAt (Elt F) (Rect.unit (s := S160x128) ![0, 0] S160x128.size inb_S160x128_S160x128_0_0).toLoadRect f4 = f4 :=
    Memref.readAt_unit_zero (Elt F) cc0_stg4_0 zero_off _ f4
  have r5 : (Memref.whole cc0_stg5_0).view.readAt (Elt F) (Rect.unit (s := S160x128) ![0, 0] S160x128.size inb_S160x128_S160x128_0_0).toLoadRect f5 = f5 :=
    Memref.readAt_unit_zero (Elt F) cc0_stg5_0 zero_off _ f5
  rw [r0, r1, r2, r3, r4, r5]
  have hT := spec_le (F := F) c ⟨k0_pay1 f0, k0_pay2 f1, k0_pay3 f2, k0_pay4 f3, k0_pay5 f4⟩ Set.univ 512 0 (by omega) (by omega) (k0_pay6 f5) f6
  iapply (wp_call_spec 𝒱₀ (c : Thread nD τ) none Set.univ
    (spec c ⟨k0_pay1 f0, k0_pay2 f1, k0_pay3 f2, k0_pay4 f3, k0_pay5 f4⟩ 512 0 (k0_pay6 f5) f6) 512 (fun u hu => nomatch hu) hT)
  rw [spec_apply]
  isplitl [H6]; · iexact H6
  iintro %r H6
  rw [wp_ret]; imodintro
  iapply Hk
  rw [outFrom_full]
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  isplitl [H5]; · iexists _; isplitr; · (ipureintro; rfl)
                  iexact H5
  iexists _; isplitr; swap; · iexact H6
  ipureintro; rfl

/-- The body obligation of the one pipeline. -/
theorem body_obligation (c : Dev nD) : BodyObligation (dats (F := F) m 0 c) (defs₀ (F := F)) 𝒱₀ () Set.univ := fun t => by
  rw [fin_N0 t]
  rw [bigSep_W0, bigSep_W0]
  sl_whnfR [defs₀, Defs.onTc]
  simp only [before_0, before_1, before_2, before_3, before_4, before_5]
  rw [show (dats m 0 c).Φ t0_0.succ = (dats m 0 c).Φ t0_0.castSucc from rfl,
    show (dats m 0 c).owesAt () t0_0.succ = (dats m 0 c).owesAt () t0_0.castSucc from rfl,
    after_0, after_1, after_2, after_3, after_4, after_5, after_6]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl,
    show stage0_4 0 = Memref.whole cc0_stg4_0 from rfl, show stage0_5 0 = Memref.whole cc0_stg5_0 from rfl,
    show stage0_6 0 = Memref.whole cc0_stg6_0 from rfl]
  simp only [owns_whole]
  iintro ⟨HΦ, Ho, ⟨%d0, H0⟩, ⟨%d1, H1⟩, ⟨%d2, H2⟩, ⟨%d3, H3⟩, ⟨%d4, H4⟩, ⟨%d5, H5⟩, ⟨%d6, %f6, %e6, H6⟩⟩
  iapply (body_run c (V m c main_v3) (V m c main_v7) (V m c main_v11) (V m c main_v15) (V m c main_v28) (V m c main_v30))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

end Cert.Proof.KI

end
-- ==== Proof.KI.Run.lean ====
/-
  `KernelIdeal`'s run, at any float values: from any memory with zero counters every fair execution of @main ends, the arguments as they
  were, every counter at zero, and the result's array at the loop's result on the planes the host prepared (`run_out`).
-/
module

public import proofs.«01_k».proof.Proof.KI.Body
public import Idealize.ShloMosaic.Lib.StableHlo.RunRead
public import Idealize.ShloMosaic.Lib.StableHlo.RunHlo
public import Idealize.ShloMosaic.Lib.Pipeline.Value

@[expose] public section

set_option maxRecDepth 16384

noncomputable section

namespace Cert.Proof.KI

open Cert.KernelIdeal Cert.KernelIdeal.Gen
open Idealize.ShloMosaic
open Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
variable (m : (ℓ : Loc nD τ sig) → Buf (Elt F) ℓ) (ρ : Dev nD → PrngReg)

theorem prefixes_sub : (prefixes (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub⟩

theorem prefixes_fresh : (prefixes (F := F)).Forall fun ops => ops.Forall fun op => op.fresh = ∅ :=
  ⟨StableHlo.forall_fresh_of_map rfl, StableHlo.forall_fresh_of_map rfl, StableHlo.forall_fresh_of_map rfl, StableHlo.forall_fresh_of_map rfl,
    StableHlo.forall_fresh_of_map rfl, StableHlo.forall_fresh_of_map rfl, StableHlo.forall_fresh_of_map rfl, StableHlo.forall_fresh_of_map rfl,
    StableHlo.forall_fresh_of_map rfl, StableHlo.forall_fresh_of_map rfl, StableHlo.forall_fresh_of_map rfl, StableHlo.forall_fresh_of_map rfl,
    StableHlo.forall_fresh_of_map rfl⟩

-- finding the implicit arguments of `θ_run_frame` takes unfolding definitions in a metavariable's type
set_option backward.isDefEq.respectTransparency.types false in
/-- Every fair execution ends with every array of the pipeline at what the proof data says and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m)
    (hmain := Pipeline.hmain_prefixes _ _ _ _ m main prefixes prefixes_sub prefixes_fresh main_chain)
    (hA := fun _ _ => rfl) (hΦ := fun _ _ => rfl)

/-- The host operations write neither argument. -/
theorem V_arg0 (c : Dev nD) : V m c main_arg0 = m ((c : Thread nD τ).loc main_arg0) := by
  show after (hostOps0 ++ hostOps0_1 ++ hostOps0_2 ++ hostOps0_3 ++ hostOps0_4 ++ hostOps0_5 ++ hostOps0_6 ++ hostOps0_7 ++ hostOps0_8
    ++ hostOps0_9 ++ hostOps0_10 ++ hostOps0_11 ++ hostOps0_12) (fun b => m (c, b)) (Proc.devRef .tc main_arg0) = _
  after_reads_simp
theorem V_arg1 (c : Dev nD) : V m c main_arg1 = m ((c : Thread nD τ).loc main_arg1) := by
  show after (hostOps0 ++ hostOps0_1 ++ hostOps0_2 ++ hostOps0_3 ++ hostOps0_4 ++ hostOps0_5 ++ hostOps0_6 ++ hostOps0_7 ++ hostOps0_8
    ++ hostOps0_9 ++ hostOps0_10 ++ hostOps0_11 ++ hostOps0_12) (fun b => m (c, b)) (Proc.devRef .tc main_arg1) = _
  after_reads_simp

/-- The result's array at the end is the loop's result. -/
theorem arrAt_out (c : Dev nD) : (dats m 0 c).arrAt (6 : Fin 7) (cfg0 (F := F)).N = outs (planes m c) (ms0 m c) := by
  have hw : (win0_6.blk t0_0).view.read (Elt F) ((dats m 0 c).arrAt (6 : Fin 7) (cfg0 (F := F)).N) = (dats m 0 c).flushed (6 : Fin 7) t0_0 := by
    have e : (dats m 0 c).arrAt (6 : Fin 7) (cfg0 (F := F)).N = _ :=
      ((dats m 0 c).arrAt_succ (6 : Fin 7) t0_0).trans (if_pos (flush0_6 (F := F) t0_0))
    rw [e]
    exact View.read_write_univ _ _
  have hf : (dats m 0 c).flushed (6 : Fin 7) t0_0 = outs (planes m c) (ms0 m c) := by
    show ((cfg0 (F := F)).win (6 : Fin 7)).cut _ ((dats m 0 c).after (6 : Fin 7) t0_0) = _
    rw [after_6]
    exact funext fun _ => rfl
  exact (read_6 (F := F) c _).symm.trans (hw.trans hf)

/-- The run, read at the result, the arguments and the counters. -/
theorem run_out : θ_run defs (onTc (τ := τ) (main (F := F))) ⟨m, fun _ => 0, ρ⟩ (fun r => (∀ c : Dev nD,
      r.2.mem ((c.tc : Thread nD τ).loc main_v31) = outs (planes m c) (ms0 m c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine θ_run_mono (run_main m ρ) ?_
  rintro r ⟨h, hz⟩
  refine ⟨fun c => ⟨((h c).1 (6 : Fin 7)).trans (arrAt_out m c), ?_, ?_⟩, hz⟩
  · exact ((h c).2 main_arg0 (Pipeline.mem_restRefs_of _ rfl (by decide : ∀ w, (spec0 w).arr.view.ref ≠ main_arg0))).trans (V_arg0 m c)
  · exact ((h c).2 main_arg1 (Pipeline.mem_restRefs_of _ rfl (by decide : ∀ w, (spec0 w).arr.view.ref ≠ main_arg1))).trans (V_arg1 m c)

end Cert.Proof.KI

end
-- ==== Proof.Ref.Ops.lean ====
/- The reference's host operations: @main is one stretch, a counted loop of 512 trips and six stretches; the
   loop's body is twelve stretches. Each stretch is a list here, and the programs are the chains of the lists. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4096

noncomputable section

namespace Cert.Proof.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The operations of @main and of the loop's body, in stretches, and the two programs as chains of them -/

/-- 14 host operations of @main, in order. -/
abbrev hostOps0 : List (HloOp τ sig (Elt F)) :=
  [ StableHlo.nullary main_c (constantI S_ 1 1#1),
    StableHlo.unary main_c main_v0 (broadcastInDim S20000 ![] bcast_S_S20000 : (⟨S_, .i1⟩ : BufTy).Contents (Elt F) → (⟨S20000, .i1⟩ : BufTy).Contents (Elt F)),
    StableHlo.nullary main_c_0 (constantI S_ 32 4294967295#32),
    StableHlo.unary main_c_0 main_v1 (broadcastInDim S512 ![] bcast_S_S512 : (⟨S_, .i32⟩ : BufTy).Contents (Elt F) → (⟨S512, .i32⟩ : BufTy).Contents (Elt F)),
    StableHlo.nullary main_cst (constant S_ .f32 0xF149F2CA#32),
    StableHlo.nullary main_c_1 (constantI S_ 32 0#32),
    StableHlo.nullary main_c_2 (constantI S_ 32 0#32),
    StableHlo.unary main_arg1 main_v2_0 id,
    StableHlo.unary main_cst main_v2_1 id,
    StableHlo.unary main_arg0 main_v2_2 id,
    StableHlo.unary main_c_2 main_v2_3 id,
    StableHlo.unary main_c_1 main_v2_4 id,
    StableHlo.unary main_v0 main_v2_5 id,
    StableHlo.unary main_v1 main_v2_6 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 4 host operations of @main, in order. -/
abbrev hostOps0_1 : List (HloOp τ sig (Elt F)) :=
  [ StableHlo.nullary main_c_3 (constantI S_ 32 0#32),
    StableHlo.unary main_c_3 main_v3 (broadcastInDim S512 ![] bcast_S_S512 : (⟨S_, .i32⟩ : BufTy).Contents (Elt F) → (⟨S512, .i32⟩ : BufTy).Contents (Elt F)),
    StableHlo.binary main_v2_6 main_v3 main_v4 (cmpi .sge : (⟨S512, .i32⟩ : BufTy).Contents (Elt F) → (⟨S512, .i32⟩ : BufTy).Contents (Elt F) → (⟨S512, .i1⟩ : BufTy).Contents (Elt F)),
    StableHlo.nullary main_c_4 (constantI S_ 32 0#32) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 3 host operations of @_where_2 (main_call6), in order. -/
abbrev hostOps0_2 : List (HloOp τ sig (Elt F)) :=
  [ StableHlo.TRef.unary (.of main_c_4 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S512, .i32⟩) (broadcastInDim S512 ![] bcast_S_S512),
    StableHlo.TRef.ternary (.of main_v4 : StableHlo.TRef sig ⟨S512, .i1⟩) (.of main_v2_6 : StableHlo.TRef sig ⟨S512, .i32⟩) (.of main_call6_v1 : StableHlo.TRef sig ⟨S512, .i32⟩) (.of main_v5 : StableHlo.TRef sig ⟨S512, .i32⟩) select ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.unary_bufs_sub .., StableHlo.unary_bufs_sub .., StableHlo.ternary_bufs_sub ..⟩
/-- 23 host operations of @_take (main_call7), in order. -/
abbrev hostOps0_3 : List (HloOp τ sig (Elt F)) :=
  [ StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S512, .i32⟩) (broadcastInDim S512 ![] bcast_S_S512),
    StableHlo.TRef.binary (.of main_v5 : StableHlo.TRef sig ⟨S512, .i32⟩) (.of main_call7_v0 : StableHlo.TRef sig ⟨S512, .i32⟩) (.of main_call7_v1 : StableHlo.TRef sig ⟨S512, .i1⟩) (cmpi .slt),
    StableHlo.TRef.nullary (.of main_call7_c_0 : StableHlo.TRef sig ⟨S_, .i32⟩) (constantI S_ 32 20000#32),
    StableHlo.TRef.unary (.of main_call7_c_0 : StableHlo.TRef sig ⟨S_, .i32⟩) (.of main_call7_v2 : StableHlo.TRef sig ⟨S512, .i32⟩) (broadcastInDim S512 ![] bcast_S_S512),
    StableHlo.TRef.binary (.of main_v5 : StableHlo.TRef sig ⟨S512, .i32⟩) (.of main_call7_v2 : StableHlo.TRef sig ⟨S512, .i32⟩) (.of main_call7_v3 : StableHlo.TRef sig ⟨S512, .i32⟩) addi,
    StableHlo.TRef.ternary (.of main_call7_v1 : StableHlo.TRef sig ⟨S512, .i1⟩) (.of main_call7_v3 : StableHlo.TRef sig ⟨S512, .i32⟩) (.of main_v5 : StableHlo.TRef sig ⟨S512, .i32⟩) (.of main_call7_v4 : StableHlo.TRef sig ⟨S512, .i32⟩) select,
    StableHlo.TRef.unary main_call7_call0.v0 (.of main_call7_v5 : StableHlo.TRef sig ⟨S512x1, .i32⟩) (broadcastInDim S512x1 ![0] bcast_S512_S512x1_0),
    StableHlo.TRef.nullary (.of main_call7_c_1 : StableHlo.TRef sig ⟨S1, .i32⟩) (constantI S1 32 19999#32),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v6 : StableHlo.TRef sig ⟨S512x1, .i32⟩) (broadcastInDim S512x1 ![] bcast_S_S512x1),
    StableHlo.TRef.binary (.of main_call7_v5 : StableHlo.TRef sig ⟨S512x1, .i32⟩) (.of main_call7_v6 : StableHlo.TRef sig ⟨S512x1, .i32⟩) (.of main_call7_v7 : StableHlo.TRef sig ⟨S512x1, .i1⟩) (cmpi .sge),
    StableHlo.TRef.unary (.of main_call7_c_1 : StableHlo.TRef sig ⟨S1, .i32⟩) (.of main_call7_v8 : StableHlo.TRef sig ⟨S1x1, .i32⟩) (broadcastInDim S1x1 ![1] bcast_S1_S1x1_1),
    StableHlo.TRef.unary (.of main_call7_v8 : StableHlo.TRef sig ⟨S1x1, .i32⟩) (.of main_call7_v9 : StableHlo.TRef sig ⟨S512x1, .i32⟩) (broadcastInDim S512x1 ![0, 1] bcast_S1x1_S512x1_0_1),
    StableHlo.TRef.binary (.of main_call7_v5 : StableHlo.TRef sig ⟨S512x1, .i32⟩) (.of main_call7_v9 : StableHlo.TRef sig ⟨S512x1, .i32⟩) (.of main_call7_v10 : StableHlo.TRef sig ⟨S512x1, .i1⟩) (cmpi .sle),
    StableHlo.TRef.binary (.of main_call7_v7 : StableHlo.TRef sig ⟨S512x1, .i1⟩) (.of main_call7_v10 : StableHlo.TRef sig ⟨S512x1, .i1⟩) (.of main_call7_v11 : StableHlo.TRef sig ⟨S512x1, .i1⟩) andi,
    StableHlo.TRef.nullary (.of main_call7_c_3 : StableHlo.TRef sig ⟨S_, .i1⟩) (constantI S_ 1 1#1),
    StableHlo.TRef.binary (.of main_call7_v11 : StableHlo.TRef sig ⟨S512x1, .i1⟩) (.of main_call7_c_3 : StableHlo.TRef sig ⟨S_, .i1⟩) (.of main_call7_v12 : StableHlo.TRef sig ⟨S512, .i1⟩) (fun x v => Host.reduce IntOp.andi x v reducesTo_S512x1_S512_d1 h_S_),
    StableHlo.TRef.binary (.of main_arg0 : StableHlo.TRef sig ⟨S20000x4, .f32⟩) (.of main_call7_v5 : StableHlo.TRef sig ⟨S512x1, .i32⟩) (.of main_call7_v13 : StableHlo.TRef sig ⟨S512x4, .f32⟩) (fun x i => Host.gather gather_S20000x4_S512x1_S512x4_1_0_n_n_0_1_14 x i),
    StableHlo.TRef.unary (.of main_call7_v12 : StableHlo.TRef sig ⟨S512, .i1⟩) (.of main_call7_v14 : StableHlo.TRef sig ⟨S512x4, .i1⟩) (broadcastInDim S512x4 ![0] bcast_S512_S512x4_0),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v15 : StableHlo.TRef sig ⟨S512x4, .f32⟩) (broadcastInDim S512x4 ![] bcast_S_S512x4),
    StableHlo.TRef.ternary (.of main_call7_v14 : StableHlo.TRef sig ⟨S512x4, .i1⟩) (.of main_call7_v13 : StableHlo.TRef sig ⟨S512x4, .f32⟩) (.of main_call7_v15 : StableHlo.TRef sig ⟨S512x4, .f32⟩) (.of main_v6 : StableHlo.TRef sig ⟨S512x4, .f32⟩) select ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 4 host operations of @main, in order. -/
abbrev hostOps0_4 : List (HloOp τ sig (Elt F)) :=
  [ StableHlo.unary main_v4 main_v7 (broadcastInDim S512x1 ![0] bcast_S512_S512x1_0 : (⟨S512, .i1⟩ : BufTy).Contents (Elt F) → (⟨S512x1, .i1⟩ : BufTy).Contents (Elt F)),
    StableHlo.unary main_v7 main_v8 (uitofp .f32 : (⟨S512x1, .i1⟩ : BufTy).Contents (Elt F) → (⟨S512x1, .f32⟩ : BufTy).Contents (Elt F)),
    StableHlo.unary main_v8 main_v9 (broadcastInDim S512x4 ![0, 1] bcast_S512x1_S512x4_0_1 : (⟨S512x1, .f32⟩ : BufTy).Contents (Elt F) → (⟨S512x4, .f32⟩ : BufTy).Contents (Elt F)),
    StableHlo.binary main_v6 main_v9 main_v10 (mulf : (⟨S512x4, .f32⟩ : BufTy).Contents (Elt F) → (⟨S512x4, .f32⟩ : BufTy).Contents (Elt F) → (⟨S512x4, .f32⟩ : BufTy).Contents (Elt F)) ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub ..⟩
/-- 22 host operations of @_take_4 (main_call8), in order. -/
abbrev hostOps0_5 : List (HloOp τ sig (Elt F)) :=
  [ StableHlo.TRef.nullary (.of main_call8_c : StableHlo.TRef sig ⟨S_, .i32⟩) (constantI S_ 32 0#32),
    StableHlo.TRef.unary (.of main_call8_c : StableHlo.TRef sig ⟨S_, .i32⟩) (.of main_call8_v0 : StableHlo.TRef sig ⟨S512, .i32⟩) (broadcastInDim S512 ![] bcast_S_S512),
    StableHlo.TRef.binary (.of main_v5 : StableHlo.TRef sig ⟨S512, .i32⟩) (.of main_call8_v0 : StableHlo.TRef sig ⟨S512, .i32⟩) (.of main_call8_v1 : StableHlo.TRef sig ⟨S512, .i1⟩) (cmpi .slt),
    StableHlo.TRef.nullary (.of main_call8_c_0 : StableHlo.TRef sig ⟨S_, .i32⟩) (constantI S_ 32 20000#32),
    StableHlo.TRef.unary (.of main_call8_c_0 : StableHlo.TRef sig ⟨S_, .i32⟩) (.of main_call8_v2 : StableHlo.TRef sig ⟨S512, .i32⟩) (broadcastInDim S512 ![] bcast_S_S512),
    StableHlo.TRef.binary (.of main_v5 : StableHlo.TRef sig ⟨S512, .i32⟩) (.of main_call8_v2 : StableHlo.TRef sig ⟨S512, .i32⟩) (.of main_call8_v3 : StableHlo.TRef sig ⟨S512, .i32⟩) addi,
    StableHlo.TRef.ternary (.of main_call8_v1 : StableHlo.TRef sig ⟨S512, .i1⟩) (.of main_call8_v3 : StableHlo.TRef sig ⟨S512, .i32⟩) (.of main_v5 : StableHlo.TRef sig ⟨S512, .i32⟩) (.of main_call8_v4 : StableHlo.TRef sig ⟨S512, .i32⟩) select,
    StableHlo.TRef.unary main_call8_call0.v0 (.of main_call8_v5 : StableHlo.TRef sig ⟨S512x1, .i32⟩) (broadcastInDim S512x1 ![0] bcast_S512_S512x1_0),
    StableHlo.TRef.nullary (.of main_call8_c_1 : StableHlo.TRef sig ⟨S1, .i32⟩) (constantI S1 32 19999#32),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v6 : StableHlo.TRef sig ⟨S512x1, .i32⟩) (broadcastInDim S512x1 ![] bcast_S_S512x1),
    StableHlo.TRef.binary (.of main_call8_v5 : StableHlo.TRef sig ⟨S512x1, .i32⟩) (.of main_call8_v6 : StableHlo.TRef sig ⟨S512x1, .i32⟩) (.of main_call8_v7 : StableHlo.TRef sig ⟨S512x1, .i1⟩) (cmpi .sge),
    StableHlo.TRef.unary (.of main_call8_c_1 : StableHlo.TRef sig ⟨S1, .i32⟩) (.of main_call8_v8 : StableHlo.TRef sig ⟨S1x1, .i32⟩) (broadcastInDim S1x1 ![1] bcast_S1_S1x1_1),
    StableHlo.TRef.unary (.of main_call8_v8 : StableHlo.TRef sig ⟨S1x1, .i32⟩) (.of main_call8_v9 : StableHlo.TRef sig ⟨S512x1, .i32⟩) (broadcastInDim S512x1 ![0, 1] bcast_S1x1_S512x1_0_1),
    StableHlo.TRef.binary (.of main_call8_v5 : StableHlo.TRef sig ⟨S512x1, .i32⟩) (.of main_call8_v9 : StableHlo.TRef sig ⟨S512x1, .i32⟩) (.of main_call8_v10 : StableHlo.TRef sig ⟨S512x1, .i1⟩) (cmpi .sle),
    StableHlo.TRef.binary (.of main_call8_v7 : StableHlo.TRef sig ⟨S512x1, .i1⟩) (.of main_call8_v10 : StableHlo.TRef sig ⟨S512x1, .i1⟩) (.of main_call8_v11 : StableHlo.TRef sig ⟨S512x1, .i1⟩) andi,
    StableHlo.TRef.nullary (.of main_call8_c_3 : StableHlo.TRef sig ⟨S_, .i1⟩) (constantI S_ 1 1#1),
    StableHlo.TRef.binary (.of main_call8_v11 : StableHlo.TRef sig ⟨S512x1, .i1⟩) (.of main_call8_c_3 : StableHlo.TRef sig ⟨S_, .i1⟩) (.of main_call8_v12 : StableHlo.TRef sig ⟨S512, .i1⟩) (fun x v => Host.reduce IntOp.andi x v reducesTo_S512x1_S512_d1 h_S_),
    StableHlo.TRef.binary (.of main_arg1 : StableHlo.TRef sig ⟨S20000, .f32⟩) (.of main_call8_v5 : StableHlo.TRef sig ⟨S512x1, .i32⟩) (.of main_call8_v13 : StableHlo.TRef sig ⟨S512, .f32⟩) (fun x i => Host.gather gather_S20000_S512x1_S512_n_0_n_n_0_1_1 x i),
    StableHlo.TRef.nullary (.of main_call8_cst : StableHlo.TRef sig ⟨S_, .f32⟩) (constant S_ .f32 0x7FC00000#32),
    StableHlo.TRef.unary (.of main_call8_cst : StableHlo.TRef sig ⟨S_, .f32⟩) (.of main_call8_v14 : StableHlo.TRef sig ⟨S512, .f32⟩) (broadcastInDim S512 ![] bcast_S_S512),
    StableHlo.TRef.ternary (.of main_call8_v12 : StableHlo.TRef sig ⟨S512, .i1⟩) (.of main_call8_v13 : StableHlo.TRef sig ⟨S512, .f32⟩) (.of main_call8_v14 : StableHlo.TRef sig ⟨S512, .f32⟩) (.of main_v11 : StableHlo.TRef sig ⟨S512, .f32⟩) select ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 4 host operations of @main, in order. -/
abbrev hostOps0_6 : List (HloOp τ sig (Elt F)) :=
  [ StableHlo.unary main_v4 main_v12 (uitofp .f32 : (⟨S512, .i1⟩ : BufTy).Contents (Elt F) → (⟨S512, .f32⟩ : BufTy).Contents (Elt F)),
    StableHlo.binary main_v11 main_v12 main_v13 (mulf : (⟨S512, .f32⟩ : BufTy).Contents (Elt F) → (⟨S512, .f32⟩ : BufTy).Contents (Elt F) → (⟨S512, .f32⟩ : BufTy).Contents (Elt F)),
    StableHlo.unary main_v13 main_v14 (broadcastInDim S512x1 ![0] bcast_S512_S512x1_0 : (⟨S512, .f32⟩ : BufTy).Contents (Elt F) → (⟨S512x1, .f32⟩ : BufTy).Contents (Elt F)),
    StableHlo.binary main_v10 main_v14 main_v15 ((fun a b => concatenate S512x5 1 [⟨S512x4, a⟩, ⟨S512x1, b⟩] concatenates_S512x4_S512x1_S512x5_d1) : (⟨S512x4, .f32⟩ : BufTy).Contents (Elt F) → (⟨S512x1, .f32⟩ : BufTy).Contents (Elt F) → (⟨S512x5, .f32⟩ : BufTy).Contents (Elt F)) ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, Pipeline.chain_cons, StableHlo.chain_seq_cons, Pipeline.chain_cons, StableHlo.chain_seq_cons]
  chain_rfl

/-- 2 host operations of host loop 0's body region, in order. -/
abbrev while0Ops0 : List (HloOp τ sig (Elt F)) :=
  [ StableHlo.nullary main_while0b_c_11 (constantI S_ 32 1#32),
    StableHlo.binary main_v2_4 main_while0b_c_11 main_while0b_v16 (addi : (⟨S_, .i32⟩ : BufTy).Contents (Elt F) → (⟨S_, .i32⟩ : BufTy).Contents (Elt F) → (⟨S_, .i32⟩ : BufTy).Contents (Elt F)) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.binary_bufs_sub ..⟩
/-- 2 host operations of @_where (main_while0b_call0), in order. -/
abbrev while0Ops0_1 : List (HloOp τ sig (Elt F)) :=
  [ StableHlo.TRef.unary (.of main_v2_1 : StableHlo.TRef sig ⟨S_, .f32⟩) (.of main_while0b_call0_v0 : StableHlo.TRef sig ⟨S20000, .f32⟩) (broadcastInDim S20000 ![] bcast_S_S20000),
    StableHlo.TRef.ternary (.of main_v2_5 : StableHlo.TRef sig ⟨S20000, .i1⟩) (.of main_v2_0 : StableHlo.TRef sig ⟨S20000, .f32⟩) (.of main_while0b_call0_v0 : StableHlo.TRef sig ⟨S20000, .f32⟩) (.of main_while0b_v17 : StableHlo.TRef sig ⟨S20000, .f32⟩) select ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.ternary_bufs_sub ..⟩
/-- 5 host operations of @argmax (main_while0b_call1), in order. -/
abbrev while0Ops0_2 : List (HloOp τ sig (Elt F)) :=
  [ StableHlo.TRef.nullary (.of main_while0b_call1_v0 : StableHlo.TRef sig ⟨S20000, .i32⟩) (iotaInDim S20000 32 0),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v17 : StableHlo.TRef sig ⟨S20000, .f32⟩) (.of main_while0b_call1_v0 : StableHlo.TRef sig ⟨S20000, .i32⟩) (.of main_while0b_call1_cst : StableHlo.TRef sig ⟨S_, .f32⟩) (.of main_while0b_call1_c : StableHlo.TRef sig ⟨S_, .i32⟩) (.of main_while0b_call1_v1_0 : StableHlo.TRef sig ⟨S_, .f32⟩) (fun x y u v j => (Host.argReduce reducer_argmax_f32_i32 x y u v reducesTo_S20000_S_d0 h_S_ j).1),
    StableHlo.TRef.quaternary (.of main_while0b_v17 : StableHlo.TRef sig ⟨S20000, .f32⟩) (.of main_while0b_call1_v0 : StableHlo.TRef sig ⟨S20000, .i32⟩) (.of main_while0b_call1_cst : StableHlo.TRef sig ⟨S_, .f32⟩) (.of main_while0b_call1_c : StableHlo.TRef sig ⟨S_, .i32⟩) (.of main_while0b_v18 : StableHlo.TRef sig ⟨S_, .i32⟩) (fun x y u v j => (Host.argReduce reducer_argmax_f32_i32 x y u v reducesTo_S20000_S_d0 h_S_ j).2) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 51 host operations of host loop 0's body region, in order. -/
abbrev while0Ops0_3 : List (HloOp τ sig (Elt F)) :=
  ( StableHlo.nullary main_while0b_c_12 (constantI S_ 32 0#32)
  :: StableHlo.binary main_while0b_v18 main_while0b_c_12 main_while0b_v19 (cmpi .slt : (⟨S_, .i32⟩ : BufTy).Contents (Elt F) → (⟨S_, .i32⟩ : BufTy).Contents (Elt F) → (⟨S_, .i1⟩ : BufTy).Contents (Elt F))
  :: StableHlo.nullary main_while0b_c_13 (constantI S_ 32 20000#32)
  :: StableHlo.binary main_while0b_v18 main_while0b_c_13 main_while0b_v20 (addi : (⟨S_, .i32⟩ : BufTy).Contents (Elt F) → (⟨S_, .i32⟩ : BufTy).Contents (Elt F) → (⟨S_, .i32⟩ : BufTy).Contents (Elt F))
  :: StableHlo.ternary main_while0b_v19 main_while0b_v20 main_while0b_v18 main_while0b_v21 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_while0b_v17 ![main_while0b_v21] ⟨S_, .i32⟩ main_while0b_v22 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F))
  :: StableHlo.reshape main_while0b_v22 main_while0b_v23 (rfl : (.f32 : EltTy) = .f32) shapeCasts_S1_S_
  :: StableHlo.nullary main_while0b_cst_14 (constant S_ .f32 0x40000000#32)
  :: StableHlo.binary main_v2_1 main_while0b_cst_14 main_while0b_v24 (Host.divf : (⟨S_, .f32⟩ : BufTy).Contents (Elt F) → (⟨S_, .f32⟩ : BufTy).Contents (Elt F) → (⟨S_, .f32⟩ : BufTy).Contents (Elt F))
  :: StableHlo.binary main_while0b_v23 main_while0b_v24 main_while0b_v25 (cmpf .ogt : (⟨S_, .f32⟩ : BufTy).Contents (Elt F) → (⟨S_, .f32⟩ : BufTy).Contents (Elt F) → (⟨S_, .i1⟩ : BufTy).Contents (Elt F))
  :: StableHlo.nullary main_while0b_c_15 (constantI S_ 32 0#32)
  :: StableHlo.binary main_while0b_v18 main_while0b_c_15 main_while0b_v26 (cmpi .slt : (⟨S_, .i32⟩ : BufTy).Contents (Elt F) → (⟨S_, .i32⟩ : BufTy).Contents (Elt F) → (⟨S_, .i1⟩ : BufTy).Contents (Elt F))
  :: StableHlo.nullary main_while0b_c_16 (constantI S_ 32 20000#32)
  :: StableHlo.binary main_while0b_v18 main_while0b_c_16 main_while0b_v27 (addi : (⟨S_, .i32⟩ : BufTy).Contents (Elt F) → (⟨S_, .i32⟩ : BufTy).Contents (Elt F) → (⟨S_, .i32⟩ : BufTy).Contents (Elt F))
  :: StableHlo.ternary main_while0b_v26 main_while0b_v27 main_while0b_v18 main_while0b_v28 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_17 (constantI S_ 32 0#32)
  :: StableHlo.nullary main_while0b_c_18 (constantI S_ 32 0#32)
  :: StableHlo.binary main_while0b_c_17 main_while0b_c_18 main_while0b_v29 (cmpi .slt : (⟨S_, .i32⟩ : BufTy).Contents (Elt F) → (⟨S_, .i32⟩ : BufTy).Contents (Elt F) → (⟨S_, .i1⟩ : BufTy).Contents (Elt F))
  :: StableHlo.nullary main_while0b_c_19 (constantI S_ 32 0#32)
  :: StableHlo.nullary main_while0b_c_20 (constantI S_ 32 4#32)
  :: StableHlo.binary main_while0b_c_19 main_while0b_c_20 main_while0b_v30 (addi : (⟨S_, .i32⟩ : BufTy).Contents (Elt F) → (⟨S_, .i32⟩ : BufTy).Contents (Elt F) → (⟨S_, .i32⟩ : BufTy).Contents (Elt F))
  :: StableHlo.nullary main_while0b_c_21 (constantI S_ 32 0#32)
  :: StableHlo.ternary main_while0b_v29 main_while0b_v30 main_while0b_c_21 main_while0b_v31 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v2_2 ![main_while0b_v28, main_while0b_v31] ⟨S_, .i32⟩ main_while0b_v32 ((fun x i => Host.dynamicSlice S1x4 x (fun k => (i k (Shape.Idx.first h_S_)).toInt) sliceFits_S20000x4_S1x4) : (⟨S20000x4, .f32⟩ : BufTy).Contents (Elt F) → (Fin 2 → (⟨S_, .i32⟩ : BufTy).Contents (Elt F)) → (⟨S1x4, .f32⟩ : BufTy).Contents (Elt F))
  :: StableHlo.reshape main_while0b_v32 main_while0b_v33 (rfl : (.f32 : EltTy) = .f32) shapeCasts_S1x4_S4
  :: StableHlo.unary main_while0b_v33 main_while0b_v34 ((extractStridedSlice S1 ![0] · slices_S4_S1_0) : (⟨S4, .f32⟩ : BufTy).Contents (Elt F) → (⟨S1, .f32⟩ : BufTy).Contents (Elt F))
  :: StableHlo.reshape main_while0b_v34 main_while0b_v35 (rfl : (.f32 : EltTy) = .f32) shapeCasts_S1_S_
  :: StableHlo.unary main_v2_2 main_while0b_v36 ((extractStridedSlice S20000x1 ![0, 0] · slices_S20000x4_S20000x1_0_0) : (⟨S20000x4, .f32⟩ : BufTy).Contents (Elt F) → (⟨S20000x1, .f32⟩ : BufTy).Contents (Elt F))
  :: StableHlo.reshape main_while0b_v36 main_while0b_v37 (rfl : (.f32 : EltTy) = .f32) shapeCasts_S20000x1_S20000
  :: StableHlo.unary main_while0b_v35 main_while0b_v38 (broadcastInDim S20000 ![] bcast_S_S20000 : (⟨S_, .f32⟩ : BufTy).Contents (Elt F) → (⟨S20000, .f32⟩ : BufTy).Contents (Elt F))
  :: StableHlo.binary main_while0b_v38 main_while0b_v37 main_while0b_v39 (maximumf : (⟨S20000, .f32⟩ : BufTy).Contents (Elt F) → (⟨S20000, .f32⟩ : BufTy).Contents (Elt F) → (⟨S20000, .f32⟩ : BufTy).Contents (Elt F))
  :: StableHlo.unary main_while0b_v33 main_while0b_v40 ((extractStridedSlice S1 ![1] · slices_S4_S1_1) : (⟨S4, .f32⟩ : BufTy).Contents (Elt F) → (⟨S1, .f32⟩ : BufTy).Contents (Elt F))
  :: StableHlo.reshape main_while0b_v40 main_while0b_v41 (rfl : (.f32 : EltTy) = .f32) shapeCasts_S1_S_
  :: StableHlo.unary main_v2_2 main_while0b_v42 ((extractStridedSlice S20000x1 ![0, 1] · slices_S20000x4_S20000x1_0_1) : (⟨S20000x4, .f32⟩ : BufTy).Contents (Elt F) → (⟨S20000x1, .f32⟩ : BufTy).Contents (Elt F))
  :: StableHlo.reshape main_while0b_v42 main_while0b_v43 (rfl : (.f32 : EltTy) = .f32) shapeCasts_S20000x1_S20000
  :: StableHlo.unary main_while0b_v41 main_while0b_v44 (broadcastInDim S20000 ![] bcast_S_S20000 : (⟨S_, .f32⟩ : BufTy).Contents (Elt F) → (⟨S20000, .f32⟩ : BufTy).Contents (Elt F))
  :: StableHlo.binary main_while0b_v44 main_while0b_v43 main_while0b_v45 (maximumf : (⟨S20000, .f32⟩ : BufTy).Contents (Elt F) → (⟨S20000, .f32⟩ : BufTy).Contents (Elt F) → (⟨S20000, .f32⟩ : BufTy).Contents (Elt F))
  :: StableHlo.unary main_while0b_v33 main_while0b_v46 ((extractStridedSlice S1 ![2] · slices_S4_S1_2) : (⟨S4, .f32⟩ : BufTy).Contents (Elt F) → (⟨S1, .f32⟩ : BufTy).Contents (Elt F))
  :: StableHlo.reshape main_while0b_v46 main_while0b_v47 (rfl : (.f32 : EltTy) = .f32) shapeCasts_S1_S_
  :: StableHlo.unary main_v2_2 main_while0b_v48 ((extractStridedSlice S20000x1 ![0, 2] · slices_S20000x4_S20000x1_0_2) : (⟨S20000x4, .f32⟩ : BufTy).Contents (Elt F) → (⟨S20000x1, .f32⟩ : BufTy).Contents (Elt F))
  :: StableHlo.reshape main_while0b_v48 main_while0b_v49 (rfl : (.f32 : EltTy) = .f32) shapeCasts_S20000x1_S20000
  :: StableHlo.unary main_while0b_v47 main_while0b_v50 (broadcastInDim S20000 ![] bcast_S_S20000 : (⟨S_, .f32⟩ : BufTy).Contents (Elt F) → (⟨S20000, .f32⟩ : BufTy).Contents (Elt F))
  :: StableHlo.binary main_while0b_v50 main_while0b_v49 main_while0b_v51 (minimumf : (⟨S20000, .f32⟩ : BufTy).Contents (Elt F) → (⟨S20000, .f32⟩ : BufTy).Contents (Elt F) → (⟨S20000, .f32⟩ : BufTy).Contents (Elt F))
  :: StableHlo.unary main_while0b_v33 main_while0b_v52 ((extractStridedSlice S1 ![3] · slices_S4_S1_3) : (⟨S4, .f32⟩ : BufTy).Contents (Elt F) → (⟨S1, .f32⟩ : BufTy).Contents (Elt F))
  :: StableHlo.reshape main_while0b_v52 main_while0b_v53 (rfl : (.f32 : EltTy) = .f32) shapeCasts_S1_S_
  :: StableHlo.unary main_v2_2 main_while0b_v54 ((extractStridedSlice S20000x1 ![0, 3] · slices_S20000x4_S20000x1_0_3) : (⟨S20000x4, .f32⟩ : BufTy).Contents (Elt F) → (⟨S20000x1, .f32⟩ : BufTy).Contents (Elt F))
  :: StableHlo.reshape main_while0b_v54 main_while0b_v55 (rfl : (.f32 : EltTy) = .f32) shapeCasts_S20000x1_S20000
  :: StableHlo.unary main_while0b_v53 main_while0b_v56 (broadcastInDim S20000 ![] bcast_S_S20000 : (⟨S_, .f32⟩ : BufTy).Contents (Elt F) → (⟨S20000, .f32⟩ : BufTy).Contents (Elt F))
  :: StableHlo.binary main_while0b_v56 main_while0b_v55 main_while0b_v57 (minimumf : (⟨S20000, .f32⟩ : BufTy).Contents (Elt F) → (⟨S20000, .f32⟩ : BufTy).Contents (Elt F) → (⟨S20000, .f32⟩ : BufTy).Contents (Elt F))
  :: StableHlo.binary main_while0b_v51 main_while0b_v39 main_while0b_v58 (subf : (⟨S20000, .f32⟩ : BufTy).Contents (Elt F) → (⟨S20000, .f32⟩ : BufTy).Contents (Elt F) → (⟨S20000, .f32⟩ : BufTy).Contents (Elt F))
  :: StableHlo.nullary main_while0b_cst_22 (constant S_ .f32 0x00000000#32)
  :: [] )
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.binary_bufs_sub .., StableHlo.nullary_bufs_sub ..⟩
/-- 3 host operations of @clip (main_while0b_call2), in order. -/
abbrev while0Ops0_4 : List (HloOp τ sig (Elt F)) :=
  [ StableHlo.TRef.unary (.of main_while0b_cst_22 : StableHlo.TRef sig ⟨S_, .f32⟩) (.of main_while0b_call2_v0 : StableHlo.TRef sig ⟨S_, .f32⟩) id,
    StableHlo.TRef.unary (.of main_while0b_call2_v0 : StableHlo.TRef sig ⟨S_, .f32⟩) (.of main_while0b_call2_v1 : StableHlo.TRef sig ⟨S20000, .f32⟩) (broadcastInDim S20000 ![] bcast_S_S20000),
    StableHlo.TRef.binary (.of main_while0b_call2_v1 : StableHlo.TRef sig ⟨S20000, .f32⟩) (.of main_while0b_v58 : StableHlo.TRef sig ⟨S20000, .f32⟩) (.of main_while0b_v59 : StableHlo.TRef sig ⟨S20000, .f32⟩) maximumf ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.unary_bufs_sub .., StableHlo.binary_bufs_sub ..⟩
/-- 2 host operations of host loop 0's body region, in order. -/
abbrev while0Ops0_5 : List (HloOp τ sig (Elt F)) :=
  [ StableHlo.binary main_while0b_v57 main_while0b_v45 main_while0b_v60 (subf : (⟨S20000, .f32⟩ : BufTy).Contents (Elt F) → (⟨S20000, .f32⟩ : BufTy).Contents (Elt F) → (⟨S20000, .f32⟩ : BufTy).Contents (Elt F)),
    StableHlo.nullary main_while0b_cst_23 (constant S_ .f32 0x00000000#32) ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.binary_bufs_sub .., StableHlo.nullary_bufs_sub ..⟩
/-- 3 host operations of @clip (main_while0b_call3), in order. -/
abbrev while0Ops0_6 : List (HloOp τ sig (Elt F)) :=
  [ StableHlo.TRef.unary (.of main_while0b_cst_23 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S20000, .f32⟩) (broadcastInDim S20000 ![] bcast_S_S20000),
    StableHlo.TRef.binary (.of main_while0b_call3_v1 : StableHlo.TRef sig ⟨S20000, .f32⟩) (.of main_while0b_v60 : StableHlo.TRef sig ⟨S20000, .f32⟩) (.of main_while0b_v61 : StableHlo.TRef sig ⟨S20000, .f32⟩) maximumf ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.unary_bufs_sub .., StableHlo.unary_bufs_sub .., StableHlo.binary_bufs_sub ..⟩
/-- 35 host operations of host loop 0's body region, in order. -/
abbrev while0Ops0_7 : List (HloOp τ sig (Elt F)) :=
  ( StableHlo.binary main_while0b_v59 main_while0b_v61 main_while0b_v62 (mulf : (⟨S20000, .f32⟩ : BufTy).Contents (Elt F) → (⟨S20000, .f32⟩ : BufTy).Contents (Elt F) → (⟨S20000, .f32⟩ : BufTy).Contents (Elt F))
  :: StableHlo.unary main_while0b_v33 main_while0b_v63 ((extractStridedSlice S1 ![2] · slices_S4_S1_2) : (⟨S4, .f32⟩ : BufTy).Contents (Elt F) → (⟨S1, .f32⟩ : BufTy).Contents (Elt F))
  :: StableHlo.reshape main_while0b_v63 main_while0b_v64 (rfl : (.f32 : EltTy) = .f32) shapeCasts_S1_S_
  :: StableHlo.unary main_while0b_v33 main_while0b_v65 ((extractStridedSlice S1 ![0] · slices_S4_S1_0) : (⟨S4, .f32⟩ : BufTy).Contents (Elt F) → (⟨S1, .f32⟩ : BufTy).Contents (Elt F))
  :: StableHlo.reshape main_while0b_v65 main_while0b_v66 (rfl : (.f32 : EltTy) = .f32) shapeCasts_S1_S_
  :: StableHlo.binary main_while0b_v64 main_while0b_v66 main_while0b_v67 (subf : (⟨S_, .f32⟩ : BufTy).Contents (Elt F) → (⟨S_, .f32⟩ : BufTy).Contents (Elt F) → (⟨S_, .f32⟩ : BufTy).Contents (Elt F))
  :: StableHlo.unary main_while0b_v33 main_while0b_v68 ((extractStridedSlice S1 ![3] · slices_S4_S1_3) : (⟨S4, .f32⟩ : BufTy).Contents (Elt F) → (⟨S1, .f32⟩ : BufTy).Contents (Elt F))
  :: StableHlo.reshape main_while0b_v68 main_while0b_v69 (rfl : (.f32 : EltTy) = .f32) shapeCasts_S1_S_
  :: StableHlo.unary main_while0b_v33 main_while0b_v70 ((extractStridedSlice S1 ![1] · slices_S4_S1_1) : (⟨S4, .f32⟩ : BufTy).Contents (Elt F) → (⟨S1, .f32⟩ : BufTy).Contents (Elt F))
  :: StableHlo.reshape main_while0b_v70 main_while0b_v71 (rfl : (.f32 : EltTy) = .f32) shapeCasts_S1_S_
  :: StableHlo.binary main_while0b_v69 main_while0b_v71 main_while0b_v72 (subf : (⟨S_, .f32⟩ : BufTy).Contents (Elt F) → (⟨S_, .f32⟩ : BufTy).Contents (Elt F) → (⟨S_, .f32⟩ : BufTy).Contents (Elt F))
  :: StableHlo.binary main_while0b_v67 main_while0b_v72 main_while0b_v73 (mulf : (⟨S_, .f32⟩ : BufTy).Contents (Elt F) → (⟨S_, .f32⟩ : BufTy).Contents (Elt F) → (⟨S_, .f32⟩ : BufTy).Contents (Elt F))
  :: StableHlo.unary main_v2_2 main_while0b_v74 ((extractStridedSlice S20000x1 ![0, 2] · slices_S20000x4_S20000x1_0_2) : (⟨S20000x4, .f32⟩ : BufTy).Contents (Elt F) → (⟨S20000x1, .f32⟩ : BufTy).Contents (Elt F))
  :: StableHlo.reshape main_while0b_v74 main_while0b_v75 (rfl : (.f32 : EltTy) = .f32) shapeCasts_S20000x1_S20000
  :: StableHlo.unary main_v2_2 main_while0b_v76 ((extractStridedSlice S20000x1 ![0, 0] · slices_S20000x4_S20000x1_0_0) : (⟨S20000x4, .f32⟩ : BufTy).Contents (Elt F) → (⟨S20000x1, .f32⟩ : BufTy).Contents (Elt F))
  :: StableHlo.reshape main_while0b_v76 main_while0b_v77 (rfl : (.f32 : EltTy) = .f32) shapeCasts_S20000x1_S20000
  :: StableHlo.binary main_while0b_v75 main_while0b_v77 main_while0b_v78 (subf : (⟨S20000, .f32⟩ : BufTy).Contents (Elt F) → (⟨S20000, .f32⟩ : BufTy).Contents (Elt F) → (⟨S20000, .f32⟩ : BufTy).Contents (Elt F))
  :: StableHlo.unary main_v2_2 main_while0b_v79 ((extractStridedSlice S20000x1 ![0, 3] · slices_S20000x4_S20000x1_0_3) : (⟨S20000x4, .f32⟩ : BufTy).Contents (Elt F) → (⟨S20000x1, .f32⟩ : BufTy).Contents (Elt F))
  :: StableHlo.reshape main_while0b_v79 main_while0b_v80 (rfl : (.f32 : EltTy) = .f32) shapeCasts_S20000x1_S20000
  :: StableHlo.unary main_v2_2 main_while0b_v81 ((extractStridedSlice S20000x1 ![0, 1] · slices_S20000x4_S20000x1_0_1) : (⟨S20000x4, .f32⟩ : BufTy).Contents (Elt F) → (⟨S20000x1, .f32⟩ : BufTy).Contents (Elt F))
  :: StableHlo.reshape main_while0b_v81 main_while0b_v82 (rfl : (.f32 : EltTy) = .f32) shapeCasts_S20000x1_S20000
  :: StableHlo.binary main_while0b_v80 main_while0b_v82 main_while0b_v83 (subf : (⟨S20000, .f32⟩ : BufTy).Contents (Elt F) → (⟨S20000, .f32⟩ : BufTy).Contents (Elt F) → (⟨S20000, .f32⟩ : BufTy).Contents (Elt F))
  :: StableHlo.binary main_while0b_v78 main_while0b_v83 main_while0b_v84 (mulf : (⟨S20000, .f32⟩ : BufTy).Contents (Elt F) → (⟨S20000, .f32⟩ : BufTy).Contents (Elt F) → (⟨S20000, .f32⟩ : BufTy).Contents (Elt F))
  :: StableHlo.unary main_while0b_v73 main_while0b_v85 (broadcastInDim S20000 ![] bcast_S_S20000 : (⟨S_, .f32⟩ : BufTy).Contents (Elt F) → (⟨S20000, .f32⟩ : BufTy).Contents (Elt F))
  :: StableHlo.binary main_while0b_v85 main_while0b_v84 main_while0b_v86 (addf : (⟨S20000, .f32⟩ : BufTy).Contents (Elt F) → (⟨S20000, .f32⟩ : BufTy).Contents (Elt F) → (⟨S20000, .f32⟩ : BufTy).Contents (Elt F))
  :: StableHlo.binary main_while0b_v86 main_while0b_v62 main_while0b_v87 (subf : (⟨S20000, .f32⟩ : BufTy).Contents (Elt F) → (⟨S20000, .f32⟩ : BufTy).Contents (Elt F) → (⟨S20000, .f32⟩ : BufTy).Contents (Elt F))
  :: StableHlo.nullary main_while0b_cst_24 (constant S_ .f32 0x322BCC77#32)
  :: StableHlo.unary main_while0b_cst_24 main_while0b_v88 (broadcastInDim S20000 ![] bcast_S_S20000 : (⟨S_, .f32⟩ : BufTy).Contents (Elt F) → (⟨S20000, .f32⟩ : BufTy).Contents (Elt F))
  :: StableHlo.binary main_while0b_v87 main_while0b_v88 main_while0b_v89 (addf : (⟨S20000, .f32⟩ : BufTy).Contents (Elt F) → (⟨S20000, .f32⟩ : BufTy).Contents (Elt F) → (⟨S20000, .f32⟩ : BufTy).Contents (Elt F))
  :: StableHlo.binary main_while0b_v62 main_while0b_v89 main_while0b_v90 (Host.divf : (⟨S20000, .f32⟩ : BufTy).Contents (Elt F) → (⟨S20000, .f32⟩ : BufTy).Contents (Elt F) → (⟨S20000, .f32⟩ : BufTy).Contents (Elt F))
  :: StableHlo.nullary main_while0b_cst_25 (constant S_ .f32 0x3F000000#32)
  :: StableHlo.unary main_while0b_cst_25 main_while0b_v91 (broadcastInDim S20000 ![] bcast_S_S20000 : (⟨S_, .f32⟩ : BufTy).Contents (Elt F) → (⟨S20000, .f32⟩ : BufTy).Contents (Elt F))
  :: StableHlo.binary main_while0b_v90 main_while0b_v91 main_while0b_v92 (cmpf .ogt : (⟨S20000, .f32⟩ : BufTy).Contents (Elt F) → (⟨S20000, .f32⟩ : BufTy).Contents (Elt F) → (⟨S20000, .i1⟩ : BufTy).Contents (Elt F))
  :: StableHlo.unary main_while0b_v92 main_while0b_v93 (noti : (⟨S20000, .i1⟩ : BufTy).Contents (Elt F) → (⟨S20000, .i1⟩ : BufTy).Contents (Elt F))
  :: StableHlo.binary main_v2_5 main_while0b_v93 main_while0b_v94 (andi : (⟨S20000, .i1⟩ : BufTy).Contents (Elt F) → (⟨S20000, .i1⟩ : BufTy).Contents (Elt F) → (⟨S20000, .i1⟩ : BufTy).Contents (Elt F))
  :: [] )
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub ..⟩
/-- 1 host operation of @_where_0 (main_while0b_call4), in order. -/
abbrev while0Ops0_8 : List (HloOp τ sig (Elt F)) :=
  [ StableHlo.TRef.ternary (.of main_while0b_v25 : StableHlo.TRef sig ⟨S_, .i1⟩) (.of main_while0b_v94 : StableHlo.TRef sig ⟨S20000, .i1⟩) (.of main_v2_5 : StableHlo.TRef sig ⟨S20000, .i1⟩) (.of main_while0b_v95 : StableHlo.TRef sig ⟨S20000, .i1⟩) (fun p a b => select (broadcastInDim S20000 ![] bcast_S_S20000 p) a b) ]
/-- Each touches TensorCore references only (`HostSeg.ofOps` over `StableHlo.tcRefs`, or a subset by `sub_ucRefs`). -/
theorem while0Ops0_8_sub : (while0Ops0_8 : List (HloOp τ sig (Elt F))).Forall fun op => op.bufs ⊆ StableHlo.tcRefs τ sig :=
  StableHlo.ternary_bufs_sub ..
/-- 1 host operation of host loop 0's body region, in order. -/
abbrev while0Ops0_9 : List (HloOp τ sig (Elt F)) :=
  [ StableHlo.nullary main_while0b_c_26 (constantI S_ 32 4294967295#32) ]
/-- Each touches TensorCore references only (`HostSeg.ofOps` over `StableHlo.tcRefs`, or a subset by `sub_ucRefs`). -/
theorem while0Ops0_9_sub : (while0Ops0_9 : List (HloOp τ sig (Elt F))).Forall fun op => op.bufs ⊆ StableHlo.tcRefs τ sig :=
  StableHlo.nullary_bufs_sub ..
/-- 1 host operation of @_where_1 (main_while0b_call5), in order. -/
abbrev while0Ops0_10 : List (HloOp τ sig (Elt F)) :=
  [ StableHlo.TRef.ternary (.of main_while0b_v25 : StableHlo.TRef sig ⟨S_, .i1⟩) (.of main_while0b_v18 : StableHlo.TRef sig ⟨S_, .i32⟩) (.of main_while0b_c_26 : StableHlo.TRef sig ⟨S_, .i32⟩) (.of main_while0b_v96 : StableHlo.TRef sig ⟨S_, .i32⟩) select ]
/-- Each touches TensorCore references only (`HostSeg.ofOps` over `StableHlo.tcRefs`, or a subset by `sub_ucRefs`). -/
theorem while0Ops0_10_sub : (while0Ops0_10 : List (HloOp τ sig (Elt F))).Forall fun op => op.bufs ⊆ StableHlo.tcRefs τ sig :=
  StableHlo.ternary_bufs_sub ..
/-- 14 host operations of host loop 0's body region, in order. -/
abbrev while0Ops0_11 : List (HloOp τ sig (Elt F)) :=
  [ StableHlo.nullary main_while0b_c_27 (constantI S_ 32 0#32),
    StableHlo.binary main_v2_4 main_while0b_c_27 main_while0b_v97 (cmpi .slt : (⟨S_, .i32⟩ : BufTy).Contents (Elt F) → (⟨S_, .i32⟩ : BufTy).Contents (Elt F) → (⟨S_, .i1⟩ : BufTy).Contents (Elt F)),
    StableHlo.nullary main_while0b_c_28 (constantI S_ 32 512#32),
    StableHlo.binary main_v2_4 main_while0b_c_28 main_while0b_v98 (addi : (⟨S_, .i32⟩ : BufTy).Contents (Elt F) → (⟨S_, .i32⟩ : BufTy).Contents (Elt F) → (⟨S_, .i32⟩ : BufTy).Contents (Elt F)),
    StableHlo.ternary main_while0b_v97 main_while0b_v98 main_v2_4 main_while0b_v99 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v99 main_while0b_v100 (id : (⟨S_, .i32⟩ : BufTy).Contents (Elt F) → (⟨S_, .i32⟩ : BufTy).Contents (Elt F)),
    StableHlo.unary main_while0b_v100 main_while0b_v101 (broadcastInDim S1 ![] bcast_S_S1 : (⟨S_, .i32⟩ : BufTy).Contents (Elt F) → (⟨S1, .i32⟩ : BufTy).Contents (Elt F)),
    StableHlo.ternary main_v2_6 main_while0b_v101 main_while0b_v96 main_while0b_v102 ((fun x i u => Host.scatter scatter_S512_S1_S__n_0_0_0 (fun _ b => b) x i u) : (⟨S512, .i32⟩ : BufTy).Contents (Elt F) → (⟨S1, .i32⟩ : BufTy).Contents (Elt F) → (⟨S_, .i32⟩ : BufTy).Contents (Elt F) → (⟨S512, .i32⟩ : BufTy).Contents (Elt F)),
    StableHlo.nullary main_while0b_c_29 (constantI S_ 32 1#32),
    StableHlo.binary main_v2_3 main_while0b_c_29 main_while0b_v103 (addi : (⟨S_, .i32⟩ : BufTy).Contents (Elt F) → (⟨S_, .i32⟩ : BufTy).Contents (Elt F) → (⟨S_, .i32⟩ : BufTy).Contents (Elt F)),
    StableHlo.unary main_while0b_v103 main_v2_3 id,
    StableHlo.unary main_while0b_v16 main_v2_4 id,
    StableHlo.unary main_while0b_v95 main_v2_5 id,
    StableHlo.unary main_while0b_v102 main_v2_6 id ]
/-- Each touches TensorCore references only (`HostSeg.ofOps` over `StableHlo.tcRefs`, or a subset by `sub_ucRefs`). -/
theorem while0Ops0_11_sub : (while0Ops0_11 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.nullary_bufs_sub .., StableHlo.binary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10,
    StableHlo.seq while0Ops0_11 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

end Cert.Proof.Ref

end
-- ==== Proof.Ref.Run.lean ====
/- The reference's run: every execution ends with every buffer at `finalContents`, the fold of the stretches with
   512 trips of the body (`run_fold`). The loop's counter at trip `k` is `k`. -/
module

public import proofs.«01_k».proof.Proof.Ref.Ops

@[expose] public section

set_option maxRecDepth 4096

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_c, main_v0, main_c_0, main_v1, main_cst, main_c_1, main_c_2, main_v2_0, main_v2_1, main_v2_2, main_v2_3, main_v2_4, main_v2_5, main_v2_6]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_c_11, main_while0b_v16]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_v0, main_while0b_v17]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call1_v0, main_while0b_call1_cst, main_while0b_call1_c, main_while0b_call1_v1_0, main_while0b_v18]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_c_12, main_while0b_v19, main_while0b_c_13, main_while0b_v20, main_while0b_v21, main_while0b_v22, main_while0b_v23, main_while0b_cst_14, main_while0b_v24, main_while0b_v25, main_while0b_c_15, main_while0b_v26, main_while0b_c_16, main_while0b_v27, main_while0b_v28, main_while0b_c_17, main_while0b_c_18, main_while0b_v29, main_while0b_c_19, main_while0b_c_20, main_while0b_v30, main_while0b_c_21, main_while0b_v31, main_while0b_v32, main_while0b_v33, main_while0b_v34, main_while0b_v35, main_while0b_v36, main_while0b_v37, main_while0b_v38, main_while0b_v39, main_while0b_v40, main_while0b_v41, main_while0b_v42, main_while0b_v43, main_while0b_v44, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_cst_22]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call2_v0, main_while0b_call2_v1, main_while0b_v59]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_v60, main_while0b_cst_23]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_call3_v0, main_while0b_call3_v1, main_while0b_v61]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_v62, main_while0b_v63, main_while0b_v64, main_while0b_v65, main_while0b_v66, main_while0b_v67, main_while0b_v68, main_while0b_v69, main_while0b_v70, main_while0b_v71, main_while0b_v72, main_while0b_v73, main_while0b_v74, main_while0b_v75, main_while0b_v76, main_while0b_v77, main_while0b_v78, main_while0b_v79, main_while0b_v80, main_while0b_v81, main_while0b_v82, main_while0b_v83, main_while0b_v84, main_while0b_v85, main_while0b_v86, main_while0b_v87, main_while0b_cst_24, main_while0b_v88, main_while0b_v89, main_while0b_v90, main_while0b_cst_25, main_while0b_v91, main_while0b_v92, main_while0b_v93, main_while0b_v94]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `while0Ops0_8` allocates a buffer. -/
theorem while0Ops0_8_fresh : (while0Ops0_8 : List (HloOp τ sig (Elt F))).Forall fun op => op.fresh = ∅ :=
  StableHlo.forall_fresh_of_map rfl
/-- The reference each operation of `while0Ops0_8` writes, in order. -/
abbrev while0Ops0_8_W : List (Ref sig .tc) := [main_while0b_v95]
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- No operation of `while0Ops0_9` allocates a buffer. -/
theorem while0Ops0_9_fresh : (while0Ops0_9 : List (HloOp τ sig (Elt F))).Forall fun op => op.fresh = ∅ :=
  StableHlo.forall_fresh_of_map rfl
/-- The reference each operation of `while0Ops0_9` writes, in order. -/
abbrev while0Ops0_9_W : List (Ref sig .tc) := [main_while0b_c_26]
theorem while0Ops0_9_writes : (while0Ops0_9 : List (HloOp τ sig (Elt F))).Forall fun op => op.writes ⊆ (while0Ops0_9_W.map (Proc.devRef (τ := τ) .tc)).toFinset :=
  StableHlo.forall_writes_sub_of_map rfl
/-- No operation of `while0Ops0_10` allocates a buffer. -/
theorem while0Ops0_10_fresh : (while0Ops0_10 : List (HloOp τ sig (Elt F))).Forall fun op => op.fresh = ∅ :=
  StableHlo.forall_fresh_of_map rfl
/-- The reference each operation of `while0Ops0_10` writes, in order. -/
abbrev while0Ops0_10_W : List (Ref sig .tc) := [main_while0b_v96]
theorem while0Ops0_10_writes : (while0Ops0_10 : List (HloOp τ sig (Elt F))).Forall fun op => op.writes ⊆ (while0Ops0_10_W.map (Proc.devRef (τ := τ) .tc)).toFinset :=
  StableHlo.forall_writes_sub_of_map rfl
/-- No operation of `while0Ops0_11` allocates a buffer. -/
theorem while0Ops0_11_fresh : (while0Ops0_11 : List (HloOp τ sig (Elt F))).Forall fun op => op.fresh = ∅ :=
  StableHlo.forall_fresh_of_map rfl
/-- The reference each operation of `while0Ops0_11` writes, in order. -/
abbrev while0Ops0_11_W : List (Ref sig .tc) := [main_while0b_c_27, main_while0b_v97, main_while0b_c_28, main_while0b_v98, main_while0b_v99, main_while0b_v100, main_while0b_v101, main_while0b_v102, main_while0b_c_29, main_while0b_v103, main_v2_3, main_v2_4, main_v2_5, main_v2_6]
theorem while0Ops0_11_writes : (while0Ops0_11 : List (HloOp τ sig (Elt F))).Forall fun op => op.writes ⊆ (while0Ops0_11_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- No operation of `hostOps0_6` allocates a buffer. -/
theorem hostOps0_6_fresh : (hostOps0_6 : List (HloOp τ sig (Elt F))).Forall fun op => op.fresh = ∅ :=
  StableHlo.forall_fresh_of_map rfl

/-- The condition region's two operations: the bound, and the trip counter compared with it. -/
abbrev condOps : List (HloOp τ sig (Elt F)) :=
  [ StableHlo.nullary main_while0c_c_11 (constantI S_ 32 512#32),
    StableHlo.binary main_v2_3 main_while0c_c_11 main_while0c_v16 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11]
abbrev postI : List (List (HloOp τ sig (Elt F))) := [hostOps0_1, hostOps0_2, hostOps0_3, hostOps0_4, hostOps0_5, hostOps0_6]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.cons while0Ops0_11_sub (hf := List.forall_iff_forall_mem.mp while0Ops0_11_fresh) (.nil))))))))))))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.nil))))))

/-- The reference each operation of `condOps` writes, in order. -/
abbrev condOps_W : List (Ref sig .tc) := [main_while0c_c_11, main_while0c_v16]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v2_3`) is written by one stretch of the body, `while0Ops0_11`: not by the condition, nor by the
    body's other stretches. -/
theorem ctr_cond (V : Valuation τ sig (Elt F)) : after condOps V (Proc.devRef .tc main_v2_3) = V (Proc.devRef .tc main_v2_3) :=
  after_of_writes_sub condOps V condOps_writes (by decide +kernel)
theorem ctr_while0Ops0 (V : Valuation τ sig (Elt F)) : after while0Ops0 V (Proc.devRef .tc main_v2_3) = V (Proc.devRef .tc main_v2_3) :=
  after_of_writes_sub while0Ops0 V while0Ops0_writes (by decide +kernel)
theorem ctr_while0Ops0_1 (V : Valuation τ sig (Elt F)) : after while0Ops0_1 V (Proc.devRef .tc main_v2_3) = V (Proc.devRef .tc main_v2_3) :=
  after_of_writes_sub while0Ops0_1 V while0Ops0_1_writes (by decide +kernel)
theorem ctr_while0Ops0_2 (V : Valuation τ sig (Elt F)) : after while0Ops0_2 V (Proc.devRef .tc main_v2_3) = V (Proc.devRef .tc main_v2_3) :=
  after_of_writes_sub while0Ops0_2 V while0Ops0_2_writes (by decide +kernel)
theorem ctr_while0Ops0_3 (V : Valuation τ sig (Elt F)) : after while0Ops0_3 V (Proc.devRef .tc main_v2_3) = V (Proc.devRef .tc main_v2_3) :=
  after_of_writes_sub while0Ops0_3 V while0Ops0_3_writes (by decide +kernel)
theorem ctr_while0Ops0_4 (V : Valuation τ sig (Elt F)) : after while0Ops0_4 V (Proc.devRef .tc main_v2_3) = V (Proc.devRef .tc main_v2_3) :=
  after_of_writes_sub while0Ops0_4 V while0Ops0_4_writes (by decide +kernel)
theorem ctr_while0Ops0_5 (V : Valuation τ sig (Elt F)) : after while0Ops0_5 V (Proc.devRef .tc main_v2_3) = V (Proc.devRef .tc main_v2_3) :=
  after_of_writes_sub while0Ops0_5 V while0Ops0_5_writes (by decide +kernel)
theorem ctr_while0Ops0_6 (V : Valuation τ sig (Elt F)) : after while0Ops0_6 V (Proc.devRef .tc main_v2_3) = V (Proc.devRef .tc main_v2_3) :=
  after_of_writes_sub while0Ops0_6 V while0Ops0_6_writes (by decide +kernel)
theorem ctr_while0Ops0_7 (V : Valuation τ sig (Elt F)) : after while0Ops0_7 V (Proc.devRef .tc main_v2_3) = V (Proc.devRef .tc main_v2_3) :=
  after_of_writes_sub while0Ops0_7 V while0Ops0_7_writes (by decide +kernel)
theorem ctr_while0Ops0_8 (V : Valuation τ sig (Elt F)) : after while0Ops0_8 V (Proc.devRef .tc main_v2_3) = V (Proc.devRef .tc main_v2_3) :=
  after_of_writes_sub while0Ops0_8 V while0Ops0_8_writes (by decide +kernel)
theorem ctr_while0Ops0_9 (V : Valuation τ sig (Elt F)) : after while0Ops0_9 V (Proc.devRef .tc main_v2_3) = V (Proc.devRef .tc main_v2_3) :=
  after_of_writes_sub while0Ops0_9 V while0Ops0_9_writes (by decide +kernel)
theorem ctr_while0Ops0_10 (V : Valuation τ sig (Elt F)) : after while0Ops0_10 V (Proc.devRef .tc main_v2_3) = V (Proc.devRef .tc main_v2_3) :=
  after_of_writes_sub while0Ops0_10 V while0Ops0_10_writes (by decide +kernel)

/-- The body's operations 1 … 2 of 120. -/
abbrev trip_w0 : List (HloOp τ sig (Elt F)) :=
  [ StableHlo.nullary main_while0b_c_11 (constantI S_ 32 1#32),
    StableHlo.binary main_v2_4 main_while0b_c_11 main_while0b_v16 (addi : (⟨S_, .i32⟩ : BufTy).Contents (Elt F) → (⟨S_, .i32⟩ : BufTy).Contents (Elt F) → (⟨S_, .i32⟩ : BufTy).Contents (Elt F)) ]

/-- The body's operations 3 … 4 of 120. -/
abbrev trip_w1 : List (HloOp τ sig (Elt F)) :=
  [ StableHlo.TRef.unary (.of main_v2_1 : StableHlo.TRef sig ⟨S_, .f32⟩) (.of main_while0b_call0_v0 : StableHlo.TRef sig ⟨S20000, .f32⟩) (broadcastInDim S20000 ![] bcast_S_S20000),
    StableHlo.TRef.ternary (.of main_v2_5 : StableHlo.TRef sig ⟨S20000, .i1⟩) (.of main_v2_0 : StableHlo.TRef sig ⟨S20000, .f32⟩) (.of main_while0b_call0_v0 : StableHlo.TRef sig ⟨S20000, .f32⟩) (.of main_while0b_v17 : StableHlo.TRef sig ⟨S20000, .f32⟩) select ]

/-- The body's operations 5 … 9 of 120. -/
abbrev trip_w2 : List (HloOp τ sig (Elt F)) :=
  [ StableHlo.TRef.nullary (.of main_while0b_call1_v0 : StableHlo.TRef sig ⟨S20000, .i32⟩) (iotaInDim S20000 32 0),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v17 : StableHlo.TRef sig ⟨S20000, .f32⟩) (.of main_while0b_call1_v0 : StableHlo.TRef sig ⟨S20000, .i32⟩) (.of main_while0b_call1_cst : StableHlo.TRef sig ⟨S_, .f32⟩) (.of main_while0b_call1_c : StableHlo.TRef sig ⟨S_, .i32⟩) (.of main_while0b_call1_v1_0 : StableHlo.TRef sig ⟨S_, .f32⟩) (fun x y u v j => (Host.argReduce reducer_argmax_f32_i32 x y u v reducesTo_S20000_S_d0 h_S_ j).1),
    StableHlo.TRef.quaternary (.of main_while0b_v17 : StableHlo.TRef sig ⟨S20000, .f32⟩) (.of main_while0b_call1_v0 : StableHlo.TRef sig ⟨S20000, .i32⟩) (.of main_while0b_call1_cst : StableHlo.TRef sig ⟨S_, .f32⟩) (.of main_while0b_call1_c : StableHlo.TRef sig ⟨S_, .i32⟩) (.of main_while0b_v18 : StableHlo.TRef sig ⟨S_, .i32⟩) (fun x y u v j => (Host.argReduce reducer_argmax_f32_i32 x y u v reducesTo_S20000_S_d0 h_S_ j).2) ]

/-- The body's operations 10 … 15 of 120. -/
abbrev trip_w3 : List (HloOp τ sig (Elt F)) :=
  [ StableHlo.nullary main_while0b_c_12 (constantI S_ 32 0#32),
    StableHlo.binary main_while0b_v18 main_while0b_c_12 main_while0b_v19 (cmpi .slt : (⟨S_, .i32⟩ : BufTy).Contents (Elt F) → (⟨S_, .i32⟩ : BufTy).Contents (Elt F) → (⟨S_, .i1⟩ : BufTy).Contents (Elt F)),
    StableHlo.nullary main_while0b_c_13 (constantI S_ 32 20000#32),
    StableHlo.binary main_while0b_v18 main_while0b_c_13 main_while0b_v20 (addi : (⟨S_, .i32⟩ : BufTy).Contents (Elt F) → (⟨S_, .i32⟩ : BufTy).Contents (Elt F) → (⟨S_, .i32⟩ : BufTy).Contents (Elt F)),
    StableHlo.ternary main_while0b_v19 main_while0b_v20 main_while0b_v18 main_while0b_v21 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_while0b_v17 ![main_while0b_v21] ⟨S_, .i32⟩ main_while0b_v22 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F)) ]

/-- The body's operations 16 … 33 of 120. -/
abbrev trip_w4 : List (HloOp τ sig (Elt F)) :=
  [ StableHlo.reshape main_while0b_v22 main_while0b_v23 (rfl : (.f32 : EltTy) = .f32) shapeCasts_S1_S_,
    StableHlo.nullary main_while0b_cst_14 (constant S_ .f32 0x40000000#32),
    StableHlo.binary main_v2_1 main_while0b_cst_14 main_while0b_v24 (Host.divf : (⟨S_, .f32⟩ : BufTy).Contents (Elt F) → (⟨S_, .f32⟩ : BufTy).Contents (Elt F) → (⟨S_, .f32⟩ : BufTy).Contents (Elt F)),
    StableHlo.binary main_while0b_v23 main_while0b_v24 main_while0b_v25 (cmpf .ogt : (⟨S_, .f32⟩ : BufTy).Contents (Elt F) → (⟨S_, .f32⟩ : BufTy).Contents (Elt F) → (⟨S_, .i1⟩ : BufTy).Contents (Elt F)),
    StableHlo.nullary main_while0b_c_15 (constantI S_ 32 0#32),
    StableHlo.binary main_while0b_v18 main_while0b_c_15 main_while0b_v26 (cmpi .slt : (⟨S_, .i32⟩ : BufTy).Contents (Elt F) → (⟨S_, .i32⟩ : BufTy).Contents (Elt F) → (⟨S_, .i1⟩ : BufTy).Contents (Elt F)),
    StableHlo.nullary main_while0b_c_16 (constantI S_ 32 20000#32),
    StableHlo.binary main_while0b_v18 main_while0b_c_16 main_while0b_v27 (addi : (⟨S_, .i32⟩ : BufTy).Contents (Elt F) → (⟨S_, .i32⟩ : BufTy).Contents (Elt F) → (⟨S_, .i32⟩ : BufTy).Contents (Elt F)),
    StableHlo.ternary main_while0b_v26 main_while0b_v27 main_while0b_v18 main_while0b_v28 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_17 (constantI S_ 32 0#32),
    StableHlo.nullary main_while0b_c_18 (constantI S_ 32 0#32),
    StableHlo.binary main_while0b_c_17 main_while0b_c_18 main_while0b_v29 (cmpi .slt : (⟨S_, .i32⟩ : BufTy).Contents (Elt F) → (⟨S_, .i32⟩ : BufTy).Contents (Elt F) → (⟨S_, .i1⟩ : BufTy).Contents (Elt F)),
    StableHlo.nullary main_while0b_c_19 (constantI S_ 32 0#32),
    StableHlo.nullary main_while0b_c_20 (constantI S_ 32 4#32),
    StableHlo.binary main_while0b_c_19 main_while0b_c_20 main_while0b_v30 (addi : (⟨S_, .i32⟩ : BufTy).Contents (Elt F) → (⟨S_, .i32⟩ : BufTy).Contents (Elt F) → (⟨S_, .i32⟩ : BufTy).Contents (Elt F)),
    StableHlo.nullary main_while0b_c_21 (constantI S_ 32 0#32),
    StableHlo.ternary main_while0b_v29 main_while0b_v30 main_while0b_c_21 main_while0b_v31 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v2_2 ![main_while0b_v28, main_while0b_v31] ⟨S_, .i32⟩ main_while0b_v32 ((fun x i => Host.dynamicSlice S1x4 x (fun k => (i k (Shape.Idx.first h_S_)).toInt) sliceFits_S20000x4_S1x4) : (⟨S20000x4, .f32⟩ : BufTy).Contents (Elt F) → (Fin 2 → (⟨S_, .i32⟩ : BufTy).Contents (Elt F)) → (⟨S1x4, .f32⟩ : BufTy).Contents (Elt F)) ]

/-- The body's operations 34 … 57 of 120. -/
abbrev trip_w5 : List (HloOp τ sig (Elt F)) :=
  [ StableHlo.reshape main_while0b_v32 main_while0b_v33 (rfl : (.f32 : EltTy) = .f32) shapeCasts_S1x4_S4,
    StableHlo.unary main_while0b_v33 main_while0b_v34 ((extractStridedSlice S1 ![0] · slices_S4_S1_0) : (⟨S4, .f32⟩ : BufTy).Contents (Elt F) → (⟨S1, .f32⟩ : BufTy).Contents (Elt F)),
    StableHlo.reshape main_while0b_v34 main_while0b_v35 (rfl : (.f32 : EltTy) = .f32) shapeCasts_S1_S_,
    StableHlo.unary main_v2_2 main_while0b_v36 ((extractStridedSlice S20000x1 ![0, 0] · slices_S20000x4_S20000x1_0_0) : (⟨S20000x4, .f32⟩ : BufTy).Contents (Elt F) → (⟨S20000x1, .f32⟩ : BufTy).Contents (Elt F)),
    StableHlo.reshape main_while0b_v36 main_while0b_v37 (rfl : (.f32 : EltTy) = .f32) shapeCasts_S20000x1_S20000,
    StableHlo.unary main_while0b_v35 main_while0b_v38 (broadcastInDim S20000 ![] bcast_S_S20000 : (⟨S_, .f32⟩ : BufTy).Contents (Elt F) → (⟨S20000, .f32⟩ : BufTy).Contents (Elt F)),
    StableHlo.binary main_while0b_v38 main_while0b_v37 main_while0b_v39 (maximumf : (⟨S20000, .f32⟩ : BufTy).Contents (Elt F) → (⟨S20000, .f32⟩ : BufTy).Contents (Elt F) → (⟨S20000, .f32⟩ : BufTy).Contents (Elt F)),
    StableHlo.unary main_while0b_v33 main_while0b_v40 ((extractStridedSlice S1 ![1] · slices_S4_S1_1) : (⟨S4, .f32⟩ : BufTy).Contents (Elt F) → (⟨S1, .f32⟩ : BufTy).Contents (Elt F)),
    StableHlo.reshape main_while0b_v40 main_while0b_v41 (rfl : (.f32 : EltTy) = .f32) shapeCasts_S1_S_,
    StableHlo.unary main_v2_2 main_while0b_v42 ((extractStridedSlice S20000x1 ![0, 1] · slices_S20000x4_S20000x1_0_1) : (⟨S20000x4, .f32⟩ : BufTy).Contents (Elt F) → (⟨S20000x1, .f32⟩ : BufTy).Contents (Elt F)),
    StableHlo.reshape main_while0b_v42 main_while0b_v43 (rfl : (.f32 : EltTy) = .f32) shapeCasts_S20000x1_S20000,
    StableHlo.unary main_while0b_v41 main_while0b_v44 (broadcastInDim S20000 ![] bcast_S_S20000 : (⟨S_, .f32⟩ : BufTy).Contents (Elt F) → (⟨S20000, .f32⟩ : BufTy).Contents (Elt F)),
    StableHlo.binary main_while0b_v44 main_while0b_v43 main_while0b_v45 (maximumf : (⟨S20000, .f32⟩ : BufTy).Contents (Elt F) → (⟨S20000, .f32⟩ : BufTy).Contents (Elt F) → (⟨S20000, .f32⟩ : BufTy).Contents (Elt F)),
    StableHlo.unary main_while0b_v33 main_while0b_v46 ((extractStridedSlice S1 ![2] · slices_S4_S1_2) : (⟨S4, .f32⟩ : BufTy).Contents (Elt F) → (⟨S1, .f32⟩ : BufTy).Contents (Elt F)),
    StableHlo.reshape main_while0b_v46 main_while0b_v47 (rfl : (.f32 : EltTy) = .f32) shapeCasts_S1_S_,
    StableHlo.unary main_v2_2 main_while0b_v48 ((extractStridedSlice S20000x1 ![0, 2] · slices_S20000x4_S20000x1_0_2) : (⟨S20000x4, .f32⟩ : BufTy).Contents (Elt F) → (⟨S20000x1, .f32⟩ : BufTy).Contents (Elt F)),
    StableHlo.reshape main_while0b_v48 main_while0b_v49 (rfl : (.f32 : EltTy) = .f32) shapeCasts_S20000x1_S20000,
    StableHlo.unary main_while0b_v47 main_while0b_v50 (broadcastInDim S20000 ![] bcast_S_S20000 : (⟨S_, .f32⟩ : BufTy).Contents (Elt F) → (⟨S20000, .f32⟩ : BufTy).Contents (Elt F)),
    StableHlo.binary main_while0b_v50 main_while0b_v49 main_while0b_v51 (minimumf : (⟨S20000, .f32⟩ : BufTy).Contents (Elt F) → (⟨S20000, .f32⟩ : BufTy).Contents (Elt F) → (⟨S20000, .f32⟩ : BufTy).Contents (Elt F)),
    StableHlo.unary main_while0b_v33 main_while0b_v52 ((extractStridedSlice S1 ![3] · slices_S4_S1_3) : (⟨S4, .f32⟩ : BufTy).Contents (Elt F) → (⟨S1, .f32⟩ : BufTy).Contents (Elt F)),
    StableHlo.reshape main_while0b_v52 main_while0b_v53 (rfl : (.f32 : EltTy) = .f32) shapeCasts_S1_S_,
    StableHlo.unary main_v2_2 main_while0b_v54 ((extractStridedSlice S20000x1 ![0, 3] · slices_S20000x4_S20000x1_0_3) : (⟨S20000x4, .f32⟩ : BufTy).Contents (Elt F) → (⟨S20000x1, .f32⟩ : BufTy).Contents (Elt F)),
    StableHlo.reshape main_while0b_v54 main_while0b_v55 (rfl : (.f32 : EltTy) = .f32) shapeCasts_S20000x1_S20000,
    StableHlo.unary main_while0b_v53 main_while0b_v56 (broadcastInDim S20000 ![] bcast_S_S20000 : (⟨S_, .f32⟩ : BufTy).Contents (Elt F) → (⟨S20000, .f32⟩ : BufTy).Contents (Elt F)) ]

/-- The body's operations 58 … 60 of 120. -/
abbrev trip_w6 : List (HloOp τ sig (Elt F)) :=
  [ StableHlo.binary main_while0b_v56 main_while0b_v55 main_while0b_v57 (minimumf : (⟨S20000, .f32⟩ : BufTy).Contents (Elt F) → (⟨S20000, .f32⟩ : BufTy).Contents (Elt F) → (⟨S20000, .f32⟩ : BufTy).Contents (Elt F)),
    StableHlo.binary main_while0b_v51 main_while0b_v39 main_while0b_v58 (subf : (⟨S20000, .f32⟩ : BufTy).Contents (Elt F) → (⟨S20000, .f32⟩ : BufTy).Contents (Elt F) → (⟨S20000, .f32⟩ : BufTy).Contents (Elt F)),
    StableHlo.nullary main_while0b_cst_22 (constant S_ .f32 0x00000000#32) ]

/-- The body's operations 61 … 63 of 120. -/
abbrev trip_w7 : List (HloOp τ sig (Elt F)) :=
  [ StableHlo.TRef.unary (.of main_while0b_cst_22 : StableHlo.TRef sig ⟨S_, .f32⟩) (.of main_while0b_call2_v0 : StableHlo.TRef sig ⟨S_, .f32⟩) id,
    StableHlo.TRef.unary (.of main_while0b_call2_v0 : StableHlo.TRef sig ⟨S_, .f32⟩) (.of main_while0b_call2_v1 : StableHlo.TRef sig ⟨S20000, .f32⟩) (broadcastInDim S20000 ![] bcast_S_S20000),
    StableHlo.TRef.binary (.of main_while0b_call2_v1 : StableHlo.TRef sig ⟨S20000, .f32⟩) (.of main_while0b_v58 : StableHlo.TRef sig ⟨S20000, .f32⟩) (.of main_while0b_v59 : StableHlo.TRef sig ⟨S20000, .f32⟩) maximumf ]

/-- The body's operations 64 … 65 of 120. -/
abbrev trip_w8 : List (HloOp τ sig (Elt F)) :=
  [ StableHlo.binary main_while0b_v57 main_while0b_v45 main_while0b_v60 (subf : (⟨S20000, .f32⟩ : BufTy).Contents (Elt F) → (⟨S20000, .f32⟩ : BufTy).Contents (Elt F) → (⟨S20000, .f32⟩ : BufTy).Contents (Elt F)),
    StableHlo.nullary main_while0b_cst_23 (constant S_ .f32 0x00000000#32) ]

/-- The body's operations 66 … 68 of 120. -/
abbrev trip_w9 : List (HloOp τ sig (Elt F)) :=
  [ StableHlo.TRef.unary (.of main_while0b_cst_23 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S20000, .f32⟩) (broadcastInDim S20000 ![] bcast_S_S20000),
    StableHlo.TRef.binary (.of main_while0b_call3_v1 : StableHlo.TRef sig ⟨S20000, .f32⟩) (.of main_while0b_v60 : StableHlo.TRef sig ⟨S20000, .f32⟩) (.of main_while0b_v61 : StableHlo.TRef sig ⟨S20000, .f32⟩) maximumf ]

/-- The body's operations 69 … 92 of 120. -/
abbrev trip_w10 : List (HloOp τ sig (Elt F)) :=
  [ StableHlo.binary main_while0b_v59 main_while0b_v61 main_while0b_v62 (mulf : (⟨S20000, .f32⟩ : BufTy).Contents (Elt F) → (⟨S20000, .f32⟩ : BufTy).Contents (Elt F) → (⟨S20000, .f32⟩ : BufTy).Contents (Elt F)),
    StableHlo.unary main_while0b_v33 main_while0b_v63 ((extractStridedSlice S1 ![2] · slices_S4_S1_2) : (⟨S4, .f32⟩ : BufTy).Contents (Elt F) → (⟨S1, .f32⟩ : BufTy).Contents (Elt F)),
    StableHlo.reshape main_while0b_v63 main_while0b_v64 (rfl : (.f32 : EltTy) = .f32) shapeCasts_S1_S_,
    StableHlo.unary main_while0b_v33 main_while0b_v65 ((extractStridedSlice S1 ![0] · slices_S4_S1_0) : (⟨S4, .f32⟩ : BufTy).Contents (Elt F) → (⟨S1, .f32⟩ : BufTy).Contents (Elt F)),
    StableHlo.reshape main_while0b_v65 main_while0b_v66 (rfl : (.f32 : EltTy) = .f32) shapeCasts_S1_S_,
    StableHlo.binary main_while0b_v64 main_while0b_v66 main_while0b_v67 (subf : (⟨S_, .f32⟩ : BufTy).Contents (Elt F) → (⟨S_, .f32⟩ : BufTy).Contents (Elt F) → (⟨S_, .f32⟩ : BufTy).Contents (Elt F)),
    StableHlo.unary main_while0b_v33 main_while0b_v68 ((extractStridedSlice S1 ![3] · slices_S4_S1_3) : (⟨S4, .f32⟩ : BufTy).Contents (Elt F) → (⟨S1, .f32⟩ : BufTy).Contents (Elt F)),
    StableHlo.reshape main_while0b_v68 main_while0b_v69 (rfl : (.f32 : EltTy) = .f32) shapeCasts_S1_S_,
    StableHlo.unary main_while0b_v33 main_while0b_v70 ((extractStridedSlice S1 ![1] · slices_S4_S1_1) : (⟨S4, .f32⟩ : BufTy).Contents (Elt F) → (⟨S1, .f32⟩ : BufTy).Contents (Elt F)),
    StableHlo.reshape main_while0b_v70 main_while0b_v71 (rfl : (.f32 : EltTy) = .f32) shapeCasts_S1_S_,
    StableHlo.binary main_while0b_v69 main_while0b_v71 main_while0b_v72 (subf : (⟨S_, .f32⟩ : BufTy).Contents (Elt F) → (⟨S_, .f32⟩ : BufTy).Contents (Elt F) → (⟨S_, .f32⟩ : BufTy).Contents (Elt F)),
    StableHlo.binary main_while0b_v67 main_while0b_v72 main_while0b_v73 (mulf : (⟨S_, .f32⟩ : BufTy).Contents (Elt F) → (⟨S_, .f32⟩ : BufTy).Contents (Elt F) → (⟨S_, .f32⟩ : BufTy).Contents (Elt F)),
    StableHlo.unary main_v2_2 main_while0b_v74 ((extractStridedSlice S20000x1 ![0, 2] · slices_S20000x4_S20000x1_0_2) : (⟨S20000x4, .f32⟩ : BufTy).Contents (Elt F) → (⟨S20000x1, .f32⟩ : BufTy).Contents (Elt F)),
    StableHlo.reshape main_while0b_v74 main_while0b_v75 (rfl : (.f32 : EltTy) = .f32) shapeCasts_S20000x1_S20000,
    StableHlo.unary main_v2_2 main_while0b_v76 ((extractStridedSlice S20000x1 ![0, 0] · slices_S20000x4_S20000x1_0_0) : (⟨S20000x4, .f32⟩ : BufTy).Contents (Elt F) → (⟨S20000x1, .f32⟩ : BufTy).Contents (Elt F)),
    StableHlo.reshape main_while0b_v76 main_while0b_v77 (rfl : (.f32 : EltTy) = .f32) shapeCasts_S20000x1_S20000,
    StableHlo.binary main_while0b_v75 main_while0b_v77 main_while0b_v78 (subf : (⟨S20000, .f32⟩ : BufTy).Contents (Elt F) → (⟨S20000, .f32⟩ : BufTy).Contents (Elt F) → (⟨S20000, .f32⟩ : BufTy).Contents (Elt F)),
    StableHlo.unary main_v2_2 main_while0b_v79 ((extractStridedSlice S20000x1 ![0, 3] · slices_S20000x4_S20000x1_0_3) : (⟨S20000x4, .f32⟩ : BufTy).Contents (Elt F) → (⟨S20000x1, .f32⟩ : BufTy).Contents (Elt F)),
    StableHlo.reshape main_while0b_v79 main_while0b_v80 (rfl : (.f32 : EltTy) = .f32) shapeCasts_S20000x1_S20000,
    StableHlo.unary main_v2_2 main_while0b_v81 ((extractStridedSlice S20000x1 ![0, 1] · slices_S20000x4_S20000x1_0_1) : (⟨S20000x4, .f32⟩ : BufTy).Contents (Elt F) → (⟨S20000x1, .f32⟩ : BufTy).Contents (Elt F)),
    StableHlo.reshape main_while0b_v81 main_while0b_v82 (rfl : (.f32 : EltTy) = .f32) shapeCasts_S20000x1_S20000,
    StableHlo.binary main_while0b_v80 main_while0b_v82 main_while0b_v83 (subf : (⟨S20000, .f32⟩ : BufTy).Contents (Elt F) → (⟨S20000, .f32⟩ : BufTy).Contents (Elt F) → (⟨S20000, .f32⟩ : BufTy).Contents (Elt F)),
    StableHlo.binary main_while0b_v78 main_while0b_v83 main_while0b_v84 (mulf : (⟨S20000, .f32⟩ : BufTy).Contents (Elt F) → (⟨S20000, .f32⟩ : BufTy).Contents (Elt F) → (⟨S20000, .f32⟩ : BufTy).Contents (Elt F)),
    StableHlo.unary main_while0b_v73 main_while0b_v85 (broadcastInDim S20000 ![] bcast_S_S20000 : (⟨S_, .f32⟩ : BufTy).Contents (Elt F) → (⟨S20000, .f32⟩ : BufTy).Contents (Elt F)) ]

/-- The body's operations 93 … 103 of 120. -/
abbrev trip_w11 : List (HloOp τ sig (Elt F)) :=
  [ StableHlo.binary main_while0b_v85 main_while0b_v84 main_while0b_v86 (addf : (⟨S20000, .f32⟩ : BufTy).Contents (Elt F) → (⟨S20000, .f32⟩ : BufTy).Contents (Elt F) → (⟨S20000, .f32⟩ : BufTy).Contents (Elt F)),
    StableHlo.binary main_while0b_v86 main_while0b_v62 main_while0b_v87 (subf : (⟨S20000, .f32⟩ : BufTy).Contents (Elt F) → (⟨S20000, .f32⟩ : BufTy).Contents (Elt F) → (⟨S20000, .f32⟩ : BufTy).Contents (Elt F)),
    StableHlo.nullary main_while0b_cst_24 (constant S_ .f32 0x322BCC77#32),
    StableHlo.unary main_while0b_cst_24 main_while0b_v88 (broadcastInDim S20000 ![] bcast_S_S20000 : (⟨S_, .f32⟩ : BufTy).Contents (Elt F) → (⟨S20000, .f32⟩ : BufTy).Contents (Elt F)),
    StableHlo.binary main_while0b_v87 main_while0b_v88 main_while0b_v89 (addf : (⟨S20000, .f32⟩ : BufTy).Contents (Elt F) → (⟨S20000, .f32⟩ : BufTy).Contents (Elt F) → (⟨S20000, .f32⟩ : BufTy).Contents (Elt F)),
    StableHlo.binary main_while0b_v62 main_while0b_v89 main_while0b_v90 (Host.divf : (⟨S20000, .f32⟩ : BufTy).Contents (Elt F) → (⟨S20000, .f32⟩ : BufTy).Contents (Elt F) → (⟨S20000, .f32⟩ : BufTy).Contents (Elt F)),
    StableHlo.nullary main_while0b_cst_25 (constant S_ .f32 0x3F000000#32),
    StableHlo.unary main_while0b_cst_25 main_while0b_v91 (broadcastInDim S20000 ![] bcast_S_S20000 : (⟨S_, .f32⟩ : BufTy).Contents (Elt F) → (⟨S20000, .f32⟩ : BufTy).Contents (Elt F)),
    StableHlo.binary main_while0b_v90 main_while0b_v91 main_while0b_v92 (cmpf .ogt : (⟨S20000, .f32⟩ : BufTy).Contents (Elt F) → (⟨S20000, .f32⟩ : BufTy).Contents (Elt F) → (⟨S20000, .i1⟩ : BufTy).Contents (Elt F)),
    StableHlo.unary main_while0b_v92 main_while0b_v93 (noti : (⟨S20000, .i1⟩ : BufTy).Contents (Elt F) → (⟨S20000, .i1⟩ : BufTy).Contents (Elt F)),
    StableHlo.binary main_v2_5 main_while0b_v93 main_while0b_v94 (andi : (⟨S20000, .i1⟩ : BufTy).Contents (Elt F) → (⟨S20000, .i1⟩ : BufTy).Contents (Elt F) → (⟨S20000, .i1⟩ : BufTy).Contents (Elt F)) ]

/-- The body's operations 104 … 104 of 120. -/
abbrev trip_w12 : List (HloOp τ sig (Elt F)) :=
  [ StableHlo.TRef.ternary (.of main_while0b_v25 : StableHlo.TRef sig ⟨S_, .i1⟩) (.of main_while0b_v94 : StableHlo.TRef sig ⟨S20000, .i1⟩) (.of main_v2_5 : StableHlo.TRef sig ⟨S20000, .i1⟩) (.of main_while0b_v95 : StableHlo.TRef sig ⟨S20000, .i1⟩) (fun p a b => select (broadcastInDim S20000 ![] bcast_S_S20000 p) a b) ]

/-- The body's operations 105 … 105 of 120. -/
abbrev trip_w13 : List (HloOp τ sig (Elt F)) :=
  [ StableHlo.nullary main_while0b_c_26 (constantI S_ 32 4294967295#32) ]

/-- The body's operations 106 … 106 of 120. -/
abbrev trip_w14 : List (HloOp τ sig (Elt F)) :=
  [ StableHlo.TRef.ternary (.of main_while0b_v25 : StableHlo.TRef sig ⟨S_, .i1⟩) (.of main_while0b_v18 : StableHlo.TRef sig ⟨S_, .i32⟩) (.of main_while0b_c_26 : StableHlo.TRef sig ⟨S_, .i32⟩) (.of main_while0b_v96 : StableHlo.TRef sig ⟨S_, .i32⟩) select ]

/-- The body's operations 107 … 114 of 120. -/
abbrev trip_w15 : List (HloOp τ sig (Elt F)) :=
  [ StableHlo.nullary main_while0b_c_27 (constantI S_ 32 0#32),
    StableHlo.binary main_v2_4 main_while0b_c_27 main_while0b_v97 (cmpi .slt : (⟨S_, .i32⟩ : BufTy).Contents (Elt F) → (⟨S_, .i32⟩ : BufTy).Contents (Elt F) → (⟨S_, .i1⟩ : BufTy).Contents (Elt F)),
    StableHlo.nullary main_while0b_c_28 (constantI S_ 32 512#32),
    StableHlo.binary main_v2_4 main_while0b_c_28 main_while0b_v98 (addi : (⟨S_, .i32⟩ : BufTy).Contents (Elt F) → (⟨S_, .i32⟩ : BufTy).Contents (Elt F) → (⟨S_, .i32⟩ : BufTy).Contents (Elt F)),
    StableHlo.ternary main_while0b_v97 main_while0b_v98 main_v2_4 main_while0b_v99 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v99 main_while0b_v100 (id : (⟨S_, .i32⟩ : BufTy).Contents (Elt F) → (⟨S_, .i32⟩ : BufTy).Contents (Elt F)),
    StableHlo.unary main_while0b_v100 main_while0b_v101 (broadcastInDim S1 ![] bcast_S_S1 : (⟨S_, .i32⟩ : BufTy).Contents (Elt F) → (⟨S1, .i32⟩ : BufTy).Contents (Elt F)),
    StableHlo.ternary main_v2_6 main_while0b_v101 main_while0b_v96 main_while0b_v102 ((fun x i u => Host.scatter scatter_S512_S1_S__n_0_0_0 (fun _ b => b) x i u) : (⟨S512, .i32⟩ : BufTy).Contents (Elt F) → (⟨S1, .i32⟩ : BufTy).Contents (Elt F) → (⟨S_, .i32⟩ : BufTy).Contents (Elt F) → (⟨S512, .i32⟩ : BufTy).Contents (Elt F)) ]

/-- The body's operations 115 … 120 of 120: the counter's step and the copies back into the carried buffers. -/
abbrev while0Ops0_11_step : List (HloOp τ sig (Elt F)) :=
  [ StableHlo.nullary main_while0b_c_29 (constantI S_ 32 1#32),
    StableHlo.binary main_v2_3 main_while0b_c_29 main_while0b_v103 (addi : (⟨S_, .i32⟩ : BufTy).Contents (Elt F) → (⟨S_, .i32⟩ : BufTy).Contents (Elt F) → (⟨S_, .i32⟩ : BufTy).Contents (Elt F)),
    StableHlo.unary main_while0b_v103 main_v2_3 id,
    StableHlo.unary main_while0b_v16 main_v2_4 id,
    StableHlo.unary main_while0b_v95 main_v2_5 id,
    StableHlo.unary main_while0b_v102 main_v2_6 id ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 := rfl
set_option maxRecDepth 5000 in
/-- `while0Ops0_2` is its windows in order. -/
theorem while0Ops0_2_cut : (while0Ops0_2 : List (HloOp τ sig (Elt F))) = trip_w2 := rfl
set_option maxRecDepth 5000 in
/-- `while0Ops0_3` is its windows in order. -/
theorem while0Ops0_3_cut : (while0Ops0_3 : List (HloOp τ sig (Elt F))) = trip_w3 ++ (trip_w4 ++ (trip_w5 ++ (trip_w6))) := rfl
set_option maxRecDepth 5000 in
/-- `while0Ops0_4` is its windows in order. -/
theorem while0Ops0_4_cut : (while0Ops0_4 : List (HloOp τ sig (Elt F))) = trip_w7 := rfl
set_option maxRecDepth 5000 in
/-- `while0Ops0_5` is its windows in order. -/
theorem while0Ops0_5_cut : (while0Ops0_5 : List (HloOp τ sig (Elt F))) = trip_w8 := rfl
set_option maxRecDepth 5000 in
/-- `while0Ops0_6` is its windows in order. -/
theorem while0Ops0_6_cut : (while0Ops0_6 : List (HloOp τ sig (Elt F))) = trip_w9 := rfl
set_option maxRecDepth 5000 in
/-- `while0Ops0_7` is its windows in order. -/
theorem while0Ops0_7_cut : (while0Ops0_7 : List (HloOp τ sig (Elt F))) = trip_w10 ++ (trip_w11) := rfl
set_option maxRecDepth 5000 in
/-- `while0Ops0_8` is its windows in order. -/
theorem while0Ops0_8_cut : (while0Ops0_8 : List (HloOp τ sig (Elt F))) = trip_w12 := rfl
set_option maxRecDepth 5000 in
/-- `while0Ops0_9` is its windows in order. -/
theorem while0Ops0_9_cut : (while0Ops0_9 : List (HloOp τ sig (Elt F))) = trip_w13 := rfl
set_option maxRecDepth 5000 in
/-- `while0Ops0_10` is its windows in order. -/
theorem while0Ops0_10_cut : (while0Ops0_10 : List (HloOp τ sig (Elt F))) = trip_w14 := rfl
set_option maxRecDepth 5000 in
/-- `while0Ops0_11` is its windows in order, then the step. -/
theorem while0Ops0_11_cut : (while0Ops0_11 : List (HloOp τ sig (Elt F))) = trip_w15 ++ (while0Ops0_11_step) := rfl

/-- The buffers that window `trip_w0`'s operations write. -/
abbrev trip_w0_W : List (Ref sig .tc) := [main_while0b_c_11, main_while0b_v16]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w1`'s operations write. -/
abbrev trip_w1_W : List (Ref sig .tc) := [main_while0b_call0_v0, main_while0b_v17]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w2`'s operations write. -/
abbrev trip_w2_W : List (Ref sig .tc) := [main_while0b_call1_v0, main_while0b_call1_cst, main_while0b_call1_c, main_while0b_call1_v1_0, main_while0b_v18]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w3`'s operations write. -/
abbrev trip_w3_W : List (Ref sig .tc) := [main_while0b_c_12, main_while0b_v19, main_while0b_c_13, main_while0b_v20, main_while0b_v21, main_while0b_v22]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w4`'s operations write. -/
abbrev trip_w4_W : List (Ref sig .tc) := [main_while0b_v23, main_while0b_cst_14, main_while0b_v24, main_while0b_v25, main_while0b_c_15, main_while0b_v26, main_while0b_c_16, main_while0b_v27, main_while0b_v28, main_while0b_c_17, main_while0b_c_18, main_while0b_v29, main_while0b_c_19, main_while0b_c_20, main_while0b_v30, main_while0b_c_21, main_while0b_v31, main_while0b_v32]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w5`'s operations write. -/
abbrev trip_w5_W : List (Ref sig .tc) := [main_while0b_v33, main_while0b_v34, main_while0b_v35, main_while0b_v36, main_while0b_v37, main_while0b_v38, main_while0b_v39, main_while0b_v40, main_while0b_v41, main_while0b_v42, main_while0b_v43, main_while0b_v44, main_while0b_v45, main_while0b_v46, main_while0b_v47, main_while0b_v48, main_while0b_v49, main_while0b_v50, main_while0b_v51, main_while0b_v52, main_while0b_v53, main_while0b_v54, main_while0b_v55, main_while0b_v56]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w6`'s operations write. -/
abbrev trip_w6_W : List (Ref sig .tc) := [main_while0b_v57, main_while0b_v58, main_while0b_cst_22]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w7`'s operations write. -/
abbrev trip_w7_W : List (Ref sig .tc) := [main_while0b_call2_v0, main_while0b_call2_v1, main_while0b_v59]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w8`'s operations write. -/
abbrev trip_w8_W : List (Ref sig .tc) := [main_while0b_v60, main_while0b_cst_23]
set_option maxRecDepth 8192 in
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w9`'s operations write. -/
abbrev trip_w9_W : List (Ref sig .tc) := [main_while0b_call3_v0, main_while0b_call3_v1, main_while0b_v61]
set_option maxRecDepth 8192 in
theorem trip_w9_writes : (trip_w9 : List (HloOp τ sig (Elt F))).Forall fun op => op.writes ⊆ (trip_w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w10`'s operations write. -/
abbrev trip_w10_W : List (Ref sig .tc) := [main_while0b_v62, main_while0b_v63, main_while0b_v64, main_while0b_v65, main_while0b_v66, main_while0b_v67, main_while0b_v68, main_while0b_v69, main_while0b_v70, main_while0b_v71, main_while0b_v72, main_while0b_v73, main_while0b_v74, main_while0b_v75, main_while0b_v76, main_while0b_v77, main_while0b_v78, main_while0b_v79, main_while0b_v80, main_while0b_v81, main_while0b_v82, main_while0b_v83, main_while0b_v84, main_while0b_v85]
set_option maxRecDepth 8192 in
theorem trip_w10_writes : (trip_w10 : List (HloOp τ sig (Elt F))).Forall fun op => op.writes ⊆ (trip_w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w11`'s operations write. -/
abbrev trip_w11_W : List (Ref sig .tc) := [main_while0b_v86, main_while0b_v87, main_while0b_cst_24, main_while0b_v88, main_while0b_v89, main_while0b_v90, main_while0b_cst_25, main_while0b_v91, main_while0b_v92, main_while0b_v93, main_while0b_v94]
set_option maxRecDepth 8192 in
theorem trip_w11_writes : (trip_w11 : List (HloOp τ sig (Elt F))).Forall fun op => op.writes ⊆ (trip_w11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w12`'s operations write. -/
abbrev trip_w12_W : List (Ref sig .tc) := [main_while0b_v95]
set_option maxRecDepth 8192 in
theorem trip_w12_writes : (trip_w12 : List (HloOp τ sig (Elt F))).Forall fun op => op.writes ⊆ (trip_w12_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers that window `trip_w13`'s operations write. -/
abbrev trip_w13_W : List (Ref sig .tc) := [main_while0b_c_26]
set_option maxRecDepth 8192 in
theorem trip_w13_writes : (trip_w13 : List (HloOp τ sig (Elt F))).Forall fun op => op.writes ⊆ (trip_w13_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers that window `trip_w14`'s operations write. -/
abbrev trip_w14_W : List (Ref sig .tc) := [main_while0b_v96]
set_option maxRecDepth 8192 in
theorem trip_w14_writes : (trip_w14 : List (HloOp τ sig (Elt F))).Forall fun op => op.writes ⊆ (trip_w14_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers that window `trip_w15`'s operations write. -/
abbrev trip_w15_W : List (Ref sig .tc) := [main_while0b_c_27, main_while0b_v97, main_while0b_c_28, main_while0b_v98, main_while0b_v99, main_while0b_v100, main_while0b_v101, main_while0b_v102]
set_option maxRecDepth 8192 in
theorem trip_w15_writes : (trip_w15 : List (HloOp τ sig (Elt F))).Forall fun op => op.writes ⊆ (trip_w15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ctr_trip_w15 (V : Valuation τ sig (Elt F)) : after trip_w15 V (Proc.devRef .tc main_v2_3) = V (Proc.devRef .tc main_v2_3) :=
  after_of_writes_sub trip_w15 V trip_w15_writes (by decide +kernel)

set_option maxRecDepth 100000 in
/-- `while0Ops0_11_step` leaves the counter one step on. -/
theorem ctr_while0Ops0_11_step (Y : Valuation τ sig (Elt F)) :
    after while0Ops0_11_step Y (Proc.devRef .tc main_v2_3) = addi (Y (Proc.devRef .tc main_v2_3)) (constantI S_ 32 1#32) := by
  after_results
  rfl

set_option maxRecDepth 100000 in
/-- `while0Ops0_11` leaves the counter one step on: its windows do not write the counter, and `while0Ops0_11_step` steps it. -/
theorem ctr_step (X : Valuation τ sig (Elt F)) :
    after while0Ops0_11 X (Proc.devRef .tc main_v2_3) = addi (X (Proc.devRef .tc main_v2_3)) (constantI S_ 32 1#32) := by
  simp only [while0Ops0_11_cut, after_append]
  rw [ctr_while0Ops0_11_step, ctr_trip_w15]

/-- The counter is the loop's lower bound at the loop's entry: its last writer before the loop read back. -/
theorem ctr_entry (c : Dev nD) : entryContents preI m c (Proc.devRef .tc main_v2_3) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v2_3) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_10, ctr_while0Ops0_9, ctr_while0Ops0_8, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 512 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v2_3 HostLoop.idx0)
        (HloOp.result _ (atK m k c) main_while0c_c_11 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 512 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 512 m ρ (cond_spec m)

end Cert.Proof.Ref

end
-- ==== Proof.Ref.Trip.lean ====
/- One trip of the reference's loop: what the body leaves in each carried buffer, as terms of the carried buffers
   (`STEP`), so that the contents at trip `k` are `STEP` iterated `k` times (`atK_agree`). -/
module

public import proofs.«01_k».proof.Proof.Ref.Run

@[expose] public section

set_option maxRecDepth 4096

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]
variable (m : (ℓ : Loc nD τ sig) → Buf (Elt F) ℓ) (ρ : Dev nD → PrngReg)

/-! ## One trip's values -/

set_option maxRecDepth 8192 in
/-- `main_while0b_v17`'s composed term of the carried buffers (named: it is used 3 times). -/
def res_main_while0b_v17 (V0 : Valuation τ sig (Elt F)) : (Proc.devRef .tc main_while0b_v17 : DevRef τ sig).ty.Contents (Elt F) :=
  select (V0 (Proc.devRef .tc main_v2_5)) (V0 (Proc.devRef .tc main_v2_0)) (broadcastInDim S20000 ![] bcast_S_S20000 (V0 (Proc.devRef .tc main_v2_1)))

set_option maxRecDepth 8192 in
/-- `main_while0b_call1_v0`'s composed term of the carried buffers (named: it is used 2 times). -/
def res_main_while0b_call1_v0 (V0 : Valuation τ sig (Elt F)) : (Proc.devRef .tc main_while0b_call1_v0 : DevRef τ sig).ty.Contents (Elt F) :=
  iotaInDim S20000 32 0

set_option maxRecDepth 8192 in
/-- `main_while0b_call1_cst`'s composed term of the carried buffers (named: it is used 2 times). -/
def res_main_while0b_call1_cst (V0 : Valuation τ sig (Elt F)) : (Proc.devRef .tc main_while0b_call1_cst : DevRef τ sig).ty.Contents (Elt F) :=
  constant S_ .f32 0xFF800000#32

set_option maxRecDepth 8192 in
/-- `main_while0b_call1_c`'s composed term of the carried buffers (named: it is used 2 times). -/
def res_main_while0b_call1_c (V0 : Valuation τ sig (Elt F)) : (Proc.devRef .tc main_while0b_call1_c : DevRef τ sig).ty.Contents (Elt F) :=
  constantI S_ 32 0#32

set_option maxRecDepth 8192 in
/-- `main_while0b_v18`'s composed term of the carried buffers (named: it is used 7 times). -/
def res_main_while0b_v18 (V0 : Valuation τ sig (Elt F)) : (Proc.devRef .tc main_while0b_v18 : DevRef τ sig).ty.Contents (Elt F) :=
  (fun j => (Host.argReduce reducer_argmax_f32_i32 (res_main_while0b_v17 V0) (res_main_while0b_call1_v0 V0) (res_main_while0b_call1_cst V0) (res_main_while0b_call1_c V0) reducesTo_S20000_S_d0 h_S_ j).2)

set_option maxRecDepth 8192 in
/-- `main_while0b_v25`'s composed term of the carried buffers (named: it is used 2 times). -/
def res_main_while0b_v25 (V0 : Valuation τ sig (Elt F)) : (Proc.devRef .tc main_while0b_v25 : DevRef τ sig).ty.Contents (Elt F) :=
  cmpf .ogt (shapeCast S_ (Host.dynamicSlice S1 (res_main_while0b_v17 V0) (fun k => (((![select (cmpi .slt (res_main_while0b_v18 V0) (constantI S_ 32 0#32)) (addi (res_main_while0b_v18 V0) (constantI S_ 32 20000#32)) (res_main_while0b_v18 V0)] : Fin 1 → (⟨S_, .i32⟩ : BufTy).Contents (Elt F))) k (Shape.Idx.first h_S_)).toInt) sliceFits_S20000_S1) shapeCasts_S1_S_) (Host.divf (V0 (Proc.devRef .tc main_v2_1)) (constant S_ .f32 0x40000000#32))

set_option maxRecDepth 8192 in
/-- `main_while0b_v33`'s composed term of the carried buffers (named: it is used 8 times). -/
def res_main_while0b_v33 (V0 : Valuation τ sig (Elt F)) : (Proc.devRef .tc main_while0b_v33 : DevRef τ sig).ty.Contents (Elt F) :=
  shapeCast S4 (Host.dynamicSlice S1x4 (V0 (Proc.devRef .tc main_v2_2)) (fun k => (((![select (cmpi .slt (res_main_while0b_v18 V0) (constantI S_ 32 0#32)) (addi (res_main_while0b_v18 V0) (constantI S_ 32 20000#32)) (res_main_while0b_v18 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S20000x4_S1x4) shapeCasts_S1x4_S4

set_option maxRecDepth 8192 in
/-- `main_while0b_v62`'s composed term of the carried buffers (named: it is used 2 times). -/
def res_main_while0b_v62 (V0 : Valuation τ sig (Elt F)) : (Proc.devRef .tc main_while0b_v62 : DevRef τ sig).ty.Contents (Elt F) :=
  mulf (maximumf (broadcastInDim S20000 ![] bcast_S_S20000 (id (constant S_ .f32 0x00000000#32))) (subf (minimumf (broadcastInDim S20000 ![] bcast_S_S20000 (shapeCast S_ (extractStridedSlice S1 ![2] (res_main_while0b_v33 V0) slices_S4_S1_2) shapeCasts_S1_S_)) (shapeCast S20000 (extractStridedSlice S20000x1 ![0, 2] (V0 (Proc.devRef .tc main_v2_2)) slices_S20000x4_S20000x1_0_2) shapeCasts_S20000x1_S20000)) (maximumf (broadcastInDim S20000 ![] bcast_S_S20000 (shapeCast S_ (extractStridedSlice S1 ![0] (res_main_while0b_v33 V0) slices_S4_S1_0) shapeCasts_S1_S_)) (shapeCast S20000 (extractStridedSlice S20000x1 ![0, 0] (V0 (Proc.devRef .tc main_v2_2)) slices_S20000x4_S20000x1_0_0) shapeCasts_S20000x1_S20000)))) (maximumf (broadcastInDim S20000 ![] bcast_S_S20000 (id (constant S_ .f32 0x00000000#32))) (subf (minimumf (broadcastInDim S20000 ![] bcast_S_S20000 (shapeCast S_ (extractStridedSlice S1 ![3] (res_main_while0b_v33 V0) slices_S4_S1_3) shapeCasts_S1_S_)) (shapeCast S20000 (extractStridedSlice S20000x1 ![0, 3] (V0 (Proc.devRef .tc main_v2_2)) slices_S20000x4_S20000x1_0_3) shapeCasts_S20000x1_S20000)) (maximumf (broadcastInDim S20000 ![] bcast_S_S20000 (shapeCast S_ (extractStridedSlice S1 ![1] (res_main_while0b_v33 V0) slices_S4_S1_1) shapeCasts_S1_S_)) (shapeCast S20000 (extractStridedSlice S20000x1 ![0, 1] (V0 (Proc.devRef .tc main_v2_2)) slices_S20000x4_S20000x1_0_1) shapeCasts_S20000x1_S20000))))

/-- The device's buffer contents before the body's first window. -/
def val0 (V0 : Valuation τ sig (Elt F)) : Valuation τ sig (Elt F) := V0
theorem val0_main_v2_4 (V0 : Valuation τ sig (Elt F)) : val0 V0 (no_index (Proc.devRef .tc main_v2_4)) = V0 (Proc.devRef .tc main_v2_4) := rfl
theorem val0_main_v2_1 (V0 : Valuation τ sig (Elt F)) : val0 V0 (no_index (Proc.devRef .tc main_v2_1)) = V0 (Proc.devRef .tc main_v2_1) := rfl
theorem val0_main_v2_5 (V0 : Valuation τ sig (Elt F)) : val0 V0 (no_index (Proc.devRef .tc main_v2_5)) = V0 (Proc.devRef .tc main_v2_5) := rfl
theorem val0_main_v2_0 (V0 : Valuation τ sig (Elt F)) : val0 V0 (no_index (Proc.devRef .tc main_v2_0)) = V0 (Proc.devRef .tc main_v2_0) := rfl
theorem val0_main_v2_2 (V0 : Valuation τ sig (Elt F)) : val0 V0 (no_index (Proc.devRef .tc main_v2_2)) = V0 (Proc.devRef .tc main_v2_2) := rfl
theorem val0_main_v2_6 (V0 : Valuation τ sig (Elt F)) : val0 V0 (no_index (Proc.devRef .tc main_v2_6)) = V0 (Proc.devRef .tc main_v2_6) := rfl
theorem val0_main_v2_3 (V0 : Valuation τ sig (Elt F)) : val0 V0 (no_index (Proc.devRef .tc main_v2_3)) = V0 (Proc.devRef .tc main_v2_3) := rfl

/-- The device's buffer contents after the body's first 1 window. -/
def val1 (V0 : Valuation τ sig (Elt F)) : Valuation τ sig (Elt F) := after trip_w0 (val0 V0)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v2_4 (V0 : Valuation τ sig (Elt F)) : val1 V0 (no_index (Proc.devRef .tc main_v2_4)) = V0 (Proc.devRef .tc main_v2_4) :=
  (val1_keep V0 main_v2_4 (by decide)).trans (val0_main_v2_4 V0)
theorem val1_main_v2_1 (V0 : Valuation τ sig (Elt F)) : val1 V0 (no_index (Proc.devRef .tc main_v2_1)) = V0 (Proc.devRef .tc main_v2_1) :=
  (val1_keep V0 main_v2_1 (by decide)).trans (val0_main_v2_1 V0)
theorem val1_main_v2_5 (V0 : Valuation τ sig (Elt F)) : val1 V0 (no_index (Proc.devRef .tc main_v2_5)) = V0 (Proc.devRef .tc main_v2_5) :=
  (val1_keep V0 main_v2_5 (by decide)).trans (val0_main_v2_5 V0)
theorem val1_main_v2_0 (V0 : Valuation τ sig (Elt F)) : val1 V0 (no_index (Proc.devRef .tc main_v2_0)) = V0 (Proc.devRef .tc main_v2_0) :=
  (val1_keep V0 main_v2_0 (by decide)).trans (val0_main_v2_0 V0)
theorem val1_main_v2_2 (V0 : Valuation τ sig (Elt F)) : val1 V0 (no_index (Proc.devRef .tc main_v2_2)) = V0 (Proc.devRef .tc main_v2_2) :=
  (val1_keep V0 main_v2_2 (by decide)).trans (val0_main_v2_2 V0)
theorem val1_main_v2_6 (V0 : Valuation τ sig (Elt F)) : val1 V0 (no_index (Proc.devRef .tc main_v2_6)) = V0 (Proc.devRef .tc main_v2_6) :=
  (val1_keep V0 main_v2_6 (by decide)).trans (val0_main_v2_6 V0)
theorem val1_main_v2_3 (V0 : Valuation τ sig (Elt F)) : val1 V0 (no_index (Proc.devRef .tc main_v2_3)) = V0 (Proc.devRef .tc main_v2_3) :=
  (val1_keep V0 main_v2_3 (by decide)).trans (val0_main_v2_3 V0)
set_option maxRecDepth 8192 in
theorem val1_main_while0b_v16 (V0 : Valuation τ sig (Elt F)) : val1 V0 (no_index (Proc.devRef .tc main_while0b_v16)) = addi (V0 (Proc.devRef .tc main_v2_4)) (constantI S_ 32 1#32) := by
  unfold val1
  simp only [trip_w0]
  after_results_entrywise [val0_main_v2_4, cast_eq]

/-- The device's buffer contents after the body's first 2 windows. -/
def val2 (V0 : Valuation τ sig (Elt F)) : Valuation τ sig (Elt F) := after trip_w1 (val1 V0)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v2_4 (V0 : Valuation τ sig (Elt F)) : val2 V0 (no_index (Proc.devRef .tc main_v2_4)) = V0 (Proc.devRef .tc main_v2_4) :=
  (val2_keep V0 main_v2_4 (by decide)).trans (val1_main_v2_4 V0)
theorem val2_main_v2_1 (V0 : Valuation τ sig (Elt F)) : val2 V0 (no_index (Proc.devRef .tc main_v2_1)) = V0 (Proc.devRef .tc main_v2_1) :=
  (val2_keep V0 main_v2_1 (by decide)).trans (val1_main_v2_1 V0)
theorem val2_main_v2_5 (V0 : Valuation τ sig (Elt F)) : val2 V0 (no_index (Proc.devRef .tc main_v2_5)) = V0 (Proc.devRef .tc main_v2_5) :=
  (val2_keep V0 main_v2_5 (by decide)).trans (val1_main_v2_5 V0)
theorem val2_main_v2_0 (V0 : Valuation τ sig (Elt F)) : val2 V0 (no_index (Proc.devRef .tc main_v2_0)) = V0 (Proc.devRef .tc main_v2_0) :=
  (val2_keep V0 main_v2_0 (by decide)).trans (val1_main_v2_0 V0)
theorem val2_main_v2_2 (V0 : Valuation τ sig (Elt F)) : val2 V0 (no_index (Proc.devRef .tc main_v2_2)) = V0 (Proc.devRef .tc main_v2_2) :=
  (val2_keep V0 main_v2_2 (by decide)).trans (val1_main_v2_2 V0)
theorem val2_main_v2_6 (V0 : Valuation τ sig (Elt F)) : val2 V0 (no_index (Proc.devRef .tc main_v2_6)) = V0 (Proc.devRef .tc main_v2_6) :=
  (val2_keep V0 main_v2_6 (by decide)).trans (val1_main_v2_6 V0)
theorem val2_main_v2_3 (V0 : Valuation τ sig (Elt F)) : val2 V0 (no_index (Proc.devRef .tc main_v2_3)) = V0 (Proc.devRef .tc main_v2_3) :=
  (val2_keep V0 main_v2_3 (by decide)).trans (val1_main_v2_3 V0)
theorem val2_main_while0b_v16 (V0 : Valuation τ sig (Elt F)) : val2 V0 (no_index (Proc.devRef .tc main_while0b_v16)) = addi (V0 (Proc.devRef .tc main_v2_4)) (constantI S_ 32 1#32) :=
  (val2_keep V0 main_while0b_v16 (by decide)).trans (val1_main_while0b_v16 V0)
set_option maxRecDepth 8192 in
theorem val2_main_while0b_v17 (V0 : Valuation τ sig (Elt F)) : val2 V0 (no_index (Proc.devRef .tc main_while0b_v17)) = res_main_while0b_v17 V0 := by
  unfold val2
  simp only [trip_w1]
  after_results_entrywise [val1_main_v2_1, val1_main_v2_0, val1_main_v2_5, res_main_while0b_v17, cast_eq]

/-- The device's buffer contents after the body's first 3 windows. -/
def val3 (V0 : Valuation τ sig (Elt F)) : Valuation τ sig (Elt F) := after trip_w2 (val2 V0)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v2_4 (V0 : Valuation τ sig (Elt F)) : val3 V0 (no_index (Proc.devRef .tc main_v2_4)) = V0 (Proc.devRef .tc main_v2_4) :=
  (val3_keep V0 main_v2_4 (by decide)).trans (val2_main_v2_4 V0)
theorem val3_main_v2_1 (V0 : Valuation τ sig (Elt F)) : val3 V0 (no_index (Proc.devRef .tc main_v2_1)) = V0 (Proc.devRef .tc main_v2_1) :=
  (val3_keep V0 main_v2_1 (by decide)).trans (val2_main_v2_1 V0)
theorem val3_main_v2_5 (V0 : Valuation τ sig (Elt F)) : val3 V0 (no_index (Proc.devRef .tc main_v2_5)) = V0 (Proc.devRef .tc main_v2_5) :=
  (val3_keep V0 main_v2_5 (by decide)).trans (val2_main_v2_5 V0)
theorem val3_main_v2_0 (V0 : Valuation τ sig (Elt F)) : val3 V0 (no_index (Proc.devRef .tc main_v2_0)) = V0 (Proc.devRef .tc main_v2_0) :=
  (val3_keep V0 main_v2_0 (by decide)).trans (val2_main_v2_0 V0)
theorem val3_main_v2_2 (V0 : Valuation τ sig (Elt F)) : val3 V0 (no_index (Proc.devRef .tc main_v2_2)) = V0 (Proc.devRef .tc main_v2_2) :=
  (val3_keep V0 main_v2_2 (by decide)).trans (val2_main_v2_2 V0)
theorem val3_main_v2_6 (V0 : Valuation τ sig (Elt F)) : val3 V0 (no_index (Proc.devRef .tc main_v2_6)) = V0 (Proc.devRef .tc main_v2_6) :=
  (val3_keep V0 main_v2_6 (by decide)).trans (val2_main_v2_6 V0)
theorem val3_main_v2_3 (V0 : Valuation τ sig (Elt F)) : val3 V0 (no_index (Proc.devRef .tc main_v2_3)) = V0 (Proc.devRef .tc main_v2_3) :=
  (val3_keep V0 main_v2_3 (by decide)).trans (val2_main_v2_3 V0)
theorem val3_main_while0b_v16 (V0 : Valuation τ sig (Elt F)) : val3 V0 (no_index (Proc.devRef .tc main_while0b_v16)) = addi (V0 (Proc.devRef .tc main_v2_4)) (constantI S_ 32 1#32) :=
  (val3_keep V0 main_while0b_v16 (by decide)).trans (val2_main_while0b_v16 V0)
theorem val3_main_while0b_v17 (V0 : Valuation τ sig (Elt F)) : val3 V0 (no_index (Proc.devRef .tc main_while0b_v17)) = res_main_while0b_v17 V0 :=
  (val3_keep V0 main_while0b_v17 (by decide)).trans (val2_main_while0b_v17 V0)
set_option maxRecDepth 8192 in
theorem val3_main_while0b_v18 (V0 : Valuation τ sig (Elt F)) : val3 V0 (no_index (Proc.devRef .tc main_while0b_v18)) = res_main_while0b_v18 V0 := by
  unfold val3
  simp only [trip_w2]
  after_results_entrywise [val2_main_while0b_v17, res_main_while0b_call1_v0, res_main_while0b_call1_cst, res_main_while0b_call1_c, res_main_while0b_v18, cast_eq]

/-- The device's buffer contents after the body's first 4 windows. -/
def val4 (V0 : Valuation τ sig (Elt F)) : Valuation τ sig (Elt F) := after trip_w3 (val3 V0)
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v2_4 (V0 : Valuation τ sig (Elt F)) : val4 V0 (no_index (Proc.devRef .tc main_v2_4)) = V0 (Proc.devRef .tc main_v2_4) :=
  (val4_keep V0 main_v2_4 (by decide)).trans (val3_main_v2_4 V0)
theorem val4_main_v2_1 (V0 : Valuation τ sig (Elt F)) : val4 V0 (no_index (Proc.devRef .tc main_v2_1)) = V0 (Proc.devRef .tc main_v2_1) :=
  (val4_keep V0 main_v2_1 (by decide)).trans (val3_main_v2_1 V0)
theorem val4_main_v2_5 (V0 : Valuation τ sig (Elt F)) : val4 V0 (no_index (Proc.devRef .tc main_v2_5)) = V0 (Proc.devRef .tc main_v2_5) :=
  (val4_keep V0 main_v2_5 (by decide)).trans (val3_main_v2_5 V0)
theorem val4_main_v2_0 (V0 : Valuation τ sig (Elt F)) : val4 V0 (no_index (Proc.devRef .tc main_v2_0)) = V0 (Proc.devRef .tc main_v2_0) :=
  (val4_keep V0 main_v2_0 (by decide)).trans (val3_main_v2_0 V0)
theorem val4_main_v2_2 (V0 : Valuation τ sig (Elt F)) : val4 V0 (no_index (Proc.devRef .tc main_v2_2)) = V0 (Proc.devRef .tc main_v2_2) :=
  (val4_keep V0 main_v2_2 (by decide)).trans (val3_main_v2_2 V0)
theorem val4_main_v2_6 (V0 : Valuation τ sig (Elt F)) : val4 V0 (no_index (Proc.devRef .tc main_v2_6)) = V0 (Proc.devRef .tc main_v2_6) :=
  (val4_keep V0 main_v2_6 (by decide)).trans (val3_main_v2_6 V0)
theorem val4_main_v2_3 (V0 : Valuation τ sig (Elt F)) : val4 V0 (no_index (Proc.devRef .tc main_v2_3)) = V0 (Proc.devRef .tc main_v2_3) :=
  (val4_keep V0 main_v2_3 (by decide)).trans (val3_main_v2_3 V0)
theorem val4_main_while0b_v16 (V0 : Valuation τ sig (Elt F)) : val4 V0 (no_index (Proc.devRef .tc main_while0b_v16)) = addi (V0 (Proc.devRef .tc main_v2_4)) (constantI S_ 32 1#32) :=
  (val4_keep V0 main_while0b_v16 (by decide)).trans (val3_main_while0b_v16 V0)
theorem val4_main_while0b_v18 (V0 : Valuation τ sig (Elt F)) : val4 V0 (no_index (Proc.devRef .tc main_while0b_v18)) = res_main_while0b_v18 V0 :=
  (val4_keep V0 main_while0b_v18 (by decide)).trans (val3_main_while0b_v18 V0)
set_option maxRecDepth 8192 in
theorem val4_main_while0b_v22 (V0 : Valuation τ sig (Elt F)) : val4 V0 (no_index (Proc.devRef .tc main_while0b_v22)) = Host.dynamicSlice S1 (res_main_while0b_v17 V0) (fun k => (((![select (cmpi .slt (res_main_while0b_v18 V0) (constantI S_ 32 0#32)) (addi (res_main_while0b_v18 V0) (constantI S_ 32 20000#32)) (res_main_while0b_v18 V0)] : Fin 1 → (⟨S_, .i32⟩ : BufTy).Contents (Elt F))) k (Shape.Idx.first h_S_)).toInt) sliceFits_S20000_S1 := by
  unfold val4
  simp only [trip_w3]
  after_results_entrywise [val3_main_while0b_v18, val3_main_while0b_v17, cast_eq]

/-- The device's buffer contents after the body's first 5 windows. -/
def val5 (V0 : Valuation τ sig (Elt F)) : Valuation τ sig (Elt F) := after trip_w4 (val4 V0)
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v2_4 (V0 : Valuation τ sig (Elt F)) : val5 V0 (no_index (Proc.devRef .tc main_v2_4)) = V0 (Proc.devRef .tc main_v2_4) :=
  (val5_keep V0 main_v2_4 (by decide)).trans (val4_main_v2_4 V0)
theorem val5_main_v2_1 (V0 : Valuation τ sig (Elt F)) : val5 V0 (no_index (Proc.devRef .tc main_v2_1)) = V0 (Proc.devRef .tc main_v2_1) :=
  (val5_keep V0 main_v2_1 (by decide)).trans (val4_main_v2_1 V0)
theorem val5_main_v2_5 (V0 : Valuation τ sig (Elt F)) : val5 V0 (no_index (Proc.devRef .tc main_v2_5)) = V0 (Proc.devRef .tc main_v2_5) :=
  (val5_keep V0 main_v2_5 (by decide)).trans (val4_main_v2_5 V0)
theorem val5_main_v2_0 (V0 : Valuation τ sig (Elt F)) : val5 V0 (no_index (Proc.devRef .tc main_v2_0)) = V0 (Proc.devRef .tc main_v2_0) :=
  (val5_keep V0 main_v2_0 (by decide)).trans (val4_main_v2_0 V0)
theorem val5_main_v2_2 (V0 : Valuation τ sig (Elt F)) : val5 V0 (no_index (Proc.devRef .tc main_v2_2)) = V0 (Proc.devRef .tc main_v2_2) :=
  (val5_keep V0 main_v2_2 (by decide)).trans (val4_main_v2_2 V0)
theorem val5_main_v2_6 (V0 : Valuation τ sig (Elt F)) : val5 V0 (no_index (Proc.devRef .tc main_v2_6)) = V0 (Proc.devRef .tc main_v2_6) :=
  (val5_keep V0 main_v2_6 (by decide)).trans (val4_main_v2_6 V0)
theorem val5_main_v2_3 (V0 : Valuation τ sig (Elt F)) : val5 V0 (no_index (Proc.devRef .tc main_v2_3)) = V0 (Proc.devRef .tc main_v2_3) :=
  (val5_keep V0 main_v2_3 (by decide)).trans (val4_main_v2_3 V0)
theorem val5_main_while0b_v16 (V0 : Valuation τ sig (Elt F)) : val5 V0 (no_index (Proc.devRef .tc main_while0b_v16)) = addi (V0 (Proc.devRef .tc main_v2_4)) (constantI S_ 32 1#32) :=
  (val5_keep V0 main_while0b_v16 (by decide)).trans (val4_main_while0b_v16 V0)
theorem val5_main_while0b_v18 (V0 : Valuation τ sig (Elt F)) : val5 V0 (no_index (Proc.devRef .tc main_while0b_v18)) = res_main_while0b_v18 V0 :=
  (val5_keep V0 main_while0b_v18 (by decide)).trans (val4_main_while0b_v18 V0)
set_option maxRecDepth 8192 in
set_option maxHeartbeats 1800000 in
theorem val5_main_while0b_v25 (V0 : Valuation τ sig (Elt F)) : val5 V0 (no_index (Proc.devRef .tc main_while0b_v25)) = res_main_while0b_v25 V0 := by
  unfold val5
  simp only [trip_w4]
  after_results_entrywise [val4_main_v2_1, val4_main_while0b_v22, res_main_while0b_v25, cast_eq]
set_option maxRecDepth 8192 in
set_option maxHeartbeats 1800000 in
theorem val5_main_while0b_v32 (V0 : Valuation τ sig (Elt F)) : val5 V0 (no_index (Proc.devRef .tc main_while0b_v32)) = Host.dynamicSlice S1x4 (V0 (Proc.devRef .tc main_v2_2)) (fun k => (((![select (cmpi .slt (res_main_while0b_v18 V0) (constantI S_ 32 0#32)) (addi (res_main_while0b_v18 V0) (constantI S_ 32 20000#32)) (res_main_while0b_v18 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S20000x4_S1x4 := by
  unfold val5
  simp only [trip_w4]
  after_results_entrywise [val4_main_while0b_v18, val4_main_v2_2, cast_eq]

/-- The device's buffer contents after the body's first 6 windows. -/
def val6 (V0 : Valuation τ sig (Elt F)) : Valuation τ sig (Elt F) := after trip_w5 (val5 V0)
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v2_4 (V0 : Valuation τ sig (Elt F)) : val6 V0 (no_index (Proc.devRef .tc main_v2_4)) = V0 (Proc.devRef .tc main_v2_4) :=
  (val6_keep V0 main_v2_4 (by decide)).trans (val5_main_v2_4 V0)
theorem val6_main_v2_1 (V0 : Valuation τ sig (Elt F)) : val6 V0 (no_index (Proc.devRef .tc main_v2_1)) = V0 (Proc.devRef .tc main_v2_1) :=
  (val6_keep V0 main_v2_1 (by decide)).trans (val5_main_v2_1 V0)
theorem val6_main_v2_5 (V0 : Valuation τ sig (Elt F)) : val6 V0 (no_index (Proc.devRef .tc main_v2_5)) = V0 (Proc.devRef .tc main_v2_5) :=
  (val6_keep V0 main_v2_5 (by decide)).trans (val5_main_v2_5 V0)
theorem val6_main_v2_0 (V0 : Valuation τ sig (Elt F)) : val6 V0 (no_index (Proc.devRef .tc main_v2_0)) = V0 (Proc.devRef .tc main_v2_0) :=
  (val6_keep V0 main_v2_0 (by decide)).trans (val5_main_v2_0 V0)
theorem val6_main_v2_2 (V0 : Valuation τ sig (Elt F)) : val6 V0 (no_index (Proc.devRef .tc main_v2_2)) = V0 (Proc.devRef .tc main_v2_2) :=
  (val6_keep V0 main_v2_2 (by decide)).trans (val5_main_v2_2 V0)
theorem val6_main_v2_6 (V0 : Valuation τ sig (Elt F)) : val6 V0 (no_index (Proc.devRef .tc main_v2_6)) = V0 (Proc.devRef .tc main_v2_6) :=
  (val6_keep V0 main_v2_6 (by decide)).trans (val5_main_v2_6 V0)
theorem val6_main_v2_3 (V0 : Valuation τ sig (Elt F)) : val6 V0 (no_index (Proc.devRef .tc main_v2_3)) = V0 (Proc.devRef .tc main_v2_3) :=
  (val6_keep V0 main_v2_3 (by decide)).trans (val5_main_v2_3 V0)
theorem val6_main_while0b_v16 (V0 : Valuation τ sig (Elt F)) : val6 V0 (no_index (Proc.devRef .tc main_while0b_v16)) = addi (V0 (Proc.devRef .tc main_v2_4)) (constantI S_ 32 1#32) :=
  (val6_keep V0 main_while0b_v16 (by decide)).trans (val5_main_while0b_v16 V0)
theorem val6_main_while0b_v18 (V0 : Valuation τ sig (Elt F)) : val6 V0 (no_index (Proc.devRef .tc main_while0b_v18)) = res_main_while0b_v18 V0 :=
  (val6_keep V0 main_while0b_v18 (by decide)).trans (val5_main_while0b_v18 V0)
theorem val6_main_while0b_v25 (V0 : Valuation τ sig (Elt F)) : val6 V0 (no_index (Proc.devRef .tc main_while0b_v25)) = res_main_while0b_v25 V0 :=
  (val6_keep V0 main_while0b_v25 (by decide)).trans (val5_main_while0b_v25 V0)
set_option maxRecDepth 8192 in
set_option maxHeartbeats 2000000 in
theorem val6_main_while0b_v33 (V0 : Valuation τ sig (Elt F)) : val6 V0 (no_index (Proc.devRef .tc main_while0b_v33)) = res_main_while0b_v33 V0 := by
  unfold val6
  simp only [trip_w5]
  after_results_entrywise [val5_main_while0b_v32, res_main_while0b_v33, cast_eq]
set_option maxRecDepth 8192 in
set_option maxHeartbeats 2000000 in
theorem val6_main_while0b_v39 (V0 : Valuation τ sig (Elt F)) : val6 V0 (no_index (Proc.devRef .tc main_while0b_v39)) = maximumf (broadcastInDim S20000 ![] bcast_S_S20000 (shapeCast S_ (extractStridedSlice S1 ![0] (res_main_while0b_v33 V0) slices_S4_S1_0) shapeCasts_S1_S_)) (shapeCast S20000 (extractStridedSlice S20000x1 ![0, 0] (V0 (Proc.devRef .tc main_v2_2)) slices_S20000x4_S20000x1_0_0) shapeCasts_S20000x1_S20000) := by
  unfold val6
  simp only [trip_w5]
  after_results_entrywise [val5_main_v2_2, val5_main_while0b_v32, res_main_while0b_v33, cast_eq]
set_option maxRecDepth 8192 in
set_option maxHeartbeats 2000000 in
theorem val6_main_while0b_v45 (V0 : Valuation τ sig (Elt F)) : val6 V0 (no_index (Proc.devRef .tc main_while0b_v45)) = maximumf (broadcastInDim S20000 ![] bcast_S_S20000 (shapeCast S_ (extractStridedSlice S1 ![1] (res_main_while0b_v33 V0) slices_S4_S1_1) shapeCasts_S1_S_)) (shapeCast S20000 (extractStridedSlice S20000x1 ![0, 1] (V0 (Proc.devRef .tc main_v2_2)) slices_S20000x4_S20000x1_0_1) shapeCasts_S20000x1_S20000) := by
  unfold val6
  simp only [trip_w5]
  after_results_entrywise [val5_main_v2_2, val5_main_while0b_v32, res_main_while0b_v33, cast_eq]
set_option maxRecDepth 8192 in
set_option maxHeartbeats 2000000 in
theorem val6_main_while0b_v51 (V0 : Valuation τ sig (Elt F)) : val6 V0 (no_index (Proc.devRef .tc main_while0b_v51)) = minimumf (broadcastInDim S20000 ![] bcast_S_S20000 (shapeCast S_ (extractStridedSlice S1 ![2] (res_main_while0b_v33 V0) slices_S4_S1_2) shapeCasts_S1_S_)) (shapeCast S20000 (extractStridedSlice S20000x1 ![0, 2] (V0 (Proc.devRef .tc main_v2_2)) slices_S20000x4_S20000x1_0_2) shapeCasts_S20000x1_S20000) := by
  unfold val6
  simp only [trip_w5]
  after_results_entrywise [val5_main_v2_2, val5_main_while0b_v32, res_main_while0b_v33, cast_eq]
set_option maxRecDepth 8192 in
set_option maxHeartbeats 2000000 in
theorem val6_main_while0b_v55 (V0 : Valuation τ sig (Elt F)) : val6 V0 (no_index (Proc.devRef .tc main_while0b_v55)) = shapeCast S20000 (extractStridedSlice S20000x1 ![0, 3] (V0 (Proc.devRef .tc main_v2_2)) slices_S20000x4_S20000x1_0_3) shapeCasts_S20000x1_S20000 := by
  unfold val6
  simp only [trip_w5]
  after_results_entrywise [val5_main_v2_2, cast_eq]
set_option maxRecDepth 8192 in
set_option maxHeartbeats 2000000 in
theorem val6_main_while0b_v56 (V0 : Valuation τ sig (Elt F)) : val6 V0 (no_index (Proc.devRef .tc main_while0b_v56)) = broadcastInDim S20000 ![] bcast_S_S20000 (shapeCast S_ (extractStridedSlice S1 ![3] (res_main_while0b_v33 V0) slices_S4_S1_3) shapeCasts_S1_S_) := by
  unfold val6
  simp only [trip_w5]
  after_results_entrywise [val5_main_while0b_v32, res_main_while0b_v33, cast_eq]

/-- The device's buffer contents after the body's first 7 windows. -/
def val7 (V0 : Valuation τ sig (Elt F)) : Valuation τ sig (Elt F) := after trip_w6 (val6 V0)
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v2_4 (V0 : Valuation τ sig (Elt F)) : val7 V0 (no_index (Proc.devRef .tc main_v2_4)) = V0 (Proc.devRef .tc main_v2_4) :=
  (val7_keep V0 main_v2_4 (by decide)).trans (val6_main_v2_4 V0)
theorem val7_main_v2_1 (V0 : Valuation τ sig (Elt F)) : val7 V0 (no_index (Proc.devRef .tc main_v2_1)) = V0 (Proc.devRef .tc main_v2_1) :=
  (val7_keep V0 main_v2_1 (by decide)).trans (val6_main_v2_1 V0)
theorem val7_main_v2_5 (V0 : Valuation τ sig (Elt F)) : val7 V0 (no_index (Proc.devRef .tc main_v2_5)) = V0 (Proc.devRef .tc main_v2_5) :=
  (val7_keep V0 main_v2_5 (by decide)).trans (val6_main_v2_5 V0)
theorem val7_main_v2_0 (V0 : Valuation τ sig (Elt F)) : val7 V0 (no_index (Proc.devRef .tc main_v2_0)) = V0 (Proc.devRef .tc main_v2_0) :=
  (val7_keep V0 main_v2_0 (by decide)).trans (val6_main_v2_0 V0)
theorem val7_main_v2_2 (V0 : Valuation τ sig (Elt F)) : val7 V0 (no_index (Proc.devRef .tc main_v2_2)) = V0 (Proc.devRef .tc main_v2_2) :=
  (val7_keep V0 main_v2_2 (by decide)).trans (val6_main_v2_2 V0)
theorem val7_main_v2_6 (V0 : Valuation τ sig (Elt F)) : val7 V0 (no_index (Proc.devRef .tc main_v2_6)) = V0 (Proc.devRef .tc main_v2_6) :=
  (val7_keep V0 main_v2_6 (by decide)).trans (val6_main_v2_6 V0)
theorem val7_main_v2_3 (V0 : Valuation τ sig (Elt F)) : val7 V0 (no_index (Proc.devRef .tc main_v2_3)) = V0 (Proc.devRef .tc main_v2_3) :=
  (val7_keep V0 main_v2_3 (by decide)).trans (val6_main_v2_3 V0)
theorem val7_main_while0b_v16 (V0 : Valuation τ sig (Elt F)) : val7 V0 (no_index (Proc.devRef .tc main_while0b_v16)) = addi (V0 (Proc.devRef .tc main_v2_4)) (constantI S_ 32 1#32) :=
  (val7_keep V0 main_while0b_v16 (by decide)).trans (val6_main_while0b_v16 V0)
theorem val7_main_while0b_v18 (V0 : Valuation τ sig (Elt F)) : val7 V0 (no_index (Proc.devRef .tc main_while0b_v18)) = res_main_while0b_v18 V0 :=
  (val7_keep V0 main_while0b_v18 (by decide)).trans (val6_main_while0b_v18 V0)
theorem val7_main_while0b_v25 (V0 : Valuation τ sig (Elt F)) : val7 V0 (no_index (Proc.devRef .tc main_while0b_v25)) = res_main_while0b_v25 V0 :=
  (val7_keep V0 main_while0b_v25 (by decide)).trans (val6_main_while0b_v25 V0)
theorem val7_main_while0b_v33 (V0 : Valuation τ sig (Elt F)) : val7 V0 (no_index (Proc.devRef .tc main_while0b_v33)) = res_main_while0b_v33 V0 :=
  (val7_keep V0 main_while0b_v33 (by decide)).trans (val6_main_while0b_v33 V0)
theorem val7_main_while0b_v45 (V0 : Valuation τ sig (Elt F)) : val7 V0 (no_index (Proc.devRef .tc main_while0b_v45)) = maximumf (broadcastInDim S20000 ![] bcast_S_S20000 (shapeCast S_ (extractStridedSlice S1 ![1] (res_main_while0b_v33 V0) slices_S4_S1_1) shapeCasts_S1_S_)) (shapeCast S20000 (extractStridedSlice S20000x1 ![0, 1] (V0 (Proc.devRef .tc main_v2_2)) slices_S20000x4_S20000x1_0_1) shapeCasts_S20000x1_S20000) :=
  (val7_keep V0 main_while0b_v45 (by decide)).trans (val6_main_while0b_v45 V0)
set_option maxRecDepth 8192 in
theorem val7_main_while0b_v57 (V0 : Valuation τ sig (Elt F)) : val7 V0 (no_index (Proc.devRef .tc main_while0b_v57)) = minimumf (broadcastInDim S20000 ![] bcast_S_S20000 (shapeCast S_ (extractStridedSlice S1 ![3] (res_main_while0b_v33 V0) slices_S4_S1_3) shapeCasts_S1_S_)) (shapeCast S20000 (extractStridedSlice S20000x1 ![0, 3] (V0 (Proc.devRef .tc main_v2_2)) slices_S20000x4_S20000x1_0_3) shapeCasts_S20000x1_S20000) := by
  unfold val7
  simp only [trip_w6]
  after_results_entrywise [val6_main_while0b_v55, val6_main_while0b_v56, cast_eq]
set_option maxRecDepth 8192 in
theorem val7_main_while0b_v58 (V0 : Valuation τ sig (Elt F)) : val7 V0 (no_index (Proc.devRef .tc main_while0b_v58)) = subf (minimumf (broadcastInDim S20000 ![] bcast_S_S20000 (shapeCast S_ (extractStridedSlice S1 ![2] (res_main_while0b_v33 V0) slices_S4_S1_2) shapeCasts_S1_S_)) (shapeCast S20000 (extractStridedSlice S20000x1 ![0, 2] (V0 (Proc.devRef .tc main_v2_2)) slices_S20000x4_S20000x1_0_2) shapeCasts_S20000x1_S20000)) (maximumf (broadcastInDim S20000 ![] bcast_S_S20000 (shapeCast S_ (extractStridedSlice S1 ![0] (res_main_while0b_v33 V0) slices_S4_S1_0) shapeCasts_S1_S_)) (shapeCast S20000 (extractStridedSlice S20000x1 ![0, 0] (V0 (Proc.devRef .tc main_v2_2)) slices_S20000x4_S20000x1_0_0) shapeCasts_S20000x1_S20000)) := by
  unfold val7
  simp only [trip_w6]
  after_results_entrywise [val6_main_while0b_v39, val6_main_while0b_v51, cast_eq]
set_option maxRecDepth 8192 in
theorem val7_main_while0b_cst_22 (V0 : Valuation τ sig (Elt F)) : val7 V0 (no_index (Proc.devRef .tc main_while0b_cst_22)) = constant S_ .f32 0x00000000#32 := by
  unfold val7
  simp only [trip_w6]
  after_results_entrywise [cast_eq]

/-- The device's buffer contents after the body's first 8 windows. -/
def val8 (V0 : Valuation τ sig (Elt F)) : Valuation τ sig (Elt F) := after trip_w7 (val7 V0)
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v2_4 (V0 : Valuation τ sig (Elt F)) : val8 V0 (no_index (Proc.devRef .tc main_v2_4)) = V0 (Proc.devRef .tc main_v2_4) :=
  (val8_keep V0 main_v2_4 (by decide)).trans (val7_main_v2_4 V0)
theorem val8_main_v2_1 (V0 : Valuation τ sig (Elt F)) : val8 V0 (no_index (Proc.devRef .tc main_v2_1)) = V0 (Proc.devRef .tc main_v2_1) :=
  (val8_keep V0 main_v2_1 (by decide)).trans (val7_main_v2_1 V0)
theorem val8_main_v2_5 (V0 : Valuation τ sig (Elt F)) : val8 V0 (no_index (Proc.devRef .tc main_v2_5)) = V0 (Proc.devRef .tc main_v2_5) :=
  (val8_keep V0 main_v2_5 (by decide)).trans (val7_main_v2_5 V0)
theorem val8_main_v2_0 (V0 : Valuation τ sig (Elt F)) : val8 V0 (no_index (Proc.devRef .tc main_v2_0)) = V0 (Proc.devRef .tc main_v2_0) :=
  (val8_keep V0 main_v2_0 (by decide)).trans (val7_main_v2_0 V0)
theorem val8_main_v2_2 (V0 : Valuation τ sig (Elt F)) : val8 V0 (no_index (Proc.devRef .tc main_v2_2)) = V0 (Proc.devRef .tc main_v2_2) :=
  (val8_keep V0 main_v2_2 (by decide)).trans (val7_main_v2_2 V0)
theorem val8_main_v2_6 (V0 : Valuation τ sig (Elt F)) : val8 V0 (no_index (Proc.devRef .tc main_v2_6)) = V0 (Proc.devRef .tc main_v2_6) :=
  (val8_keep V0 main_v2_6 (by decide)).trans (val7_main_v2_6 V0)
theorem val8_main_v2_3 (V0 : Valuation τ sig (Elt F)) : val8 V0 (no_index (Proc.devRef .tc main_v2_3)) = V0 (Proc.devRef .tc main_v2_3) :=
  (val8_keep V0 main_v2_3 (by decide)).trans (val7_main_v2_3 V0)
theorem val8_main_while0b_v16 (V0 : Valuation τ sig (Elt F)) : val8 V0 (no_index (Proc.devRef .tc main_while0b_v16)) = addi (V0 (Proc.devRef .tc main_v2_4)) (constantI S_ 32 1#32) :=
  (val8_keep V0 main_while0b_v16 (by decide)).trans (val7_main_while0b_v16 V0)
theorem val8_main_while0b_v18 (V0 : Valuation τ sig (Elt F)) : val8 V0 (no_index (Proc.devRef .tc main_while0b_v18)) = res_main_while0b_v18 V0 :=
  (val8_keep V0 main_while0b_v18 (by decide)).trans (val7_main_while0b_v18 V0)
theorem val8_main_while0b_v25 (V0 : Valuation τ sig (Elt F)) : val8 V0 (no_index (Proc.devRef .tc main_while0b_v25)) = res_main_while0b_v25 V0 :=
  (val8_keep V0 main_while0b_v25 (by decide)).trans (val7_main_while0b_v25 V0)
theorem val8_main_while0b_v33 (V0 : Valuation τ sig (Elt F)) : val8 V0 (no_index (Proc.devRef .tc main_while0b_v33)) = res_main_while0b_v33 V0 :=
  (val8_keep V0 main_while0b_v33 (by decide)).trans (val7_main_while0b_v33 V0)
theorem val8_main_while0b_v45 (V0 : Valuation τ sig (Elt F)) : val8 V0 (no_index (Proc.devRef .tc main_while0b_v45)) = maximumf (broadcastInDim S20000 ![] bcast_S_S20000 (shapeCast S_ (extractStridedSlice S1 ![1] (res_main_while0b_v33 V0) slices_S4_S1_1) shapeCasts_S1_S_)) (shapeCast S20000 (extractStridedSlice S20000x1 ![0, 1] (V0 (Proc.devRef .tc main_v2_2)) slices_S20000x4_S20000x1_0_1) shapeCasts_S20000x1_S20000) :=
  (val8_keep V0 main_while0b_v45 (by decide)).trans (val7_main_while0b_v45 V0)
theorem val8_main_while0b_v57 (V0 : Valuation τ sig (Elt F)) : val8 V0 (no_index (Proc.devRef .tc main_while0b_v57)) = minimumf (broadcastInDim S20000 ![] bcast_S_S20000 (shapeCast S_ (extractStridedSlice S1 ![3] (res_main_while0b_v33 V0) slices_S4_S1_3) shapeCasts_S1_S_)) (shapeCast S20000 (extractStridedSlice S20000x1 ![0, 3] (V0 (Proc.devRef .tc main_v2_2)) slices_S20000x4_S20000x1_0_3) shapeCasts_S20000x1_S20000) :=
  (val8_keep V0 main_while0b_v57 (by decide)).trans (val7_main_while0b_v57 V0)
set_option maxRecDepth 8192 in
theorem val8_main_while0b_v59 (V0 : Valuation τ sig (Elt F)) : val8 V0 (no_index (Proc.devRef .tc main_while0b_v59)) = maximumf (broadcastInDim S20000 ![] bcast_S_S20000 (id (constant S_ .f32 0x00000000#32))) (subf (minimumf (broadcastInDim S20000 ![] bcast_S_S20000 (shapeCast S_ (extractStridedSlice S1 ![2] (res_main_while0b_v33 V0) slices_S4_S1_2) shapeCasts_S1_S_)) (shapeCast S20000 (extractStridedSlice S20000x1 ![0, 2] (V0 (Proc.devRef .tc main_v2_2)) slices_S20000x4_S20000x1_0_2) shapeCasts_S20000x1_S20000)) (maximumf (broadcastInDim S20000 ![] bcast_S_S20000 (shapeCast S_ (extractStridedSlice S1 ![0] (res_main_while0b_v33 V0) slices_S4_S1_0) shapeCasts_S1_S_)) (shapeCast S20000 (extractStridedSlice S20000x1 ![0, 0] (V0 (Proc.devRef .tc main_v2_2)) slices_S20000x4_S20000x1_0_0) shapeCasts_S20000x1_S20000))) := by
  unfold val8
  simp only [trip_w7]
  after_results_entrywise [val7_main_while0b_v58, val7_main_while0b_cst_22, cast_eq]

/-- The device's buffer contents after the body's first 9 windows. -/
def val9 (V0 : Valuation τ sig (Elt F)) : Valuation τ sig (Elt F) := after trip_w8 (val8 V0)
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v2_4 (V0 : Valuation τ sig (Elt F)) : val9 V0 (no_index (Proc.devRef .tc main_v2_4)) = V0 (Proc.devRef .tc main_v2_4) :=
  (val9_keep V0 main_v2_4 (by decide)).trans (val8_main_v2_4 V0)
theorem val9_main_v2_1 (V0 : Valuation τ sig (Elt F)) : val9 V0 (no_index (Proc.devRef .tc main_v2_1)) = V0 (Proc.devRef .tc main_v2_1) :=
  (val9_keep V0 main_v2_1 (by decide)).trans (val8_main_v2_1 V0)
theorem val9_main_v2_5 (V0 : Valuation τ sig (Elt F)) : val9 V0 (no_index (Proc.devRef .tc main_v2_5)) = V0 (Proc.devRef .tc main_v2_5) :=
  (val9_keep V0 main_v2_5 (by decide)).trans (val8_main_v2_5 V0)
theorem val9_main_v2_0 (V0 : Valuation τ sig (Elt F)) : val9 V0 (no_index (Proc.devRef .tc main_v2_0)) = V0 (Proc.devRef .tc main_v2_0) :=
  (val9_keep V0 main_v2_0 (by decide)).trans (val8_main_v2_0 V0)
theorem val9_main_v2_2 (V0 : Valuation τ sig (Elt F)) : val9 V0 (no_index (Proc.devRef .tc main_v2_2)) = V0 (Proc.devRef .tc main_v2_2) :=
  (val9_keep V0 main_v2_2 (by decide)).trans (val8_main_v2_2 V0)
theorem val9_main_v2_6 (V0 : Valuation τ sig (Elt F)) : val9 V0 (no_index (Proc.devRef .tc main_v2_6)) = V0 (Proc.devRef .tc main_v2_6) :=
  (val9_keep V0 main_v2_6 (by decide)).trans (val8_main_v2_6 V0)
theorem val9_main_v2_3 (V0 : Valuation τ sig (Elt F)) : val9 V0 (no_index (Proc.devRef .tc main_v2_3)) = V0 (Proc.devRef .tc main_v2_3) :=
  (val9_keep V0 main_v2_3 (by decide)).trans (val8_main_v2_3 V0)
theorem val9_main_while0b_v16 (V0 : Valuation τ sig (Elt F)) : val9 V0 (no_index (Proc.devRef .tc main_while0b_v16)) = addi (V0 (Proc.devRef .tc main_v2_4)) (constantI S_ 32 1#32) :=
  (val9_keep V0 main_while0b_v16 (by decide)).trans (val8_main_while0b_v16 V0)
theorem val9_main_while0b_v18 (V0 : Valuation τ sig (Elt F)) : val9 V0 (no_index (Proc.devRef .tc main_while0b_v18)) = res_main_while0b_v18 V0 :=
  (val9_keep V0 main_while0b_v18 (by decide)).trans (val8_main_while0b_v18 V0)
theorem val9_main_while0b_v25 (V0 : Valuation τ sig (Elt F)) : val9 V0 (no_index (Proc.devRef .tc main_while0b_v25)) = res_main_while0b_v25 V0 :=
  (val9_keep V0 main_while0b_v25 (by decide)).trans (val8_main_while0b_v25 V0)
theorem val9_main_while0b_v33 (V0 : Valuation τ sig (Elt F)) : val9 V0 (no_index (Proc.devRef .tc main_while0b_v33)) = res_main_while0b_v33 V0 :=
  (val9_keep V0 main_while0b_v33 (by decide)).trans (val8_main_while0b_v33 V0)
theorem val9_main_while0b_v59 (V0 : Valuation τ sig (Elt F)) : val9 V0 (no_index (Proc.devRef .tc main_while0b_v59)) = maximumf (broadcastInDim S20000 ![] bcast_S_S20000 (id (constant S_ .f32 0x00000000#32))) (subf (minimumf (broadcastInDim S20000 ![] bcast_S_S20000 (shapeCast S_ (extractStridedSlice S1 ![2] (res_main_while0b_v33 V0) slices_S4_S1_2) shapeCasts_S1_S_)) (shapeCast S20000 (extractStridedSlice S20000x1 ![0, 2] (V0 (Proc.devRef .tc main_v2_2)) slices_S20000x4_S20000x1_0_2) shapeCasts_S20000x1_S20000)) (maximumf (broadcastInDim S20000 ![] bcast_S_S20000 (shapeCast S_ (extractStridedSlice S1 ![0] (res_main_while0b_v33 V0) slices_S4_S1_0) shapeCasts_S1_S_)) (shapeCast S20000 (extractStridedSlice S20000x1 ![0, 0] (V0 (Proc.devRef .tc main_v2_2)) slices_S20000x4_S20000x1_0_0) shapeCasts_S20000x1_S20000))) :=
  (val9_keep V0 main_while0b_v59 (by decide)).trans (val8_main_while0b_v59 V0)
set_option maxRecDepth 8192 in
theorem val9_main_while0b_v60 (V0 : Valuation τ sig (Elt F)) : val9 V0 (no_index (Proc.devRef .tc main_while0b_v60)) = subf (minimumf (broadcastInDim S20000 ![] bcast_S_S20000 (shapeCast S_ (extractStridedSlice S1 ![3] (res_main_while0b_v33 V0) slices_S4_S1_3) shapeCasts_S1_S_)) (shapeCast S20000 (extractStridedSlice S20000x1 ![0, 3] (V0 (Proc.devRef .tc main_v2_2)) slices_S20000x4_S20000x1_0_3) shapeCasts_S20000x1_S20000)) (maximumf (broadcastInDim S20000 ![] bcast_S_S20000 (shapeCast S_ (extractStridedSlice S1 ![1] (res_main_while0b_v33 V0) slices_S4_S1_1) shapeCasts_S1_S_)) (shapeCast S20000 (extractStridedSlice S20000x1 ![0, 1] (V0 (Proc.devRef .tc main_v2_2)) slices_S20000x4_S20000x1_0_1) shapeCasts_S20000x1_S20000)) := by
  unfold val9
  simp only [trip_w8]
  after_results_entrywise [val8_main_while0b_v45, val8_main_while0b_v57, cast_eq]
set_option maxRecDepth 8192 in
theorem val9_main_while0b_cst_23 (V0 : Valuation τ sig (Elt F)) : val9 V0 (no_index (Proc.devRef .tc main_while0b_cst_23)) = constant S_ .f32 0x00000000#32 := by
  unfold val9
  simp only [trip_w8]
  after_results_entrywise [cast_eq]

/-- The device's buffer contents after the body's first 10 windows. -/
def val10 (V0 : Valuation τ sig (Elt F)) : Valuation τ sig (Elt F) := after trip_w9 (val9 V0)
/-- A buffer that window `trip_w9` does not write keeps its contents through it. -/
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
theorem val10_main_v2_4 (V0 : Valuation τ sig (Elt F)) : val10 V0 (no_index (Proc.devRef .tc main_v2_4)) = V0 (Proc.devRef .tc main_v2_4) :=
  (val10_keep V0 main_v2_4 (by decide)).trans (val9_main_v2_4 V0)
theorem val10_main_v2_1 (V0 : Valuation τ sig (Elt F)) : val10 V0 (no_index (Proc.devRef .tc main_v2_1)) = V0 (Proc.devRef .tc main_v2_1) :=
  (val10_keep V0 main_v2_1 (by decide)).trans (val9_main_v2_1 V0)
theorem val10_main_v2_5 (V0 : Valuation τ sig (Elt F)) : val10 V0 (no_index (Proc.devRef .tc main_v2_5)) = V0 (Proc.devRef .tc main_v2_5) :=
  (val10_keep V0 main_v2_5 (by decide)).trans (val9_main_v2_5 V0)
theorem val10_main_v2_0 (V0 : Valuation τ sig (Elt F)) : val10 V0 (no_index (Proc.devRef .tc main_v2_0)) = V0 (Proc.devRef .tc main_v2_0) :=
  (val10_keep V0 main_v2_0 (by decide)).trans (val9_main_v2_0 V0)
theorem val10_main_v2_2 (V0 : Valuation τ sig (Elt F)) : val10 V0 (no_index (Proc.devRef .tc main_v2_2)) = V0 (Proc.devRef .tc main_v2_2) :=
  (val10_keep V0 main_v2_2 (by decide)).trans (val9_main_v2_2 V0)
theorem val10_main_v2_6 (V0 : Valuation τ sig (Elt F)) : val10 V0 (no_index (Proc.devRef .tc main_v2_6)) = V0 (Proc.devRef .tc main_v2_6) :=
  (val10_keep V0 main_v2_6 (by decide)).trans (val9_main_v2_6 V0)
theorem val10_main_v2_3 (V0 : Valuation τ sig (Elt F)) : val10 V0 (no_index (Proc.devRef .tc main_v2_3)) = V0 (Proc.devRef .tc main_v2_3) :=
  (val10_keep V0 main_v2_3 (by decide)).trans (val9_main_v2_3 V0)
theorem val10_main_while0b_v16 (V0 : Valuation τ sig (Elt F)) : val10 V0 (no_index (Proc.devRef .tc main_while0b_v16)) = addi (V0 (Proc.devRef .tc main_v2_4)) (constantI S_ 32 1#32) :=
  (val10_keep V0 main_while0b_v16 (by decide)).trans (val9_main_while0b_v16 V0)
theorem val10_main_while0b_v18 (V0 : Valuation τ sig (Elt F)) : val10 V0 (no_index (Proc.devRef .tc main_while0b_v18)) = res_main_while0b_v18 V0 :=
  (val10_keep V0 main_while0b_v18 (by decide)).trans (val9_main_while0b_v18 V0)
theorem val10_main_while0b_v25 (V0 : Valuation τ sig (Elt F)) : val10 V0 (no_index (Proc.devRef .tc main_while0b_v25)) = res_main_while0b_v25 V0 :=
  (val10_keep V0 main_while0b_v25 (by decide)).trans (val9_main_while0b_v25 V0)
theorem val10_main_while0b_v33 (V0 : Valuation τ sig (Elt F)) : val10 V0 (no_index (Proc.devRef .tc main_while0b_v33)) = res_main_while0b_v33 V0 :=
  (val10_keep V0 main_while0b_v33 (by decide)).trans (val9_main_while0b_v33 V0)
theorem val10_main_while0b_v59 (V0 : Valuation τ sig (Elt F)) : val10 V0 (no_index (Proc.devRef .tc main_while0b_v59)) = maximumf (broadcastInDim S20000 ![] bcast_S_S20000 (id (constant S_ .f32 0x00000000#32))) (subf (minimumf (broadcastInDim S20000 ![] bcast_S_S20000 (shapeCast S_ (extractStridedSlice S1 ![2] (res_main_while0b_v33 V0) slices_S4_S1_2) shapeCasts_S1_S_)) (shapeCast S20000 (extractStridedSlice S20000x1 ![0, 2] (V0 (Proc.devRef .tc main_v2_2)) slices_S20000x4_S20000x1_0_2) shapeCasts_S20000x1_S20000)) (maximumf (broadcastInDim S20000 ![] bcast_S_S20000 (shapeCast S_ (extractStridedSlice S1 ![0] (res_main_while0b_v33 V0) slices_S4_S1_0) shapeCasts_S1_S_)) (shapeCast S20000 (extractStridedSlice S20000x1 ![0, 0] (V0 (Proc.devRef .tc main_v2_2)) slices_S20000x4_S20000x1_0_0) shapeCasts_S20000x1_S20000))) :=
  (val10_keep V0 main_while0b_v59 (by decide)).trans (val9_main_while0b_v59 V0)
set_option maxRecDepth 8192 in
theorem val10_main_while0b_v61 (V0 : Valuation τ sig (Elt F)) : val10 V0 (no_index (Proc.devRef .tc main_while0b_v61)) = maximumf (broadcastInDim S20000 ![] bcast_S_S20000 (id (constant S_ .f32 0x00000000#32))) (subf (minimumf (broadcastInDim S20000 ![] bcast_S_S20000 (shapeCast S_ (extractStridedSlice S1 ![3] (res_main_while0b_v33 V0) slices_S4_S1_3) shapeCasts_S1_S_)) (shapeCast S20000 (extractStridedSlice S20000x1 ![0, 3] (V0 (Proc.devRef .tc main_v2_2)) slices_S20000x4_S20000x1_0_3) shapeCasts_S20000x1_S20000)) (maximumf (broadcastInDim S20000 ![] bcast_S_S20000 (shapeCast S_ (extractStridedSlice S1 ![1] (res_main_while0b_v33 V0) slices_S4_S1_1) shapeCasts_S1_S_)) (shapeCast S20000 (extractStridedSlice S20000x1 ![0, 1] (V0 (Proc.devRef .tc main_v2_2)) slices_S20000x4_S20000x1_0_1) shapeCasts_S20000x1_S20000))) := by
  unfold val10
  simp only [trip_w9]
  after_results_entrywise [val9_main_while0b_v60, val9_main_while0b_cst_23, cast_eq]

/-- The device's buffer contents after the body's first 11 windows. -/
def val11 (V0 : Valuation τ sig (Elt F)) : Valuation τ sig (Elt F) := after trip_w10 (val10 V0)
/-- A buffer that window `trip_w10` does not write keeps its contents through it. -/
theorem val11_keep (V0 : Valuation τ sig (Elt F)) (r : Ref sig .tc) (h : r ∉ trip_w10_W) :
    val11 V0 (Proc.devRef .tc r) = val10 V0 (Proc.devRef .tc r) :=
  after_of_writes_sub trip_w10 _ trip_w10_writes h
theorem val11_main_v2_4 (V0 : Valuation τ sig (Elt F)) : val11 V0 (no_index (Proc.devRef .tc main_v2_4)) = V0 (Proc.devRef .tc main_v2_4) :=
  (val11_keep V0 main_v2_4 (by decide)).trans (val10_main_v2_4 V0)
theorem val11_main_v2_1 (V0 : Valuation τ sig (Elt F)) : val11 V0 (no_index (Proc.devRef .tc main_v2_1)) = V0 (Proc.devRef .tc main_v2_1) :=
  (val11_keep V0 main_v2_1 (by decide)).trans (val10_main_v2_1 V0)
theorem val11_main_v2_5 (V0 : Valuation τ sig (Elt F)) : val11 V0 (no_index (Proc.devRef .tc main_v2_5)) = V0 (Proc.devRef .tc main_v2_5) :=
  (val11_keep V0 main_v2_5 (by decide)).trans (val10_main_v2_5 V0)
theorem val11_main_v2_0 (V0 : Valuation τ sig (Elt F)) : val11 V0 (no_index (Proc.devRef .tc main_v2_0)) = V0 (Proc.devRef .tc main_v2_0) :=
  (val11_keep V0 main_v2_0 (by decide)).trans (val10_main_v2_0 V0)
theorem val11_main_v2_2 (V0 : Valuation τ sig (Elt F)) : val11 V0 (no_index (Proc.devRef .tc main_v2_2)) = V0 (Proc.devRef .tc main_v2_2) :=
  (val11_keep V0 main_v2_2 (by decide)).trans (val10_main_v2_2 V0)
theorem val11_main_v2_6 (V0 : Valuation τ sig (Elt F)) : val11 V0 (no_index (Proc.devRef .tc main_v2_6)) = V0 (Proc.devRef .tc main_v2_6) :=
  (val11_keep V0 main_v2_6 (by decide)).trans (val10_main_v2_6 V0)
theorem val11_main_v2_3 (V0 : Valuation τ sig (Elt F)) : val11 V0 (no_index (Proc.devRef .tc main_v2_3)) = V0 (Proc.devRef .tc main_v2_3) :=
  (val11_keep V0 main_v2_3 (by decide)).trans (val10_main_v2_3 V0)
theorem val11_main_while0b_v16 (V0 : Valuation τ sig (Elt F)) : val11 V0 (no_index (Proc.devRef .tc main_while0b_v16)) = addi (V0 (Proc.devRef .tc main_v2_4)) (constantI S_ 32 1#32) :=
  (val11_keep V0 main_while0b_v16 (by decide)).trans (val10_main_while0b_v16 V0)
theorem val11_main_while0b_v18 (V0 : Valuation τ sig (Elt F)) : val11 V0 (no_index (Proc.devRef .tc main_while0b_v18)) = res_main_while0b_v18 V0 :=
  (val11_keep V0 main_while0b_v18 (by decide)).trans (val10_main_while0b_v18 V0)
theorem val11_main_while0b_v25 (V0 : Valuation τ sig (Elt F)) : val11 V0 (no_index (Proc.devRef .tc main_while0b_v25)) = res_main_while0b_v25 V0 :=
  (val11_keep V0 main_while0b_v25 (by decide)).trans (val10_main_while0b_v25 V0)
set_option maxRecDepth 8192 in
set_option maxHeartbeats 2000000 in
theorem val11_main_while0b_v62 (V0 : Valuation τ sig (Elt F)) : val11 V0 (no_index (Proc.devRef .tc main_while0b_v62)) = res_main_while0b_v62 V0 := by
  unfold val11
  simp only [trip_w10]
  after_results_entrywise [val10_main_while0b_v61, val10_main_while0b_v59, res_main_while0b_v62, cast_eq]
set_option maxRecDepth 8192 in
set_option maxHeartbeats 2000000 in
theorem val11_main_while0b_v84 (V0 : Valuation τ sig (Elt F)) : val11 V0 (no_index (Proc.devRef .tc main_while0b_v84)) = mulf (subf (shapeCast S20000 (extractStridedSlice S20000x1 ![0, 2] (V0 (Proc.devRef .tc main_v2_2)) slices_S20000x4_S20000x1_0_2) shapeCasts_S20000x1_S20000) (shapeCast S20000 (extractStridedSlice S20000x1 ![0, 0] (V0 (Proc.devRef .tc main_v2_2)) slices_S20000x4_S20000x1_0_0) shapeCasts_S20000x1_S20000)) (subf (shapeCast S20000 (extractStridedSlice S20000x1 ![0, 3] (V0 (Proc.devRef .tc main_v2_2)) slices_S20000x4_S20000x1_0_3) shapeCasts_S20000x1_S20000) (shapeCast S20000 (extractStridedSlice S20000x1 ![0, 1] (V0 (Proc.devRef .tc main_v2_2)) slices_S20000x4_S20000x1_0_1) shapeCasts_S20000x1_S20000)) := by
  unfold val11
  simp only [trip_w10]
  after_results_entrywise [val10_main_v2_2, cast_eq]
set_option maxRecDepth 8192 in
set_option maxHeartbeats 2000000 in
theorem val11_main_while0b_v85 (V0 : Valuation τ sig (Elt F)) : val11 V0 (no_index (Proc.devRef .tc main_while0b_v85)) = broadcastInDim S20000 ![] bcast_S_S20000 (mulf (subf (shapeCast S_ (extractStridedSlice S1 ![2] (res_main_while0b_v33 V0) slices_S4_S1_2) shapeCasts_S1_S_) (shapeCast S_ (extractStridedSlice S1 ![0] (res_main_while0b_v33 V0) slices_S4_S1_0) shapeCasts_S1_S_)) (subf (shapeCast S_ (extractStridedSlice S1 ![3] (res_main_while0b_v33 V0) slices_S4_S1_3) shapeCasts_S1_S_) (shapeCast S_ (extractStridedSlice S1 ![1] (res_main_while0b_v33 V0) slices_S4_S1_1) shapeCasts_S1_S_))) := by
  unfold val11
  simp only [trip_w10]
  after_results_entrywise [val10_main_while0b_v33, cast_eq]

/-- The device's buffer contents after the body's first 12 windows. -/
def val12 (V0 : Valuation τ sig (Elt F)) : Valuation τ sig (Elt F) := after trip_w11 (val11 V0)
/-- A buffer that window `trip_w11` does not write keeps its contents through it. -/
theorem val12_keep (V0 : Valuation τ sig (Elt F)) (r : Ref sig .tc) (h : r ∉ trip_w11_W) :
    val12 V0 (Proc.devRef .tc r) = val11 V0 (Proc.devRef .tc r) :=
  after_of_writes_sub trip_w11 _ trip_w11_writes h
theorem val12_main_v2_4 (V0 : Valuation τ sig (Elt F)) : val12 V0 (no_index (Proc.devRef .tc main_v2_4)) = V0 (Proc.devRef .tc main_v2_4) :=
  (val12_keep V0 main_v2_4 (by decide)).trans (val11_main_v2_4 V0)
theorem val12_main_v2_1 (V0 : Valuation τ sig (Elt F)) : val12 V0 (no_index (Proc.devRef .tc main_v2_1)) = V0 (Proc.devRef .tc main_v2_1) :=
  (val12_keep V0 main_v2_1 (by decide)).trans (val11_main_v2_1 V0)
theorem val12_main_v2_5 (V0 : Valuation τ sig (Elt F)) : val12 V0 (no_index (Proc.devRef .tc main_v2_5)) = V0 (Proc.devRef .tc main_v2_5) :=
  (val12_keep V0 main_v2_5 (by decide)).trans (val11_main_v2_5 V0)
theorem val12_main_v2_0 (V0 : Valuation τ sig (Elt F)) : val12 V0 (no_index (Proc.devRef .tc main_v2_0)) = V0 (Proc.devRef .tc main_v2_0) :=
  (val12_keep V0 main_v2_0 (by decide)).trans (val11_main_v2_0 V0)
theorem val12_main_v2_2 (V0 : Valuation τ sig (Elt F)) : val12 V0 (no_index (Proc.devRef .tc main_v2_2)) = V0 (Proc.devRef .tc main_v2_2) :=
  (val12_keep V0 main_v2_2 (by decide)).trans (val11_main_v2_2 V0)
theorem val12_main_v2_6 (V0 : Valuation τ sig (Elt F)) : val12 V0 (no_index (Proc.devRef .tc main_v2_6)) = V0 (Proc.devRef .tc main_v2_6) :=
  (val12_keep V0 main_v2_6 (by decide)).trans (val11_main_v2_6 V0)
theorem val12_main_v2_3 (V0 : Valuation τ sig (Elt F)) : val12 V0 (no_index (Proc.devRef .tc main_v2_3)) = V0 (Proc.devRef .tc main_v2_3) :=
  (val12_keep V0 main_v2_3 (by decide)).trans (val11_main_v2_3 V0)
theorem val12_main_while0b_v16 (V0 : Valuation τ sig (Elt F)) : val12 V0 (no_index (Proc.devRef .tc main_while0b_v16)) = addi (V0 (Proc.devRef .tc main_v2_4)) (constantI S_ 32 1#32) :=
  (val12_keep V0 main_while0b_v16 (by decide)).trans (val11_main_while0b_v16 V0)
theorem val12_main_while0b_v18 (V0 : Valuation τ sig (Elt F)) : val12 V0 (no_index (Proc.devRef .tc main_while0b_v18)) = res_main_while0b_v18 V0 :=
  (val12_keep V0 main_while0b_v18 (by decide)).trans (val11_main_while0b_v18 V0)
theorem val12_main_while0b_v25 (V0 : Valuation τ sig (Elt F)) : val12 V0 (no_index (Proc.devRef .tc main_while0b_v25)) = res_main_while0b_v25 V0 :=
  (val12_keep V0 main_while0b_v25 (by decide)).trans (val11_main_while0b_v25 V0)
set_option maxRecDepth 8192 in
set_option maxHeartbeats 1100000 in
theorem val12_main_while0b_v94 (V0 : Valuation τ sig (Elt F)) : val12 V0 (no_index (Proc.devRef .tc main_while0b_v94)) = andi (V0 (Proc.devRef .tc main_v2_5)) (noti (cmpf .ogt (Host.divf (res_main_while0b_v62 V0) (addf (subf (addf (broadcastInDim S20000 ![] bcast_S_S20000 (mulf (subf (shapeCast S_ (extractStridedSlice S1 ![2] (res_main_while0b_v33 V0) slices_S4_S1_2) shapeCasts_S1_S_) (shapeCast S_ (extractStridedSlice S1 ![0] (res_main_while0b_v33 V0) slices_S4_S1_0) shapeCasts_S1_S_)) (subf (shapeCast S_ (extractStridedSlice S1 ![3] (res_main_while0b_v33 V0) slices_S4_S1_3) shapeCasts_S1_S_) (shapeCast S_ (extractStridedSlice S1 ![1] (res_main_while0b_v33 V0) slices_S4_S1_1) shapeCasts_S1_S_)))) (mulf (subf (shapeCast S20000 (extractStridedSlice S20000x1 ![0, 2] (V0 (Proc.devRef .tc main_v2_2)) slices_S20000x4_S20000x1_0_2) shapeCasts_S20000x1_S20000) (shapeCast S20000 (extractStridedSlice S20000x1 ![0, 0] (V0 (Proc.devRef .tc main_v2_2)) slices_S20000x4_S20000x1_0_0) shapeCasts_S20000x1_S20000)) (subf (shapeCast S20000 (extractStridedSlice S20000x1 ![0, 3] (V0 (Proc.devRef .tc main_v2_2)) slices_S20000x4_S20000x1_0_3) shapeCasts_S20000x1_S20000) (shapeCast S20000 (extractStridedSlice S20000x1 ![0, 1] (V0 (Proc.devRef .tc main_v2_2)) slices_S20000x4_S20000x1_0_1) shapeCasts_S20000x1_S20000)))) (res_main_while0b_v62 V0)) (broadcastInDim S20000 ![] bcast_S_S20000 (constant S_ .f32 0x322BCC77#32)))) (broadcastInDim S20000 ![] bcast_S_S20000 (constant S_ .f32 0x3F000000#32)))) := by
  unfold val12
  simp only [trip_w11]
  after_results_entrywise [val11_main_while0b_v84, val11_main_while0b_v85, val11_main_while0b_v62, val11_main_v2_5, cast_eq]

/-- The device's buffer contents after the body's first 13 windows. -/
def val13 (V0 : Valuation τ sig (Elt F)) : Valuation τ sig (Elt F) := after trip_w12 (val12 V0)
/-- A buffer that window `trip_w12` does not write keeps its contents through it. -/
theorem val13_keep (V0 : Valuation τ sig (Elt F)) (r : Ref sig .tc) (h : r ∉ trip_w12_W) :
    val13 V0 (Proc.devRef .tc r) = val12 V0 (Proc.devRef .tc r) :=
  after_of_writes_sub trip_w12 _ trip_w12_writes h
theorem val13_main_v2_4 (V0 : Valuation τ sig (Elt F)) : val13 V0 (no_index (Proc.devRef .tc main_v2_4)) = V0 (Proc.devRef .tc main_v2_4) :=
  (val13_keep V0 main_v2_4 (by decide)).trans (val12_main_v2_4 V0)
theorem val13_main_v2_1 (V0 : Valuation τ sig (Elt F)) : val13 V0 (no_index (Proc.devRef .tc main_v2_1)) = V0 (Proc.devRef .tc main_v2_1) :=
  (val13_keep V0 main_v2_1 (by decide)).trans (val12_main_v2_1 V0)
theorem val13_main_v2_5 (V0 : Valuation τ sig (Elt F)) : val13 V0 (no_index (Proc.devRef .tc main_v2_5)) = V0 (Proc.devRef .tc main_v2_5) :=
  (val13_keep V0 main_v2_5 (by decide)).trans (val12_main_v2_5 V0)
theorem val13_main_v2_0 (V0 : Valuation τ sig (Elt F)) : val13 V0 (no_index (Proc.devRef .tc main_v2_0)) = V0 (Proc.devRef .tc main_v2_0) :=
  (val13_keep V0 main_v2_0 (by decide)).trans (val12_main_v2_0 V0)
theorem val13_main_v2_2 (V0 : Valuation τ sig (Elt F)) : val13 V0 (no_index (Proc.devRef .tc main_v2_2)) = V0 (Proc.devRef .tc main_v2_2) :=
  (val13_keep V0 main_v2_2 (by decide)).trans (val12_main_v2_2 V0)
theorem val13_main_v2_6 (V0 : Valuation τ sig (Elt F)) : val13 V0 (no_index (Proc.devRef .tc main_v2_6)) = V0 (Proc.devRef .tc main_v2_6) :=
  (val13_keep V0 main_v2_6 (by decide)).trans (val12_main_v2_6 V0)
theorem val13_main_v2_3 (V0 : Valuation τ sig (Elt F)) : val13 V0 (no_index (Proc.devRef .tc main_v2_3)) = V0 (Proc.devRef .tc main_v2_3) :=
  (val13_keep V0 main_v2_3 (by decide)).trans (val12_main_v2_3 V0)
theorem val13_main_while0b_v16 (V0 : Valuation τ sig (Elt F)) : val13 V0 (no_index (Proc.devRef .tc main_while0b_v16)) = addi (V0 (Proc.devRef .tc main_v2_4)) (constantI S_ 32 1#32) :=
  (val13_keep V0 main_while0b_v16 (by decide)).trans (val12_main_while0b_v16 V0)
theorem val13_main_while0b_v18 (V0 : Valuation τ sig (Elt F)) : val13 V0 (no_index (Proc.devRef .tc main_while0b_v18)) = res_main_while0b_v18 V0 :=
  (val13_keep V0 main_while0b_v18 (by decide)).trans (val12_main_while0b_v18 V0)
theorem val13_main_while0b_v25 (V0 : Valuation τ sig (Elt F)) : val13 V0 (no_index (Proc.devRef .tc main_while0b_v25)) = res_main_while0b_v25 V0 :=
  (val13_keep V0 main_while0b_v25 (by decide)).trans (val12_main_while0b_v25 V0)
set_option maxRecDepth 8192 in
theorem val13_main_while0b_v95 (V0 : Valuation τ sig (Elt F)) : val13 V0 (no_index (Proc.devRef .tc main_while0b_v95)) = select (broadcastInDim S20000 ![] bcast_S_S20000 (res_main_while0b_v25 V0)) (andi (V0 (Proc.devRef .tc main_v2_5)) (noti (cmpf .ogt (Host.divf (res_main_while0b_v62 V0) (addf (subf (addf (broadcastInDim S20000 ![] bcast_S_S20000 (mulf (subf (shapeCast S_ (extractStridedSlice S1 ![2] (res_main_while0b_v33 V0) slices_S4_S1_2) shapeCasts_S1_S_) (shapeCast S_ (extractStridedSlice S1 ![0] (res_main_while0b_v33 V0) slices_S4_S1_0) shapeCasts_S1_S_)) (subf (shapeCast S_ (extractStridedSlice S1 ![3] (res_main_while0b_v33 V0) slices_S4_S1_3) shapeCasts_S1_S_) (shapeCast S_ (extractStridedSlice S1 ![1] (res_main_while0b_v33 V0) slices_S4_S1_1) shapeCasts_S1_S_)))) (mulf (subf (shapeCast S20000 (extractStridedSlice S20000x1 ![0, 2] (V0 (Proc.devRef .tc main_v2_2)) slices_S20000x4_S20000x1_0_2) shapeCasts_S20000x1_S20000) (shapeCast S20000 (extractStridedSlice S20000x1 ![0, 0] (V0 (Proc.devRef .tc main_v2_2)) slices_S20000x4_S20000x1_0_0) shapeCasts_S20000x1_S20000)) (subf (shapeCast S20000 (extractStridedSlice S20000x1 ![0, 3] (V0 (Proc.devRef .tc main_v2_2)) slices_S20000x4_S20000x1_0_3) shapeCasts_S20000x1_S20000) (shapeCast S20000 (extractStridedSlice S20000x1 ![0, 1] (V0 (Proc.devRef .tc main_v2_2)) slices_S20000x4_S20000x1_0_1) shapeCasts_S20000x1_S20000)))) (res_main_while0b_v62 V0)) (broadcastInDim S20000 ![] bcast_S_S20000 (constant S_ .f32 0x322BCC77#32)))) (broadcastInDim S20000 ![] bcast_S_S20000 (constant S_ .f32 0x3F000000#32))))) (V0 (Proc.devRef .tc main_v2_5)) := by
  unfold val13
  simp only [trip_w12]
  after_results_entrywise [val12_main_v2_5, val12_main_while0b_v94, val12_main_while0b_v25, cast_eq]

/-- The device's buffer contents after the body's first 14 windows. -/
def val14 (V0 : Valuation τ sig (Elt F)) : Valuation τ sig (Elt F) := after trip_w13 (val13 V0)
/-- A buffer that window `trip_w13` does not write keeps its contents through it. -/
theorem val14_keep (V0 : Valuation τ sig (Elt F)) (r : Ref sig .tc) (h : r ∉ trip_w13_W) :
    val14 V0 (Proc.devRef .tc r) = val13 V0 (Proc.devRef .tc r) :=
  after_of_writes_sub trip_w13 _ trip_w13_writes h
theorem val14_main_v2_4 (V0 : Valuation τ sig (Elt F)) : val14 V0 (no_index (Proc.devRef .tc main_v2_4)) = V0 (Proc.devRef .tc main_v2_4) :=
  (val14_keep V0 main_v2_4 (by decide)).trans (val13_main_v2_4 V0)
theorem val14_main_v2_1 (V0 : Valuation τ sig (Elt F)) : val14 V0 (no_index (Proc.devRef .tc main_v2_1)) = V0 (Proc.devRef .tc main_v2_1) :=
  (val14_keep V0 main_v2_1 (by decide)).trans (val13_main_v2_1 V0)
theorem val14_main_v2_5 (V0 : Valuation τ sig (Elt F)) : val14 V0 (no_index (Proc.devRef .tc main_v2_5)) = V0 (Proc.devRef .tc main_v2_5) :=
  (val14_keep V0 main_v2_5 (by decide)).trans (val13_main_v2_5 V0)
theorem val14_main_v2_0 (V0 : Valuation τ sig (Elt F)) : val14 V0 (no_index (Proc.devRef .tc main_v2_0)) = V0 (Proc.devRef .tc main_v2_0) :=
  (val14_keep V0 main_v2_0 (by decide)).trans (val13_main_v2_0 V0)
theorem val14_main_v2_2 (V0 : Valuation τ sig (Elt F)) : val14 V0 (no_index (Proc.devRef .tc main_v2_2)) = V0 (Proc.devRef .tc main_v2_2) :=
  (val14_keep V0 main_v2_2 (by decide)).trans (val13_main_v2_2 V0)
theorem val14_main_v2_6 (V0 : Valuation τ sig (Elt F)) : val14 V0 (no_index (Proc.devRef .tc main_v2_6)) = V0 (Proc.devRef .tc main_v2_6) :=
  (val14_keep V0 main_v2_6 (by decide)).trans (val13_main_v2_6 V0)
theorem val14_main_v2_3 (V0 : Valuation τ sig (Elt F)) : val14 V0 (no_index (Proc.devRef .tc main_v2_3)) = V0 (Proc.devRef .tc main_v2_3) :=
  (val14_keep V0 main_v2_3 (by decide)).trans (val13_main_v2_3 V0)
theorem val14_main_while0b_v16 (V0 : Valuation τ sig (Elt F)) : val14 V0 (no_index (Proc.devRef .tc main_while0b_v16)) = addi (V0 (Proc.devRef .tc main_v2_4)) (constantI S_ 32 1#32) :=
  (val14_keep V0 main_while0b_v16 (by decide)).trans (val13_main_while0b_v16 V0)
theorem val14_main_while0b_v18 (V0 : Valuation τ sig (Elt F)) : val14 V0 (no_index (Proc.devRef .tc main_while0b_v18)) = res_main_while0b_v18 V0 :=
  (val14_keep V0 main_while0b_v18 (by decide)).trans (val13_main_while0b_v18 V0)
theorem val14_main_while0b_v25 (V0 : Valuation τ sig (Elt F)) : val14 V0 (no_index (Proc.devRef .tc main_while0b_v25)) = res_main_while0b_v25 V0 :=
  (val14_keep V0 main_while0b_v25 (by decide)).trans (val13_main_while0b_v25 V0)
theorem val14_main_while0b_v95 (V0 : Valuation τ sig (Elt F)) : val14 V0 (no_index (Proc.devRef .tc main_while0b_v95)) = select (broadcastInDim S20000 ![] bcast_S_S20000 (res_main_while0b_v25 V0)) (andi (V0 (Proc.devRef .tc main_v2_5)) (noti (cmpf .ogt (Host.divf (res_main_while0b_v62 V0) (addf (subf (addf (broadcastInDim S20000 ![] bcast_S_S20000 (mulf (subf (shapeCast S_ (extractStridedSlice S1 ![2] (res_main_while0b_v33 V0) slices_S4_S1_2) shapeCasts_S1_S_) (shapeCast S_ (extractStridedSlice S1 ![0] (res_main_while0b_v33 V0) slices_S4_S1_0) shapeCasts_S1_S_)) (subf (shapeCast S_ (extractStridedSlice S1 ![3] (res_main_while0b_v33 V0) slices_S4_S1_3) shapeCasts_S1_S_) (shapeCast S_ (extractStridedSlice S1 ![1] (res_main_while0b_v33 V0) slices_S4_S1_1) shapeCasts_S1_S_)))) (mulf (subf (shapeCast S20000 (extractStridedSlice S20000x1 ![0, 2] (V0 (Proc.devRef .tc main_v2_2)) slices_S20000x4_S20000x1_0_2) shapeCasts_S20000x1_S20000) (shapeCast S20000 (extractStridedSlice S20000x1 ![0, 0] (V0 (Proc.devRef .tc main_v2_2)) slices_S20000x4_S20000x1_0_0) shapeCasts_S20000x1_S20000)) (subf (shapeCast S20000 (extractStridedSlice S20000x1 ![0, 3] (V0 (Proc.devRef .tc main_v2_2)) slices_S20000x4_S20000x1_0_3) shapeCasts_S20000x1_S20000) (shapeCast S20000 (extractStridedSlice S20000x1 ![0, 1] (V0 (Proc.devRef .tc main_v2_2)) slices_S20000x4_S20000x1_0_1) shapeCasts_S20000x1_S20000)))) (res_main_while0b_v62 V0)) (broadcastInDim S20000 ![] bcast_S_S20000 (constant S_ .f32 0x322BCC77#32)))) (broadcastInDim S20000 ![] bcast_S_S20000 (constant S_ .f32 0x3F000000#32))))) (V0 (Proc.devRef .tc main_v2_5)) :=
  (val14_keep V0 main_while0b_v95 (by decide)).trans (val13_main_while0b_v95 V0)
set_option maxRecDepth 8192 in
theorem val14_main_while0b_c_26 (V0 : Valuation τ sig (Elt F)) : val14 V0 (no_index (Proc.devRef .tc main_while0b_c_26)) = constantI S_ 32 4294967295#32 := by
  unfold val14
  simp only [trip_w13]
  after_results_entrywise [cast_eq]

/-- The device's buffer contents after the body's first 15 windows. -/
def val15 (V0 : Valuation τ sig (Elt F)) : Valuation τ sig (Elt F) := after trip_w14 (val14 V0)
/-- A buffer that window `trip_w14` does not write keeps its contents through it. -/
theorem val15_keep (V0 : Valuation τ sig (Elt F)) (r : Ref sig .tc) (h : r ∉ trip_w14_W) :
    val15 V0 (Proc.devRef .tc r) = val14 V0 (Proc.devRef .tc r) :=
  after_of_writes_sub trip_w14 _ trip_w14_writes h
theorem val15_main_v2_4 (V0 : Valuation τ sig (Elt F)) : val15 V0 (no_index (Proc.devRef .tc main_v2_4)) = V0 (Proc.devRef .tc main_v2_4) :=
  (val15_keep V0 main_v2_4 (by decide)).trans (val14_main_v2_4 V0)
theorem val15_main_v2_1 (V0 : Valuation τ sig (Elt F)) : val15 V0 (no_index (Proc.devRef .tc main_v2_1)) = V0 (Proc.devRef .tc main_v2_1) :=
  (val15_keep V0 main_v2_1 (by decide)).trans (val14_main_v2_1 V0)
theorem val15_main_v2_5 (V0 : Valuation τ sig (Elt F)) : val15 V0 (no_index (Proc.devRef .tc main_v2_5)) = V0 (Proc.devRef .tc main_v2_5) :=
  (val15_keep V0 main_v2_5 (by decide)).trans (val14_main_v2_5 V0)
theorem val15_main_v2_0 (V0 : Valuation τ sig (Elt F)) : val15 V0 (no_index (Proc.devRef .tc main_v2_0)) = V0 (Proc.devRef .tc main_v2_0) :=
  (val15_keep V0 main_v2_0 (by decide)).trans (val14_main_v2_0 V0)
theorem val15_main_v2_2 (V0 : Valuation τ sig (Elt F)) : val15 V0 (no_index (Proc.devRef .tc main_v2_2)) = V0 (Proc.devRef .tc main_v2_2) :=
  (val15_keep V0 main_v2_2 (by decide)).trans (val14_main_v2_2 V0)
theorem val15_main_v2_6 (V0 : Valuation τ sig (Elt F)) : val15 V0 (no_index (Proc.devRef .tc main_v2_6)) = V0 (Proc.devRef .tc main_v2_6) :=
  (val15_keep V0 main_v2_6 (by decide)).trans (val14_main_v2_6 V0)
theorem val15_main_v2_3 (V0 : Valuation τ sig (Elt F)) : val15 V0 (no_index (Proc.devRef .tc main_v2_3)) = V0 (Proc.devRef .tc main_v2_3) :=
  (val15_keep V0 main_v2_3 (by decide)).trans (val14_main_v2_3 V0)
theorem val15_main_while0b_v16 (V0 : Valuation τ sig (Elt F)) : val15 V0 (no_index (Proc.devRef .tc main_while0b_v16)) = addi (V0 (Proc.devRef .tc main_v2_4)) (constantI S_ 32 1#32) :=
  (val15_keep V0 main_while0b_v16 (by decide)).trans (val14_main_while0b_v16 V0)
theorem val15_main_while0b_v95 (V0 : Valuation τ sig (Elt F)) : val15 V0 (no_index (Proc.devRef .tc main_while0b_v95)) = select (broadcastInDim S20000 ![] bcast_S_S20000 (res_main_while0b_v25 V0)) (andi (V0 (Proc.devRef .tc main_v2_5)) (noti (cmpf .ogt (Host.divf (res_main_while0b_v62 V0) (addf (subf (addf (broadcastInDim S20000 ![] bcast_S_S20000 (mulf (subf (shapeCast S_ (extractStridedSlice S1 ![2] (res_main_while0b_v33 V0) slices_S4_S1_2) shapeCasts_S1_S_) (shapeCast S_ (extractStridedSlice S1 ![0] (res_main_while0b_v33 V0) slices_S4_S1_0) shapeCasts_S1_S_)) (subf (shapeCast S_ (extractStridedSlice S1 ![3] (res_main_while0b_v33 V0) slices_S4_S1_3) shapeCasts_S1_S_) (shapeCast S_ (extractStridedSlice S1 ![1] (res_main_while0b_v33 V0) slices_S4_S1_1) shapeCasts_S1_S_)))) (mulf (subf (shapeCast S20000 (extractStridedSlice S20000x1 ![0, 2] (V0 (Proc.devRef .tc main_v2_2)) slices_S20000x4_S20000x1_0_2) shapeCasts_S20000x1_S20000) (shapeCast S20000 (extractStridedSlice S20000x1 ![0, 0] (V0 (Proc.devRef .tc main_v2_2)) slices_S20000x4_S20000x1_0_0) shapeCasts_S20000x1_S20000)) (subf (shapeCast S20000 (extractStridedSlice S20000x1 ![0, 3] (V0 (Proc.devRef .tc main_v2_2)) slices_S20000x4_S20000x1_0_3) shapeCasts_S20000x1_S20000) (shapeCast S20000 (extractStridedSlice S20000x1 ![0, 1] (V0 (Proc.devRef .tc main_v2_2)) slices_S20000x4_S20000x1_0_1) shapeCasts_S20000x1_S20000)))) (res_main_while0b_v62 V0)) (broadcastInDim S20000 ![] bcast_S_S20000 (constant S_ .f32 0x322BCC77#32)))) (broadcastInDim S20000 ![] bcast_S_S20000 (constant S_ .f32 0x3F000000#32))))) (V0 (Proc.devRef .tc main_v2_5)) :=
  (val15_keep V0 main_while0b_v95 (by decide)).trans (val14_main_while0b_v95 V0)
set_option maxRecDepth 8192 in
theorem val15_main_while0b_v96 (V0 : Valuation τ sig (Elt F)) : val15 V0 (no_index (Proc.devRef .tc main_while0b_v96)) = select (res_main_while0b_v25 V0) (res_main_while0b_v18 V0) (constantI S_ 32 4294967295#32) := by
  unfold val15
  simp only [trip_w14]
  after_results_entrywise [val14_main_while0b_c_26, val14_main_while0b_v18, val14_main_while0b_v25, cast_eq]

/-- The device's buffer contents after the body's first 16 windows. -/
def val16 (V0 : Valuation τ sig (Elt F)) : Valuation τ sig (Elt F) := after trip_w15 (val15 V0)
/-- A buffer that window `trip_w15` does not write keeps its contents through it. -/
theorem val16_keep (V0 : Valuation τ sig (Elt F)) (r : Ref sig .tc) (h : r ∉ trip_w15_W) :
    val16 V0 (Proc.devRef .tc r) = val15 V0 (Proc.devRef .tc r) :=
  after_of_writes_sub trip_w15 _ trip_w15_writes h
theorem val16_main_v2_4 (V0 : Valuation τ sig (Elt F)) : val16 V0 (no_index (Proc.devRef .tc main_v2_4)) = V0 (Proc.devRef .tc main_v2_4) :=
  (val16_keep V0 main_v2_4 (by decide)).trans (val15_main_v2_4 V0)
theorem val16_main_v2_1 (V0 : Valuation τ sig (Elt F)) : val16 V0 (no_index (Proc.devRef .tc main_v2_1)) = V0 (Proc.devRef .tc main_v2_1) :=
  (val16_keep V0 main_v2_1 (by decide)).trans (val15_main_v2_1 V0)
theorem val16_main_v2_5 (V0 : Valuation τ sig (Elt F)) : val16 V0 (no_index (Proc.devRef .tc main_v2_5)) = V0 (Proc.devRef .tc main_v2_5) :=
  (val16_keep V0 main_v2_5 (by decide)).trans (val15_main_v2_5 V0)
theorem val16_main_v2_0 (V0 : Valuation τ sig (Elt F)) : val16 V0 (no_index (Proc.devRef .tc main_v2_0)) = V0 (Proc.devRef .tc main_v2_0) :=
  (val16_keep V0 main_v2_0 (by decide)).trans (val15_main_v2_0 V0)
theorem val16_main_v2_2 (V0 : Valuation τ sig (Elt F)) : val16 V0 (no_index (Proc.devRef .tc main_v2_2)) = V0 (Proc.devRef .tc main_v2_2) :=
  (val16_keep V0 main_v2_2 (by decide)).trans (val15_main_v2_2 V0)
theorem val16_main_v2_6 (V0 : Valuation τ sig (Elt F)) : val16 V0 (no_index (Proc.devRef .tc main_v2_6)) = V0 (Proc.devRef .tc main_v2_6) :=
  (val16_keep V0 main_v2_6 (by decide)).trans (val15_main_v2_6 V0)
theorem val16_main_v2_3 (V0 : Valuation τ sig (Elt F)) : val16 V0 (no_index (Proc.devRef .tc main_v2_3)) = V0 (Proc.devRef .tc main_v2_3) :=
  (val16_keep V0 main_v2_3 (by decide)).trans (val15_main_v2_3 V0)
theorem val16_main_while0b_v16 (V0 : Valuation τ sig (Elt F)) : val16 V0 (no_index (Proc.devRef .tc main_while0b_v16)) = addi (V0 (Proc.devRef .tc main_v2_4)) (constantI S_ 32 1#32) :=
  (val16_keep V0 main_while0b_v16 (by decide)).trans (val15_main_while0b_v16 V0)
theorem val16_main_while0b_v95 (V0 : Valuation τ sig (Elt F)) : val16 V0 (no_index (Proc.devRef .tc main_while0b_v95)) = select (broadcastInDim S20000 ![] bcast_S_S20000 (res_main_while0b_v25 V0)) (andi (V0 (Proc.devRef .tc main_v2_5)) (noti (cmpf .ogt (Host.divf (res_main_while0b_v62 V0) (addf (subf (addf (broadcastInDim S20000 ![] bcast_S_S20000 (mulf (subf (shapeCast S_ (extractStridedSlice S1 ![2] (res_main_while0b_v33 V0) slices_S4_S1_2) shapeCasts_S1_S_) (shapeCast S_ (extractStridedSlice S1 ![0] (res_main_while0b_v33 V0) slices_S4_S1_0) shapeCasts_S1_S_)) (subf (shapeCast S_ (extractStridedSlice S1 ![3] (res_main_while0b_v33 V0) slices_S4_S1_3) shapeCasts_S1_S_) (shapeCast S_ (extractStridedSlice S1 ![1] (res_main_while0b_v33 V0) slices_S4_S1_1) shapeCasts_S1_S_)))) (mulf (subf (shapeCast S20000 (extractStridedSlice S20000x1 ![0, 2] (V0 (Proc.devRef .tc main_v2_2)) slices_S20000x4_S20000x1_0_2) shapeCasts_S20000x1_S20000) (shapeCast S20000 (extractStridedSlice S20000x1 ![0, 0] (V0 (Proc.devRef .tc main_v2_2)) slices_S20000x4_S20000x1_0_0) shapeCasts_S20000x1_S20000)) (subf (shapeCast S20000 (extractStridedSlice S20000x1 ![0, 3] (V0 (Proc.devRef .tc main_v2_2)) slices_S20000x4_S20000x1_0_3) shapeCasts_S20000x1_S20000) (shapeCast S20000 (extractStridedSlice S20000x1 ![0, 1] (V0 (Proc.devRef .tc main_v2_2)) slices_S20000x4_S20000x1_0_1) shapeCasts_S20000x1_S20000)))) (res_main_while0b_v62 V0)) (broadcastInDim S20000 ![] bcast_S_S20000 (constant S_ .f32 0x322BCC77#32)))) (broadcastInDim S20000 ![] bcast_S_S20000 (constant S_ .f32 0x3F000000#32))))) (V0 (Proc.devRef .tc main_v2_5)) :=
  (val16_keep V0 main_while0b_v95 (by decide)).trans (val15_main_while0b_v95 V0)
set_option maxRecDepth 8192 in
theorem val16_main_while0b_v102 (V0 : Valuation τ sig (Elt F)) : val16 V0 (no_index (Proc.devRef .tc main_while0b_v102)) = Host.scatter scatter_S512_S1_S__n_0_0_0 (fun _ b => b) (V0 (Proc.devRef .tc main_v2_6)) (broadcastInDim S1 ![] bcast_S_S1 (id (select (cmpi .slt (V0 (Proc.devRef .tc main_v2_4)) (constantI S_ 32 0#32)) (addi (V0 (Proc.devRef .tc main_v2_4)) (constantI S_ 32 512#32)) (V0 (Proc.devRef .tc main_v2_4))))) (select (res_main_while0b_v25 V0) (res_main_while0b_v18 V0) (constantI S_ 32 4294967295#32)) := by
  unfold val16
  simp only [trip_w15]
  after_results_entrywise [val15_main_while0b_v96, val15_main_v2_4, val15_main_v2_6, cast_eq]

set_option maxRecDepth 8192 in
/-- The body's stretches, from any contents: the trip's windows in order, then `while0Ops0_11`'s step. -/
theorem trip_windows (V0 : Valuation τ sig (Elt F)) : after while0Ops0_11 (after while0Ops0_10 (after while0Ops0_9 (after while0Ops0_8 (after while0Ops0_7 (after while0Ops0_6 (after while0Ops0_5 (after while0Ops0_4 (after while0Ops0_3 (after while0Ops0_2 (after while0Ops0_1 (after while0Ops0 (V0)))))))))))) = after while0Ops0_11_step (val16 V0) := by
  simp only [while0Ops0_cut, while0Ops0_1_cut, while0Ops0_2_cut, while0Ops0_3_cut, while0Ops0_4_cut, while0Ops0_5_cut, while0Ops0_6_cut, while0Ops0_7_cut, while0Ops0_8_cut, while0Ops0_9_cut, while0Ops0_10_cut, while0Ops0_11_cut, after_append]
  rfl

set_option maxRecDepth 8192 in
set_option maxHeartbeats 2000000 in
/-- `main_v2_0` after one trip's body, from any contents. -/
theorem trip_main_v2_0 (V0 : Valuation τ sig (Elt F)) : afterL bodyI V0 (no_index (Proc.devRef .tc main_v2_0)) = V0 (Proc.devRef .tc main_v2_0) := by
  simp only [bodyI, afterL_cons, afterL_nil, trip_windows]
  after_results
  all_goals (try simp only [val16_main_while0b_v16, val16_main_while0b_v95, val16_main_while0b_v102, val16_main_v2_0, val16_main_v2_1, val16_main_v2_2, val16_main_v2_3, val16_main_v2_4, val16_main_v2_5, val16_main_v2_6]) <;> rfl
set_option maxRecDepth 8192 in
set_option maxHeartbeats 2000000 in
/-- `main_v2_1` after one trip's body, from any contents. -/
theorem trip_main_v2_1 (V0 : Valuation τ sig (Elt F)) : afterL bodyI V0 (no_index (Proc.devRef .tc main_v2_1)) = V0 (Proc.devRef .tc main_v2_1) := by
  simp only [bodyI, afterL_cons, afterL_nil, trip_windows]
  after_results
  all_goals (try simp only [val16_main_while0b_v16, val16_main_while0b_v95, val16_main_while0b_v102, val16_main_v2_0, val16_main_v2_1, val16_main_v2_2, val16_main_v2_3, val16_main_v2_4, val16_main_v2_5, val16_main_v2_6]) <;> rfl
set_option maxRecDepth 8192 in
set_option maxHeartbeats 2000000 in
/-- `main_v2_2` after one trip's body, from any contents. -/
theorem trip_main_v2_2 (V0 : Valuation τ sig (Elt F)) : afterL bodyI V0 (no_index (Proc.devRef .tc main_v2_2)) = V0 (Proc.devRef .tc main_v2_2) := by
  simp only [bodyI, afterL_cons, afterL_nil, trip_windows]
  after_results
  all_goals (try simp only [val16_main_while0b_v16, val16_main_while0b_v95, val16_main_while0b_v102, val16_main_v2_0, val16_main_v2_1, val16_main_v2_2, val16_main_v2_3, val16_main_v2_4, val16_main_v2_5, val16_main_v2_6]) <;> rfl
set_option maxRecDepth 8192 in
set_option maxHeartbeats 2000000 in
/-- `main_v2_3` after one trip's body, from any contents. -/
theorem trip_main_v2_3 (V0 : Valuation τ sig (Elt F)) : afterL bodyI V0 (no_index (Proc.devRef .tc main_v2_3)) = id (addi (V0 (Proc.devRef .tc main_v2_3)) (constantI S_ 32 1#32)) := by
  simp only [bodyI, afterL_cons, afterL_nil, trip_windows]
  after_results
  all_goals (try simp only [val16_main_while0b_v16, val16_main_while0b_v95, val16_main_while0b_v102, val16_main_v2_0, val16_main_v2_1, val16_main_v2_2, val16_main_v2_3, val16_main_v2_4, val16_main_v2_5, val16_main_v2_6]) <;> rfl
set_option maxRecDepth 8192 in
set_option maxHeartbeats 2000000 in
/-- `main_v2_4` after one trip's body, from any contents. -/
theorem trip_main_v2_4 (V0 : Valuation τ sig (Elt F)) : afterL bodyI V0 (no_index (Proc.devRef .tc main_v2_4)) = id (addi (V0 (Proc.devRef .tc main_v2_4)) (constantI S_ 32 1#32)) := by
  simp only [bodyI, afterL_cons, afterL_nil, trip_windows]
  after_results
  all_goals (try simp only [val16_main_while0b_v16, val16_main_while0b_v95, val16_main_while0b_v102, val16_main_v2_0, val16_main_v2_1, val16_main_v2_2, val16_main_v2_3, val16_main_v2_4, val16_main_v2_5, val16_main_v2_6]) <;> rfl
set_option maxRecDepth 8192 in
set_option maxHeartbeats 2000000 in
/-- `main_v2_5` after one trip's body, from any contents. -/
theorem trip_main_v2_5 (V0 : Valuation τ sig (Elt F)) : afterL bodyI V0 (no_index (Proc.devRef .tc main_v2_5)) = id (select (broadcastInDim S20000 ![] bcast_S_S20000 (res_main_while0b_v25 V0)) (andi (V0 (Proc.devRef .tc main_v2_5)) (noti (cmpf .ogt (Host.divf (res_main_while0b_v62 V0) (addf (subf (addf (broadcastInDim S20000 ![] bcast_S_S20000 (mulf (subf (shapeCast S_ (extractStridedSlice S1 ![2] (res_main_while0b_v33 V0) slices_S4_S1_2) shapeCasts_S1_S_) (shapeCast S_ (extractStridedSlice S1 ![0] (res_main_while0b_v33 V0) slices_S4_S1_0) shapeCasts_S1_S_)) (subf (shapeCast S_ (extractStridedSlice S1 ![3] (res_main_while0b_v33 V0) slices_S4_S1_3) shapeCasts_S1_S_) (shapeCast S_ (extractStridedSlice S1 ![1] (res_main_while0b_v33 V0) slices_S4_S1_1) shapeCasts_S1_S_)))) (mulf (subf (shapeCast S20000 (extractStridedSlice S20000x1 ![0, 2] (V0 (Proc.devRef .tc main_v2_2)) slices_S20000x4_S20000x1_0_2) shapeCasts_S20000x1_S20000) (shapeCast S20000 (extractStridedSlice S20000x1 ![0, 0] (V0 (Proc.devRef .tc main_v2_2)) slices_S20000x4_S20000x1_0_0) shapeCasts_S20000x1_S20000)) (subf (shapeCast S20000 (extractStridedSlice S20000x1 ![0, 3] (V0 (Proc.devRef .tc main_v2_2)) slices_S20000x4_S20000x1_0_3) shapeCasts_S20000x1_S20000) (shapeCast S20000 (extractStridedSlice S20000x1 ![0, 1] (V0 (Proc.devRef .tc main_v2_2)) slices_S20000x4_S20000x1_0_1) shapeCasts_S20000x1_S20000)))) (res_main_while0b_v62 V0)) (broadcastInDim S20000 ![] bcast_S_S20000 (constant S_ .f32 0x322BCC77#32)))) (broadcastInDim S20000 ![] bcast_S_S20000 (constant S_ .f32 0x3F000000#32))))) (V0 (Proc.devRef .tc main_v2_5))) := by
  simp only [bodyI, afterL_cons, afterL_nil, trip_windows]
  after_results
  all_goals (try simp only [val16_main_while0b_v16, val16_main_while0b_v95, val16_main_while0b_v102, val16_main_v2_0, val16_main_v2_1, val16_main_v2_2, val16_main_v2_3, val16_main_v2_4, val16_main_v2_5, val16_main_v2_6]) <;> rfl
set_option maxRecDepth 8192 in
set_option maxHeartbeats 2000000 in
/-- `main_v2_6` after one trip's body, from any contents. -/
theorem trip_main_v2_6 (V0 : Valuation τ sig (Elt F)) : afterL bodyI V0 (no_index (Proc.devRef .tc main_v2_6)) = id (Host.scatter scatter_S512_S1_S__n_0_0_0 (fun _ b => b) (V0 (Proc.devRef .tc main_v2_6)) (broadcastInDim S1 ![] bcast_S_S1 (id (select (cmpi .slt (V0 (Proc.devRef .tc main_v2_4)) (constantI S_ 32 0#32)) (addi (V0 (Proc.devRef .tc main_v2_4)) (constantI S_ 32 512#32)) (V0 (Proc.devRef .tc main_v2_4))))) (select (res_main_while0b_v25 V0) (res_main_while0b_v18 V0) (constantI S_ 32 4294967295#32))) := by
  simp only [bodyI, afterL_cons, afterL_nil, trip_windows]
  after_results
  all_goals (try simp only [val16_main_while0b_v16, val16_main_while0b_v95, val16_main_while0b_v102, val16_main_v2_0, val16_main_v2_1, val16_main_v2_2, val16_main_v2_3, val16_main_v2_4, val16_main_v2_5, val16_main_v2_6]) <;> rfl

/-- The loop's carried buffers. -/
abbrev carriedRefs : List (Ref sig .tc) := [main_v2_0, main_v2_1, main_v2_2, main_v2_3, main_v2_4, main_v2_5, main_v2_6]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v17_congr {V0 V0' : Valuation τ sig (Elt F)} (h : Agree V0 V0') : res_main_while0b_v17 V0 = res_main_while0b_v17 V0' := by
  unfold res_main_while0b_v17
  rw [h main_v2_5 (by decide), h main_v2_0 (by decide), h main_v2_1 (by decide)]
set_option maxRecDepth 8192 in
theorem res_main_while0b_call1_v0_congr {V0 V0' : Valuation τ sig (Elt F)} (h : Agree V0 V0') : res_main_while0b_call1_v0 V0 = res_main_while0b_call1_v0 V0' := by
  unfold res_main_while0b_call1_v0
  rfl
set_option maxRecDepth 8192 in
theorem res_main_while0b_call1_cst_congr {V0 V0' : Valuation τ sig (Elt F)} (h : Agree V0 V0') : res_main_while0b_call1_cst V0 = res_main_while0b_call1_cst V0' := by
  unfold res_main_while0b_call1_cst
  rfl
set_option maxRecDepth 8192 in
theorem res_main_while0b_call1_c_congr {V0 V0' : Valuation τ sig (Elt F)} (h : Agree V0 V0') : res_main_while0b_call1_c V0 = res_main_while0b_call1_c V0' := by
  unfold res_main_while0b_call1_c
  rfl
set_option maxRecDepth 8192 in
theorem res_main_while0b_v18_congr {V0 V0' : Valuation τ sig (Elt F)} (h : Agree V0 V0') : res_main_while0b_v18 V0 = res_main_while0b_v18 V0' := by
  unfold res_main_while0b_v18
  rw [res_main_while0b_v17_congr h, res_main_while0b_call1_v0_congr h, res_main_while0b_call1_cst_congr h, res_main_while0b_call1_c_congr h]
set_option maxRecDepth 8192 in
theorem res_main_while0b_v25_congr {V0 V0' : Valuation τ sig (Elt F)} (h : Agree V0 V0') : res_main_while0b_v25 V0 = res_main_while0b_v25 V0' := by
  unfold res_main_while0b_v25
  rw [res_main_while0b_v17_congr h, res_main_while0b_v18_congr h, h main_v2_1 (by decide)]
set_option maxRecDepth 8192 in
theorem res_main_while0b_v33_congr {V0 V0' : Valuation τ sig (Elt F)} (h : Agree V0 V0') : res_main_while0b_v33 V0 = res_main_while0b_v33 V0' := by
  unfold res_main_while0b_v33
  rw [res_main_while0b_v18_congr h, h main_v2_2 (by decide)]
set_option maxRecDepth 8192 in
theorem res_main_while0b_v62_congr {V0 V0' : Valuation τ sig (Elt F)} (h : Agree V0 V0') : res_main_while0b_v62 V0 = res_main_while0b_v62 V0' := by
  unfold res_main_while0b_v62
  rw [res_main_while0b_v33_congr h, h main_v2_2 (by decide)]

set_option maxRecDepth 8192 in
/-- `main_v2_3` after one trip, of the contents before it. -/
def step_main_v2_3 (V0 : Valuation τ sig (Elt F)) : (Proc.devRef .tc main_v2_3 : DevRef τ sig).ty.Contents (Elt F) :=
  id (addi (V0 (Proc.devRef .tc main_v2_3)) (constantI S_ 32 1#32))
set_option maxRecDepth 8192 in
theorem step_main_v2_3_congr {V0 V0' : Valuation τ sig (Elt F)} (h : Agree V0 V0') : step_main_v2_3 V0 = step_main_v2_3 V0' := by
  unfold step_main_v2_3
  rw [h main_v2_3 (by decide)]
set_option maxRecDepth 8192 in
/-- `main_v2_4` after one trip, of the contents before it. -/
def step_main_v2_4 (V0 : Valuation τ sig (Elt F)) : (Proc.devRef .tc main_v2_4 : DevRef τ sig).ty.Contents (Elt F) :=
  id (addi (V0 (Proc.devRef .tc main_v2_4)) (constantI S_ 32 1#32))
set_option maxRecDepth 8192 in
theorem step_main_v2_4_congr {V0 V0' : Valuation τ sig (Elt F)} (h : Agree V0 V0') : step_main_v2_4 V0 = step_main_v2_4 V0' := by
  unfold step_main_v2_4
  rw [h main_v2_4 (by decide)]
set_option maxRecDepth 8192 in
/-- `main_v2_5` after one trip, of the contents before it. -/
def step_main_v2_5 (V0 : Valuation τ sig (Elt F)) : (Proc.devRef .tc main_v2_5 : DevRef τ sig).ty.Contents (Elt F) :=
  id (select (broadcastInDim S20000 ![] bcast_S_S20000 (res_main_while0b_v25 V0)) (andi (V0 (Proc.devRef .tc main_v2_5)) (noti (cmpf .ogt (Host.divf (res_main_while0b_v62 V0) (addf (subf (addf (broadcastInDim S20000 ![] bcast_S_S20000 (mulf (subf (shapeCast S_ (extractStridedSlice S1 ![2] (res_main_while0b_v33 V0) slices_S4_S1_2) shapeCasts_S1_S_) (shapeCast S_ (extractStridedSlice S1 ![0] (res_main_while0b_v33 V0) slices_S4_S1_0) shapeCasts_S1_S_)) (subf (shapeCast S_ (extractStridedSlice S1 ![3] (res_main_while0b_v33 V0) slices_S4_S1_3) shapeCasts_S1_S_) (shapeCast S_ (extractStridedSlice S1 ![1] (res_main_while0b_v33 V0) slices_S4_S1_1) shapeCasts_S1_S_)))) (mulf (subf (shapeCast S20000 (extractStridedSlice S20000x1 ![0, 2] (V0 (Proc.devRef .tc main_v2_2)) slices_S20000x4_S20000x1_0_2) shapeCasts_S20000x1_S20000) (shapeCast S20000 (extractStridedSlice S20000x1 ![0, 0] (V0 (Proc.devRef .tc main_v2_2)) slices_S20000x4_S20000x1_0_0) shapeCasts_S20000x1_S20000)) (subf (shapeCast S20000 (extractStridedSlice S20000x1 ![0, 3] (V0 (Proc.devRef .tc main_v2_2)) slices_S20000x4_S20000x1_0_3) shapeCasts_S20000x1_S20000) (shapeCast S20000 (extractStridedSlice S20000x1 ![0, 1] (V0 (Proc.devRef .tc main_v2_2)) slices_S20000x4_S20000x1_0_1) shapeCasts_S20000x1_S20000)))) (res_main_while0b_v62 V0)) (broadcastInDim S20000 ![] bcast_S_S20000 (constant S_ .f32 0x322BCC77#32)))) (broadcastInDim S20000 ![] bcast_S_S20000 (constant S_ .f32 0x3F000000#32))))) (V0 (Proc.devRef .tc main_v2_5)))
set_option maxRecDepth 8192 in
theorem step_main_v2_5_congr {V0 V0' : Valuation τ sig (Elt F)} (h : Agree V0 V0') : step_main_v2_5 V0 = step_main_v2_5 V0' := by
  unfold step_main_v2_5
  rw [res_main_while0b_v25_congr h, res_main_while0b_v62_congr h, res_main_while0b_v33_congr h, h main_v2_5 (by decide), h main_v2_2 (by decide)]
set_option maxRecDepth 8192 in
/-- `main_v2_6` after one trip, of the contents before it. -/
def step_main_v2_6 (V0 : Valuation τ sig (Elt F)) : (Proc.devRef .tc main_v2_6 : DevRef τ sig).ty.Contents (Elt F) :=
  id (Host.scatter scatter_S512_S1_S__n_0_0_0 (fun _ b => b) (V0 (Proc.devRef .tc main_v2_6)) (broadcastInDim S1 ![] bcast_S_S1 (id (select (cmpi .slt (V0 (Proc.devRef .tc main_v2_4)) (constantI S_ 32 0#32)) (addi (V0 (Proc.devRef .tc main_v2_4)) (constantI S_ 32 512#32)) (V0 (Proc.devRef .tc main_v2_4))))) (select (res_main_while0b_v25 V0) (res_main_while0b_v18 V0) (constantI S_ 32 4294967295#32)))
set_option maxRecDepth 8192 in
theorem step_main_v2_6_congr {V0 V0' : Valuation τ sig (Elt F)} (h : Agree V0 V0') : step_main_v2_6 V0 = step_main_v2_6 V0' := by
  unfold step_main_v2_6
  rw [res_main_while0b_v25_congr h, res_main_while0b_v18_congr h, h main_v2_6 (by decide), h main_v2_4 (by decide)]

/-- ONE TRIP on the carried buffers: the buffers the body writes step, everything else is as it was. -/
def STEP (V0 : Valuation τ sig (Elt F)) : Valuation τ sig (Elt F) :=
  Function.update (Function.update (Function.update (Function.update (V0) (Proc.devRef .tc main_v2_3) (step_main_v2_3 V0)) (Proc.devRef .tc main_v2_4) (step_main_v2_4 V0)) (Proc.devRef .tc main_v2_5) (step_main_v2_5 V0)) (Proc.devRef .tc main_v2_6) (step_main_v2_6 V0)

theorem STEP_main_v2_0 (V0 : Valuation τ sig (Elt F)) : STEP V0 (Proc.devRef .tc main_v2_0) = V0 (Proc.devRef .tc main_v2_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v2_1 (V0 : Valuation τ sig (Elt F)) : STEP V0 (Proc.devRef .tc main_v2_1) = V0 (Proc.devRef .tc main_v2_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v2_2 (V0 : Valuation τ sig (Elt F)) : STEP V0 (Proc.devRef .tc main_v2_2) = V0 (Proc.devRef .tc main_v2_2) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v2_3 (V0 : Valuation τ sig (Elt F)) : STEP V0 (Proc.devRef .tc main_v2_3) = step_main_v2_3 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v2_4 (V0 : Valuation τ sig (Elt F)) : STEP V0 (Proc.devRef .tc main_v2_4) = step_main_v2_4 V0 := by
  unfold STEP; rw [Function.update_of_ne (devRef_ne_of_ne (by decide))]; rw [Function.update_of_ne (devRef_ne_of_ne (by decide))]; rw [Function.update_self]
theorem STEP_main_v2_5 (V0 : Valuation τ sig (Elt F)) : STEP V0 (Proc.devRef .tc main_v2_5) = step_main_v2_5 V0 := by
  unfold STEP; rw [Function.update_of_ne (devRef_ne_of_ne (by decide))]; rw [Function.update_self]
theorem STEP_main_v2_6 (V0 : Valuation τ sig (Elt F)) : STEP V0 (Proc.devRef .tc main_v2_6) = step_main_v2_6 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v2_0 (after condOps X)).trans ((hc main_v2_0 (by decide)).trans (STEP_main_v2_0 X).symm)
  · exact (trip_main_v2_1 (after condOps X)).trans ((hc main_v2_1 (by decide)).trans (STEP_main_v2_1 X).symm)
  · exact (trip_main_v2_2 (after condOps X)).trans ((hc main_v2_2 (by decide)).trans (STEP_main_v2_2 X).symm)
  · exact (trip_main_v2_3 (after condOps X)).trans ((step_main_v2_3_congr hc).trans (STEP_main_v2_3 X).symm)
  · exact (trip_main_v2_4 (after condOps X)).trans ((step_main_v2_4_congr hc).trans (STEP_main_v2_4 X).symm)
  · exact (trip_main_v2_5 (after condOps X)).trans ((step_main_v2_5_congr hc).trans (STEP_main_v2_5 X).symm)
  · exact (trip_main_v2_6 (after condOps X)).trans ((step_main_v2_6_congr hc).trans (STEP_main_v2_6 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v2_0, STEP_main_v2_0]; exact h main_v2_0 (by decide)
  · rw [STEP_main_v2_1, STEP_main_v2_1]; exact h main_v2_1 (by decide)
  · rw [STEP_main_v2_2, STEP_main_v2_2]; exact h main_v2_2 (by decide)
  · rw [STEP_main_v2_3, STEP_main_v2_3]; exact step_main_v2_3_congr h
  · rw [STEP_main_v2_4, STEP_main_v2_4]; exact step_main_v2_4_congr h
  · rw [STEP_main_v2_5, STEP_main_v2_5]; exact step_main_v2_5_congr h
  · rw [STEP_main_v2_6, STEP_main_v2_6]; exact step_main_v2_6_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

end Cert.Proof.Ref

end
-- ==== Proof.Ref.Out.lean ====
/- What the reference leaves at the end: its result as one term of the arguments and of the kept indices (`result`), its
   arguments unchanged, its counters zero (`run_out`). -/
module

public import proofs.«01_k».proof.Proof.Ref.Trip
public import Idealize.ShloMosaic.Lib.Quiescent
public import Idealize.ShloMosaic.Lib.StableHlo.RunHlo

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Idealize.SL Idealize.SL.Sem
open Idealize.ShloMosaic.StableHlo

variable {F : FTy → Type} [FloatOps F]

/-- Which steps kept a box. -/
def kept (keep : IVec S512 32) : IVec S512 1 :=
  cmpi .sge keep (broadcastInDim S512 ![] bcast_S_S512 (constantI S_ 32 0#32))
/-- The index each step kept, 0 where it kept none. -/
def safeIdx (keep : IVec S512 32) : IVec S512 32 :=
  select (kept keep) keep (broadcastInDim S512 ![] bcast_S_S512 (id (constantI S_ 32 0#32)))
/-- The index that the gathers read, a negative one counted from the end, as a column. -/
def takeIdx (safe : IVec S512 32) : IVec S512x1 32 :=
  broadcastInDim S512x1 ![0] bcast_S512_S512x1_0
    (select (cmpi .slt safe (broadcastInDim S512 ![] bcast_S_S512 (constantI S_ 32 0#32)))
      (addi safe (broadcastInDim S512 ![] bcast_S_S512 (constantI S_ 32 20000#32))) safe)
/-- Whether the gathered index is in range. -/
def takeOk (safe : IVec S512 32) : IVec S512 1 :=
  Host.reduce IntOp.andi
    (andi (cmpi .sge (takeIdx safe) (broadcastInDim S512x1 ![] bcast_S_S512x1 (constantI S_ 32 0#32)))
      (cmpi .sle (takeIdx safe)
        (broadcastInDim S512x1 ![0, 1] bcast_S1x1_S512x1_0_1 (broadcastInDim S1x1 ![1] bcast_S1_S1x1_1 (constantI S1 32 19999#32)))))
    (constantI S_ 1 1#1) reducesTo_S512x1_S512_d1 h_S_
/-- The boxes taken. -/
def takeBoxes (boxes : FVec F S20000x4 .f32) (safe : IVec S512 32) : FVec F S512x4 .f32 :=
  select (broadcastInDim S512x4 ![0] bcast_S512_S512x4_0 (takeOk safe))
    (Host.gather gather_S20000x4_S512x1_S512x4_1_0_n_n_0_1_14 boxes (takeIdx safe))
    (broadcastInDim S512x4 ![] bcast_S_S512x4 (constant S_ .f32 0x7FC00000#32))
/-- The scores taken. -/
def takeScores (scores : FVec F S20000 .f32) (safe : IVec S512 32) : FVec F S512 .f32 :=
  select (takeOk safe)
    (Host.gather gather_S20000_S512x1_S512_n_0_n_n_0_1_1 scores (takeIdx safe))
    (broadcastInDim S512 ![] bcast_S_S512 (constant S_ .f32 0x7FC00000#32))
/-- Four columns and a fifth one beside them. -/
def beside (a : FVec F S512x4 .f32) (b : FVec F S512x1 .f32) : FVec F S512x5 .f32 :=
  concatenate S512x5 1 [⟨S512x4, a⟩, ⟨S512x1, b⟩] concatenates_S512x4_S512x1_S512x5_d1
/-- The reference's result: the boxes and the scores taken, each times 1 or 0, side by side. -/
def result (boxes : FVec F S20000x4 .f32) (scores : FVec F S20000 .f32) (keep : IVec S512 32) : FVec F S512x5 .f32 :=
  beside
    (mulf (takeBoxes boxes (safeIdx keep))
      (broadcastInDim S512x4 ![0, 1] bcast_S512x1_S512x4_0_1 (uitofp .f32 (broadcastInDim S512x1 ![0] bcast_S512_S512x1_0 (kept keep)))))
    (broadcastInDim S512x1 ![0] bcast_S512_S512x1_0 (mulf (takeScores scores (safeIdx keep)) (uitofp .f32 (kept keep))))

/-! The stretches after the loop, one by one. -/

section Post
variable (X : Valuation τ sig (Elt F))

theorem post1_v4 : after hostOps0_1 X (no_index (Proc.devRef .tc main_v4)) = kept (X (Proc.devRef .tc main_v2_6)) := by
  after_reads_simp
  rfl
theorem post1_zero : after hostOps0_1 X (no_index (Proc.devRef .tc main_c_4)) = constantI S_ 32 0#32 := by
  after_reads_simp
theorem post1_keep : after hostOps0_1 X (no_index (Proc.devRef .tc main_v2_6)) = X (Proc.devRef .tc main_v2_6) := by
  after_reads_simp
theorem post1_arg0 : after hostOps0_1 X (no_index (Proc.devRef .tc main_arg0)) = X (Proc.devRef .tc main_arg0) := by
  after_reads_simp
theorem post1_arg1 : after hostOps0_1 X (no_index (Proc.devRef .tc main_arg1)) = X (Proc.devRef .tc main_arg1) := by
  after_reads_simp
theorem post2_v5 : after hostOps0_2 X (no_index (Proc.devRef .tc main_v5))
    = select (X (Proc.devRef .tc main_v4)) (X (Proc.devRef .tc main_v2_6)) (broadcastInDim S512 ![] bcast_S_S512 (id (X (Proc.devRef .tc main_c_4)))) := by
  after_reads_simp
  rfl
theorem post2_v4 : after hostOps0_2 X (no_index (Proc.devRef .tc main_v4)) = X (Proc.devRef .tc main_v4) := by
  after_reads_simp
theorem post2_arg0 : after hostOps0_2 X (no_index (Proc.devRef .tc main_arg0)) = X (Proc.devRef .tc main_arg0) := by
  after_reads_simp
theorem post2_arg1 : after hostOps0_2 X (no_index (Proc.devRef .tc main_arg1)) = X (Proc.devRef .tc main_arg1) := by
  after_reads_simp
theorem post3_v6 : after hostOps0_3 X (no_index (Proc.devRef .tc main_v6))
    = takeBoxes (X (Proc.devRef .tc main_arg0)) (X (Proc.devRef .tc main_v5)) := by
  after_reads_simp
  rfl
theorem post3_v4 : after hostOps0_3 X (no_index (Proc.devRef .tc main_v4)) = X (Proc.devRef .tc main_v4) := by
  after_reads_simp
theorem post3_v5 : after hostOps0_3 X (no_index (Proc.devRef .tc main_v5)) = X (Proc.devRef .tc main_v5) := by
  after_reads_simp
theorem post3_arg1 : after hostOps0_3 X (no_index (Proc.devRef .tc main_arg1)) = X (Proc.devRef .tc main_arg1) := by
  after_reads_simp
theorem post4_v10 : after hostOps0_4 X (no_index (Proc.devRef .tc main_v10))
    = mulf (X (Proc.devRef .tc main_v6))
        (broadcastInDim S512x4 ![0, 1] bcast_S512x1_S512x4_0_1
          (uitofp .f32 (broadcastInDim S512x1 ![0] bcast_S512_S512x1_0 (X (Proc.devRef .tc main_v4))))) := by
  after_reads_simp
theorem post4_v4 : after hostOps0_4 X (no_index (Proc.devRef .tc main_v4)) = X (Proc.devRef .tc main_v4) := by
  after_reads_simp
theorem post4_v5 : after hostOps0_4 X (no_index (Proc.devRef .tc main_v5)) = X (Proc.devRef .tc main_v5) := by
  after_reads_simp
theorem post4_arg1 : after hostOps0_4 X (no_index (Proc.devRef .tc main_arg1)) = X (Proc.devRef .tc main_arg1) := by
  after_reads_simp
theorem post5_v11 : after hostOps0_5 X (no_index (Proc.devRef .tc main_v11))
    = takeScores (X (Proc.devRef .tc main_arg1)) (X (Proc.devRef .tc main_v5)) := by
  after_reads_simp
  rfl
theorem post5_v4 : after hostOps0_5 X (no_index (Proc.devRef .tc main_v4)) = X (Proc.devRef .tc main_v4) := by
  after_reads_simp
theorem post5_v10 : after hostOps0_5 X (no_index (Proc.devRef .tc main_v10)) = X (Proc.devRef .tc main_v10) := by
  after_reads_simp
theorem post6_v14 : upto hostOps0_6 X 3 (Proc.devRef .tc main_v14)
    = broadcastInDim S512x1 ![0] bcast_S512_S512x1_0 (mulf (X (Proc.devRef .tc main_v11)) (uitofp .f32 (X (Proc.devRef .tc main_v4)))) := by
  after_reads_simp
theorem post6_v10 : upto hostOps0_6 X 3 (Proc.devRef .tc main_v10) = X (Proc.devRef .tc main_v10) := by
  after_reads_simp
theorem post6_v15 : after hostOps0_6 X (no_index (Proc.devRef .tc main_v15))
    = beside (X (Proc.devRef .tc main_v10))
        (broadcastInDim S512x1 ![0] bcast_S512_S512x1_0 (mulf (X (Proc.devRef .tc main_v11)) (uitofp .f32 (X (Proc.devRef .tc main_v4))))) := by
  rw [← post6_v14 X, ← post6_v10 X]
  after_reads_simp
  rfl

/-- The stretches after the loop leave the result. -/
theorem post_out :
    afterL postI X (Proc.devRef .tc main_v15)
      = result (X (Proc.devRef .tc main_arg0)) (X (Proc.devRef .tc main_arg1)) (X (Proc.devRef .tc main_v2_6)) := by
  simp only [afterL_cons, afterL_nil, post6_v15, post5_v11, post5_v4, post5_v10, post4_v10, post4_v4, post4_v5, post4_arg1,
    post3_v6, post3_v4, post3_v5, post3_arg1, post2_v5, post2_v4, post2_arg0, post2_arg1,
    post1_v4, post1_zero, post1_keep, post1_arg0, post1_arg1]
  unfold result safeIdx
  rfl

end Post

variable (m : (ℓ : Loc nD τ sig) → Buf (Elt F) ℓ) (ρ : Dev nD → PrngReg)

/-- No operation writes the arguments. -/
theorem body_arg0 (X : Valuation τ sig (Elt F)) : afterL bodyI X (Proc.devRef .tc main_arg0) = X (Proc.devRef .tc main_arg0) := by
  simp only [afterL_cons, afterL_nil]
  after_reads_simp
theorem body_arg1 (X : Valuation τ sig (Elt F)) : afterL bodyI X (Proc.devRef .tc main_arg1) = X (Proc.devRef .tc main_arg1) := by
  simp only [afterL_cons, afterL_nil]
  after_reads_simp
theorem cond_arg0 (X : Valuation τ sig (Elt F)) : after condOps X (Proc.devRef .tc main_arg0) = X (Proc.devRef .tc main_arg0) := by
  after_reads_simp
theorem cond_arg1 (X : Valuation τ sig (Elt F)) : after condOps X (Proc.devRef .tc main_arg1) = X (Proc.devRef .tc main_arg1) := by
  after_reads_simp
theorem cond_keep (X : Valuation τ sig (Elt F)) : after condOps X (Proc.devRef .tc main_v2_6) = X (Proc.devRef .tc main_v2_6) := by
  after_reads_simp
theorem post_arg0 (X : Valuation τ sig (Elt F)) : afterL postI X (Proc.devRef .tc main_arg0) = X (Proc.devRef .tc main_arg0) := by
  simp only [afterL_cons, afterL_nil]
  after_reads_simp
theorem post_arg1 (X : Valuation τ sig (Elt F)) : afterL postI X (Proc.devRef .tc main_arg1) = X (Proc.devRef .tc main_arg1) := by
  simp only [afterL_cons, afterL_nil]
  after_reads_simp

theorem entry_arg0 (c : Dev nD) : entryContents preI m c (Proc.devRef .tc main_arg0) = m ((c.tc : Thread nD τ).loc main_arg0) := by
  simp only [entryContents, afterL_cons, afterL_nil]
  after_reads_simp
theorem entry_arg1 (c : Dev nD) : entryContents preI m c (Proc.devRef .tc main_arg1) = m ((c.tc : Thread nD τ).loc main_arg1) := by
  simp only [entryContents, afterL_cons, afterL_nil]
  after_reads_simp

theorem atK_arg0 (c : Dev nD) : ∀ k, atK m k c (Proc.devRef .tc main_arg0) = m ((c.tc : Thread nD τ).loc main_arg0)
  | 0 => entry_arg0 m c
  | k + 1 => (body_arg0 _).trans ((cond_arg0 _).trans (atK_arg0 c k))
theorem atK_arg1 (c : Dev nD) : ∀ k, atK m k c (Proc.devRef .tc main_arg1) = m ((c.tc : Thread nD τ).loc main_arg1)
  | 0 => entry_arg1 m c
  | k + 1 => (body_arg1 _).trans ((cond_arg1 _).trans (atK_arg1 c k))

/-- The carried buffers at the loop's entry. -/
abbrev start (c : Dev nD) : Valuation τ sig (Elt F) := entryContents preI m c
/-- The indices kept after the loop. -/
def keepEnd (c : Dev nD) : IVec S512 32 := STEP^[512] (start m c) (Proc.devRef .tc main_v2_6)

/-- Every weakly fair execution of the reference ends with the result in place, the arguments as they were and every
    counter zero. -/
theorem run_out : θ_run (defs (F := F)) (onTc (τ := τ) (main (F := F))) ⟨m, fun _ => 0, ρ⟩
    (fun r => (∀ c : Dev nD,
        r.2.mem ((c.tc : Thread nD τ).loc main_v15)
          = result (m ((c.tc : Thread nD τ).loc main_arg0)) (m ((c.tc : Thread nD τ).loc main_arg1)) (keepEnd m c)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  refine θ_run_mono (run_fold m ρ) fun r h => ⟨fun c => ⟨?_, ?_, ?_⟩, sem_eq_zero_of_no_sems rfl _⟩
  · rw [h c main_v15 rfl, finalContents, post_out, cond_arg0, cond_arg1, cond_keep,
      show atTrip condOps bodyI (entryContents preI m) 512 c = atK m 512 c from rfl, atK_arg0, atK_arg1,
      atK_agree m c 512 main_v2_6 (by simp [carriedRefs])]
    rfl
  · rw [h c main_arg0 rfl, finalContents, post_arg0, cond_arg0]; exact atK_arg0 m c 512
  · rw [h c main_arg1 rfl, finalContents, post_arg1, cond_arg1]; exact atK_arg1 m c 512

end Cert.Proof.Ref

end
-- ==== Proof.Val.First.lean ====
/-
  The first greatest value of a finite family, and what the two folds that look for it return: a fold of `max` is a value of the family that
  bounds it, and a fold of the signed minimum of words that denote small numbers is the word of the least of those numbers.
-/
module

public import Idealize.ShloMosaic.PureOps.Reduce
public import Idealize.ShloMosaic.PureOps.Ideal.Laws

@[expose] public section

namespace Cert.Proof

open Idealize.ShloMosaic

/-- A fold of `max` from `⊥` bounds the family and is one of its values. -/
theorem foldMax_spec {ι : Type} [Fintype ι] [Nonempty ι] (f : ι → EReal) :
    (∀ i, f i ≤ Finset.univ.fold max ⊥ f) ∧ ∃ i, f i = Finset.univ.fold max ⊥ f := by
  have hb : ∀ i, f i ≤ Finset.univ.fold max ⊥ f := fun i =>
    (Finset.le_fold_max (f i)).mpr (Or.inr ⟨i, Finset.mem_univ i, le_refl _⟩)
  refine ⟨hb, ?_⟩
  rcases (Finset.le_fold_max (f := f) (s := Finset.univ) (b := ⊥) (Finset.univ.fold max ⊥ f)).mp (le_refl _) with h | ⟨i, _, h⟩
  · exact ⟨Classical.arbitrary ι, le_antisymm (hb _) (h.trans bot_le)⟩
  · exact ⟨i, le_antisymm (hb i) h⟩

/-- A value that bounds the family and belongs to it is that fold. -/
theorem foldMax_eq {ι : Type} [Fintype ι] (f : ι → EReal) (i : ι) (h : ∀ j, f j ≤ f i) : Finset.univ.fold max ⊥ f = f i := by
  haveI : Nonempty ι := ⟨i⟩
  obtain ⟨hb, k, hk⟩ := foldMax_spec f
  exact le_antisymm (hk ▸ h k) (hb i)

theorem toInt_small (n : ℕ) (h : n < 2147483648) : (BitVec.ofNat 32 n).toInt = (n : ℤ) := by
  have e : (BitVec.ofNat 32 n).toNat = n := by rw [BitVec.toNat_ofNat]; omega
  rw [BitVec.toInt_eq_toNat_of_lt (by rw [e]; omega), e]

theorem minsi_small (a b : ℕ) (ha : a < 2147483648) (hb : b < 2147483648) :
    IntOp.minsi (BitVec.ofNat 32 a) (BitVec.ofNat 32 b) = BitVec.ofNat 32 (min a b) := by
  unfold IntOp.minsi
  rw [BitVec.slt_eq_decide, toInt_small a ha, toInt_small b hb]
  by_cases h : a < b
  · rw [min_eq_left h.le]; simp [h]
  · rw [min_eq_right (by omega)]; simp [h]

/-- A fold of the signed minimum over words of numbers below `2 ^ 31` is the word of the least of them. -/
theorem foldMin_spec {ι : Type} [Fintype ι] [Nonempty ι] (f : ι → BitVec 32) (n : ι → ℕ)
    (h : ∀ i, n i < 2147483648 ∧ f i = BitVec.ofNat 32 (n i)) :
    ∃ i, Finset.univ.fold IntOp.minsi 2147483647#32 f = BitVec.ofNat 32 (n i) ∧ ∀ j, n i ≤ n j := by
  classical
  have key : ∀ s : Finset ι, ∃ m, m < 2147483648 ∧ s.fold IntOp.minsi 2147483647#32 f = BitVec.ofNat 32 m ∧ (∀ i ∈ s, m ≤ n i)
      ∧ (m = 2147483647 ∨ ∃ i ∈ s, m = n i) := by
    intro s
    induction s using Finset.induction_on with
    | empty => exact ⟨2147483647, by omega, rfl, fun i hi => absurd hi (Finset.notMem_empty i), Or.inl rfl⟩
    | insert a s ha ih =>
      obtain ⟨m, hm, e, hle, hor⟩ := ih
      refine ⟨min (n a) m, by have := (h a).1; omega, ?_, ?_, ?_⟩
      · rw [Finset.fold_insert ha, e, (h a).2, minsi_small _ _ (h a).1 hm]
      · intro i hi
        rcases Finset.mem_insert.mp hi with rfl | hi
        · exact min_le_left _ _
        · exact (min_le_right _ _).trans (hle i hi)
      · rcases le_total (n a) m with hc | hc
        · exact Or.inr ⟨a, Finset.mem_insert_self a s, min_eq_left hc⟩
        · rw [min_eq_right hc]
          rcases hor with hor | ⟨i, hi, hor⟩
          · exact Or.inl hor
          · exact Or.inr ⟨i, Finset.mem_insert_of_mem hi, hor⟩
  obtain ⟨m, hm, e, hle, hor⟩ := key Finset.univ
  have hle' : ∀ i, m ≤ n i := fun i => hle i (Finset.mem_univ i)
  rcases hor with hor | ⟨i, _, hor⟩
  · have i0 : ι := Classical.arbitrary ι
    have : n i0 = m := by have := (h i0).1; have := hle' i0; omega
    exact ⟨i0, by rw [e, this], fun j => this ▸ hle' j⟩
  · exact ⟨i, by rw [e, hor], fun j => hor ▸ hle' j⟩

/-- `i` is where the family `f` is greatest, the first such place in the order of `key`. -/
def First {ι : Type} (key : ι → ℕ) (f : ι → EReal) (i : ι) : Prop :=
  (∀ j, f j ≤ f i) ∧ ∀ j, key j < key i → f j < f i

theorem First.unique {ι : Type} {key : ι → ℕ} (hk : Function.Injective key) {f : ι → EReal} {i j : ι} (hi : First key f i) (hj : First key f j) : i = j := by
  rcases lt_trichotomy (key i) (key j) with h | h | h
  · exact absurd (hj.2 i h) (not_lt.mpr (hi.1 j))
  · exact hk h
  · exact absurd (hi.2 j h) (not_lt.mpr (hj.1 i))

end Cert.Proof

end
-- ==== Proof.Val.Pick.lean ====
/-
  The first pick of a sweep as mathematics, on the extended reals: whatever masked scores a plane holds, the payloads' greatest value of each lane,
  first row of it, greatest value of all and place of it are the plane's greatest score and the first place that holds it, in row-major order.
-/
module

public import proofs.«01_k».proof.Proof.KI.Sweep
public import proofs.«01_k».proof.Proof.Val.First
public import Idealize.ShloMosaic.Lib.Pointwise

@[expose] public section

set_option maxRecDepth 16384

noncomputable section

namespace Cert.Proof.KI

open Cert.KernelIdeal Cert.KernelIdeal.Gen
open Idealize.ShloMosaic Idealize.ShloMosaic.TcCoe
open Idealize.SL Idealize.SL.Sem

/-- A place of a plane: its row and its lane. -/
abbrev Place := Fin 160 × Fin 128

/-- The number of a place in row-major order. -/
def key (i : Place) : ℕ := i.1.val * 128 + i.2.val

theorem key_lt (i : Place) : key i < 20480 := by
  have h1 := i.1.isLt; have h2 := i.2.isLt; unfold key; omega

theorem key_inj : Function.Injective key := by
  intro i j h
  have h1 := i.2.isLt; have h2 := j.2.isLt
  unfold key at h
  exact Prod.ext (Fin.ext (by omega)) (Fin.ext (by omega))

theorem ofBits_negInf : Ideal.ofBits .f32 0xFF800000#32 = ⊥ := by
  simp [Ideal.ofBits, Ideal.ieee]

variable (ms : FVec Ideal S160x128 .f32)

theorem colMax_fold (l : Fin 128) : k0_pay10 ms (ix2 (0 : Fin 1) l) = Finset.univ.fold max ⊥ fun r : Fin 160 => (ms (ix2 r l) : EReal) := by
  rw [← ofBits_negInf]
  pointwise [k0_pay10]

theorem colMax_spec (l : Fin 128) : (∀ r : Fin 160, (ms (ix2 r l) : EReal) ≤ k0_pay10 ms (ix2 (0 : Fin 1) l))
    ∧ ∃ r : Fin 160, (ms (ix2 r l) : EReal) = k0_pay10 ms (ix2 (0 : Fin 1) l) := by
  rw [colMax_fold]; exact foldMax_spec fun r : Fin 160 => (ms (ix2 r l) : EReal)

/-- The row a lane's payload holds: the first row of the lane's greatest score. -/
theorem colRow_spec (l : Fin 128) : ∃ r : Fin 160, k0_pay11 rows ms (ix2 (0 : Fin 1) l) = BitVec.ofNat 32 r.val
    ∧ (ms (ix2 r l) : EReal) = k0_pay10 ms (ix2 (0 : Fin 1) l)
    ∧ ∀ r' : Fin 160, (ms (ix2 r' l) : EReal) = k0_pay10 ms (ix2 (0 : Fin 1) l) → r.val ≤ r'.val := by
  obtain ⟨-, r0, hr0⟩ := colMax_spec ms l
  unfold k0_pay11
  generalize k0_pay10 ms = cm at hr0 ⊢
  have e : ∀ x : Fin 160, (if (ms (ix2 x l) : EReal) = cm (ix2 0 l) then BitVec.ofNat 32 x.val else 160#32)
      = BitVec.ofNat 32 (if (ms (ix2 x l) : EReal) = cm (ix2 0 l) then x.val else 160) := fun x => by split <;> rfl
  obtain ⟨r, hr, hle⟩ := foldMin_spec (fun x : Fin 160 => if (ms (ix2 x l) : EReal) = cm (ix2 0 l) then BitVec.ofNat 32 x.val else 160#32)
    (fun x => if (ms (ix2 x l) : EReal) = cm (ix2 0 l) then x.val else 160) fun x => ⟨by have := x.isLt; split <;> omega, e x⟩
  have hrow : (ms (ix2 r l) : EReal) = cm (ix2 0 l) := by
    by_contra hc
    have := hle r0
    rw [if_neg hc, if_pos hr0] at this
    have := r0.isLt; omega
  rw [if_pos hrow] at hr
  refine ⟨r, ?_, hrow, fun r' hr' => ?_⟩
  · rw [← hr]; pointwise [rows]
  · have := hle r'
    rwa [if_pos hrow, if_pos hr'] at this

theorem max_fold : k0_pay12 ms (ix2 (0 : Fin 1) (0 : Fin 1)) = Finset.univ.fold max ⊥ fun l : Fin 128 => (k0_pay10 ms (ix2 (0 : Fin 1) l) : EReal) := by
  rw [← ofBits_negInf]
  unfold k0_pay12
  generalize k0_pay10 ms = cm
  pointwise []

theorem max_spec : (∀ l : Fin 128, (k0_pay10 ms (ix2 (0 : Fin 1) l) : EReal) ≤ k0_pay12 ms (ix2 (0 : Fin 1) (0 : Fin 1)))
    ∧ ∃ l : Fin 128, (k0_pay10 ms (ix2 (0 : Fin 1) l) : EReal) = k0_pay12 ms (ix2 (0 : Fin 1) (0 : Fin 1)) := by
  rw [max_fold]; exact foldMax_spec fun l : Fin 128 => (k0_pay10 ms (ix2 (0 : Fin 1) l) : EReal)

theorem word_place (r l : ℕ) : IntOp.addi (IntOp.muli (BitVec.ofNat 32 r) 128#32) (BitVec.ofNat 32 l) = BitVec.ofNat 32 (r * 128 + l) := by
  show BitVec.ofNat 32 r * BitVec.ofNat 32 128 + BitVec.ofNat 32 l = _
  rw [← BitVec.ofNat_mul, ← BitVec.ofNat_add]

/-- The pick of a plane of masked scores: the greatest score and the first place that holds it. -/
theorem pick : ∃ i : Place, First key (fun j => (ms (ix2 j.1 j.2) : EReal)) i
    ∧ k0_pay12 ms = (fun _ => ms (ix2 i.1 i.2)) ∧ k0_pay13 rows lanes ms = fun _ => BitVec.ofNat 32 (key i) := by
  have hcol := colMax_spec ms
  have hrow := colRow_spec ms
  choose cr hcr hcv hcle using hrow
  obtain ⟨hmax, l0, hl0⟩ := max_spec ms
  have hidx : ∀ x : S1x1.Idx, x = ix2 (0 : Fin 1) (0 : Fin 1) := fun x => by
    rw [eq_ix2 x]
    exact congrArg₂ ix2 (Subsingleton.elim (α := Fin 1) _ _) (Subsingleton.elim (α := Fin 1) _ _)
  obtain ⟨l, hl, hle⟩ := foldMin_spec
    (fun x : Fin 128 => if (k0_pay10 ms (ix2 0 x) : EReal) = k0_pay12 ms (ix2 0 0) then
      IntOp.addi (IntOp.muli (k0_pay11 rows ms (ix2 0 x)) 128#32) (BitVec.ofNat 32 x.val) else 20480#32)
    (fun x => if (k0_pay10 ms (ix2 0 x) : EReal) = k0_pay12 ms (ix2 0 0) then key (cr x, x) else 20480)
    fun x => ⟨by have := key_lt (cr x, x); split <;> omega, by
      by_cases h : (k0_pay10 ms (ix2 0 x) : EReal) = k0_pay12 ms (ix2 0 0)
      · rw [if_pos h, if_pos h, hcr x, word_place]; rfl
      · rw [if_neg h, if_neg h]⟩
  have htop : (k0_pay10 ms (ix2 0 l) : EReal) = k0_pay12 ms (ix2 0 0) := by
    by_contra hc
    have := hle l0
    rw [if_neg hc, if_pos hl0] at this
    have := key_lt (cr l0, l0); omega
  rw [if_pos htop] at hl
  have hval : (ms (ix2 (cr l) l) : EReal) = k0_pay12 ms (ix2 0 0) := (hcv l).trans htop
  refine ⟨(cr l, l), ⟨fun j => ?_, fun j hj => ?_⟩, ?_, ?_⟩
  · show (ms (ix2 j.1 j.2) : EReal) ≤ ms (ix2 (cr l) l)
    rw [hval]; exact ((hcol j.2).1 j.1).trans (hmax j.2)
  · show (ms (ix2 j.1 j.2) : EReal) < ms (ix2 (cr l) l)
    rw [hval]
    refine lt_of_le_of_ne (((hcol j.2).1 j.1).trans (hmax j.2)) fun he => ?_
    have h1 : (ms (ix2 j.1 j.2) : EReal) = k0_pay10 ms (ix2 (0 : Fin 1) j.2) :=
      le_antisymm ((hcol j.2).1 j.1) (he ▸ hmax j.2)
    have h2 := hle j.2
    rw [if_pos htop, if_pos (h1.symm.trans he)] at h2
    have h3 := hcle j.2 j.1 h1
    unfold key at h2 hj
    dsimp only at h2 hj
    omega
  · funext x; rw [hidx x]; exact hval.symm
  · funext x; rw [hidx x, ← hl]
    unfold k0_pay13
    generalize k0_pay10 ms = cm
    generalize k0_pay12 ms = m
    generalize k0_pay11 rows ms = cr'
    pointwise [lanes]

end Cert.Proof.KI

end
-- ==== Proof.Val.Hot.lean ====
/-
  The place of a pick, found again from its number by the kernel's division and remainder with their sign corrections: the mask of the plane is
  one at the place and nowhere else, and the greatest value of a plane under the mask, `-1` elsewhere, is the plane's value at the place.
-/
module

public import proofs.«01_k».proof.Proof.Val.Pick

@[expose] public section

set_option maxRecDepth 16384

noncomputable section

namespace Cert.Proof.KI

open Cert.KernelIdeal Cert.KernelIdeal.Gen
open Idealize.ShloMosaic Idealize.ShloMosaic.TcCoe
open Idealize.SL Idealize.SL.Sem

/-- The row of a number, rounded down whatever the number's sign. -/
def rowWord (w : BitVec 32) : BitVec 32 :=
  Scalar.select (IntOp.andi
      (IntOp.cmpi .ne (IntOp.subi ((IntOp.cmpi .sgt w 0#32).setWidth 32) ((IntOp.cmpi .slt w 0#32).setWidth 32)) 1#32)
      (IntOp.cmpi .ne (IntOp.remsi .vector w 128#32) 0#32))
    (IntOp.subi (IntOp.divsi .vector w 128#32) 1#32) (IntOp.divsi .vector w 128#32)

theorem not_corner (w : BitVec 32) : ¬ IntOp.SDivCorner w 128#32 := by
  unfold IntOp.SDivCorner; simp

theorem divsi_small (n : ℕ) (h : n < 20480) : IntOp.divsi .vector (BitVec.ofNat 32 n) 128#32 = BitVec.ofNat 32 (n / 128) := by
  unfold IntOp.divsi; rw [if_neg (not_corner _)]
  have e : (BitVec.ofNat 32 n).toNat = n := by rw [BitVec.toNat_ofNat]; omega
  have m1 : (BitVec.ofNat 32 n).msb = false := by
    rw [BitVec.msb_eq_decide, e]; simp only [decide_eq_false_iff_not]; omega
  rw [BitVec.sdiv_eq, m1, show (128#32).msb = false from rfl]
  apply BitVec.eq_of_toNat_eq
  show (BitVec.ofNat 32 n / 128#32).toNat = _
  rw [BitVec.toNat_udiv, e]
  show n / 128 = _
  rw [BitVec.toNat_ofNat]; omega

theorem rowWord_small (n : ℕ) (h : n < 20480) : rowWord (BitVec.ofNat 32 n) = BitVec.ofNat 32 (n / 128) := by
  unfold rowWord
  rw [divsi_small n h]
  have hc : IntOp.andi
      (IntOp.cmpi .ne (IntOp.subi ((IntOp.cmpi .sgt (BitVec.ofNat 32 n) 0#32).setWidth 32) ((IntOp.cmpi .slt (BitVec.ofNat 32 n) 0#32).setWidth 32)) 1#32)
      (IntOp.cmpi .ne (IntOp.remsi .vector (BitVec.ofNat 32 n) 128#32) 0#32) = 0#1 := by
    rcases Nat.eq_zero_or_pos n with rfl | hn
    · have : IntOp.remsi .vector (BitVec.ofNat 32 0) 128#32 = 0#32 := by
        unfold IntOp.remsi; rw [if_neg (not_corner _)]; decide
      rw [this]; decide
    · have h1 : IntOp.cmpi .sgt (BitVec.ofNat 32 n) 0#32 = 1#1 := by
        show BitVec.ofBool ((0#32).slt (BitVec.ofNat 32 n)) = 1#1
        rw [BitVec.slt_eq_decide, toInt_small n (by omega)]
        simp [hn]
      have h2 : IntOp.cmpi .slt (BitVec.ofNat 32 n) 0#32 = 0#1 := by
        show BitVec.ofBool ((BitVec.ofNat 32 n).slt 0#32) = 0#1
        rw [BitVec.slt_eq_decide, toInt_small n (by omega)]
        have : ¬ ((n : ℤ) < 0) := by omega
        simp [this]
      rw [h1, h2]
      generalize IntOp.cmpi .ne (IntOp.remsi .vector (BitVec.ofNat 32 n) 128#32) 0#32 = a
      revert a; decide
  rw [hc]; rfl

/-- The mask of a place, from its number's row and its remainder. -/
theorem hot_word (i : Place) (r : Fin 160) (l : Fin 128) :
    IntOp.andi (IntOp.cmpi .eq (BitVec.ofNat 32 r.val) (rowWord (BitVec.ofNat 32 (key i))))
      (IntOp.cmpi .eq (BitVec.ofNat 32 l.val)
        (IntOp.subi (BitVec.ofNat 32 (key i)) (IntOp.muli (rowWord (BitVec.ofNat 32 (key i))) 128#32)))
      = if (r, l) = i then 1#1 else 0#1 := by
  obtain ⟨ri, li⟩ := i
  have b1 := ri.isLt; have b2 := li.isLt; have b3 := r.isLt; have b4 := l.isLt
  rw [rowWord_small _ (key_lt _)]
  have e1 : key (ri, li) / 128 = ri.val := by unfold key; dsimp only; omega
  have e2 : IntOp.subi (BitVec.ofNat 32 (key (ri, li))) (IntOp.muli (BitVec.ofNat 32 (key (ri, li) / 128)) 128#32) = BitVec.ofNat 32 li.val := by
    rw [e1]
    show BitVec.ofNat 32 (key (ri, li)) - BitVec.ofNat 32 ri.val * BitVec.ofNat 32 128 = _
    rw [← BitVec.ofNat_mul]
    apply BitVec.eq_of_toNat_eq
    rw [BitVec.toNat_sub]; simp only [BitVec.toNat_ofNat]; unfold key; dsimp only; omega
  rw [e2, e1]
  have inj : ∀ a b : ℕ, a < 1000 → b < 1000 → (IntOp.cmpi .eq (BitVec.ofNat 32 a) (BitVec.ofNat 32 b) = if a = b then 1#1 else 0#1) := by
    intro a b ha hb
    show BitVec.ofBool (BitVec.ofNat 32 a == BitVec.ofNat 32 b) = _
    by_cases h : a = b
    · rw [if_pos h, h]; simp
    · rw [if_neg h]
      have : BitVec.ofNat 32 a ≠ BitVec.ofNat 32 b := fun e => h (by
        have := congrArg BitVec.toNat e
        simp only [BitVec.toNat_ofNat] at this; omega)
      rw [beq_eq_false_iff_ne.mpr this]; rfl
  rw [inj _ _ (by omega) (by omega), inj _ _ (by omega) (by omega)]
  by_cases h1 : r = ri
  · by_cases h2 : l = li
    · subst h1 h2; simp [IntOp.andi]
    · have : l.val ≠ li.val := fun e => h2 (Fin.ext e)
      simp [h1, h2, this, IntOp.andi]
  · have : r.val ≠ ri.val := fun e => h1 (Fin.ext e)
    simp [h1, this, IntOp.andi]

variable (ms : FVec Ideal S160x128 .f32)

/-- The mask of the first pick. -/
theorem hot1 (i : Place) (hw : k0_pay13 rows lanes ms = fun _ => BitVec.ofNat 32 (key i)) (r : Fin 160) (l : Fin 128) :
    k0_pay18 rows lanes (k0_pay13 rows lanes ms) (k0_pay15 rows lanes ms) (k0_pay16 rows lanes ms) (k0_pay17 rows lanes ms) (ix2 r l)
      = if (r, l) = i then 1#1 else 0#1 := by
  rw [← hot_word i r l]
  unfold k0_pay18 k0_pay17 k0_pay16 k0_pay15
  rw [hw]
  pointwise [rows, lanes]
  rfl

/-- The mask of the second pick. -/
theorem hot2_of (w : IVec S1 32) (i : Place) (hw : w = fun _ => BitVec.ofNat 32 (key i)) (r : Fin 160) (l : Fin 128) :
    k0_pay36 rows lanes w (ix2 r l) = if (r, l) = i then 1#1 else 0#1 := by
  rw [← hot_word i r l, hw]
  unfold k0_pay36
  pointwise [rows, lanes]
  rfl

/-- The masked scores with the first pick taken out. -/
theorem out1 (w : IVec S1x1 32) (i : Place) (hw : w = fun _ => BitVec.ofNat 32 (key i)) (r : Fin 160) (l : Fin 128) :
    (k0_pay30 rows lanes ms w (k0_pay26 w) 128#32 (k0_pay27 w) (k0_pay28 w) (k0_pay29 w) (ix2 r l) : EReal)
      = if (r, l) = i then Ideal.ofBits .f32 0xF149F2CA#32 else ms (ix2 r l) := by
  have h : (k0_pay30 rows lanes ms w (k0_pay26 w) 128#32 (k0_pay27 w) (k0_pay28 w) (k0_pay29 w) (ix2 r l) : EReal)
      = Scalar.select (if (r, l) = i then 1#1 else 0#1) (Ideal.ofBits .f32 0xF149F2CA#32) (ms (ix2 r l)) := by
    rw [← hot_word i r l, hw]
    unfold k0_pay30 k0_pay26 k0_pay27 k0_pay28 k0_pay29
    pointwise [rows, lanes]
    rfl
  rw [h]
  by_cases hi : (r, l) = i
  · rw [if_pos hi, if_pos hi]; rfl
  · rw [if_neg hi, if_neg hi]; rfl

/-- The greatest value of a plane under a place's mask, `-1` elsewhere, is the plane's value there. -/
theorem masked_fold (x : FVec Ideal S160x128 .f32) (hot : IVec S160x128 1) (i : Place)
    (hh : ∀ (r : Fin 160) (l : Fin 128), hot (ix2 r l) = if (r, l) = i then 1#1 else 0#1)
    (hx : Ideal.ofBits .f32 0xBF800000#32 ≤ (x (ix2 i.1 i.2) : EReal)) :
    (Finset.univ.fold max (Ideal.ofBits .f32 0xFF800000#32)
      fun j : Place => (Scalar.select (hot (ix2 j.1 j.2)) (x (ix2 j.1 j.2) : EReal) (Ideal.ofBits .f32 0xBF800000#32) : EReal)) = x (ix2 i.1 i.2) := by
  rw [ofBits_negInf]
  have hi : (Scalar.select (hot (ix2 i.1 i.2)) (x (ix2 i.1 i.2) : EReal) (Ideal.ofBits .f32 0xBF800000#32) : EReal) = x (ix2 i.1 i.2) := by
    rw [hh i.1 i.2, if_pos rfl]; rfl
  rw [foldMax_eq _ i, hi]
  intro j
  rw [hi]
  by_cases hj : j = i
  · rw [hj, hi]
  · rw [hh j.1 j.2, if_neg hj]; exact hx

end Cert.Proof.KI

end
-- ==== Proof.Val.Box.lean ====
/-
  The mathematics of a box on the extended reals: its area, the intersection of two boxes, their overlap (intersection over union), and the row of the
  result that a pick gives.
-/
module

public import Idealize.ShloMosaic.PureOps.Ideal.Laws

@[expose] public section

noncomputable section

namespace Cert.Proof

open Idealize.ShloMosaic

/-- The filler score of what is out of the running. -/
abbrev filler : EReal := Ideal.ofBits .f32 0xF149F2CA#32
/-- The least score that counts, half the filler. -/
abbrev cutoff : EReal := Ideal.ofBits .f32 0xF0C9F2CA#32
/-- The overlap above which a box is suppressed. -/
abbrev half : EReal := Ideal.ofBits .f32 0x3F000000#32
/-- What is added to the union of two boxes. -/
abbrev eps : EReal := Ideal.ofBits .f32 0x322BCC77#32

/-- A box by two corners. -/
structure Box where
  x1 : EReal
  y1 : EReal
  x2 : EReal
  y2 : EReal

/-- Its area. -/
def Box.area (a : Box) : EReal := (a.x2 - a.x1) * (a.y2 - a.y1)

/-- The area two boxes share. -/
def inter (a b : Box) : EReal := max 0 (min a.x2 b.x2 - max a.x1 b.x1) * max 0 (min a.y2 b.y2 - max a.y1 b.y1)

/-- Their overlap, the second box's area given apart. -/
def overlap (a b : Box) (ar : EReal) : EReal := Ideal.div (inter a b) (a.area + ar - inter a b + eps)

/-- The box, then the score. -/
def entries (a : Box) (s : EReal) (c : Fin 5) : EReal := ![a.x1, a.y1, a.x2, a.y2, s] c

open Classical in
/-- A row of the result: a pick's box and score if the pick counts, zeros otherwise. -/
def rowOf (a : Box) (s : EReal) (v : Prop) (c : Fin 5) : EReal := entries a s c * if v then 1 else 0

theorem rowOf_neg (a : Box) (s : EReal) (v : Prop) (h : ¬ v) (c : Fin 5) : rowOf a s v c = 0 := by
  unfold rowOf; rw [if_neg h, mul_zero]

end Cert.Proof

end
-- ==== Proof.Val.Picks.lean ====
/-
  What a sweep reads off the planes, on the extended reals: the boxes at both picks' places, coordinate by coordinate.
-/
module

public import proofs.«01_k».proof.Proof.Val.Hot
public import proofs.«01_k».proof.Proof.Val.Box

@[expose] public section

set_option maxRecDepth 16384

noncomputable section

namespace Cert.Proof.KI

open Cert.KernelIdeal Cert.KernelIdeal.Gen
open Idealize.ShloMosaic Idealize.ShloMosaic.TcCoe
open Idealize.SL Idealize.SL.Sem

/-- The planes hold nothing below `-1`. -/
def AboveNeg (p : Planes Ideal) : Prop := ∀ (r : Fin 160) (l : Fin 128),
  Ideal.ofBits .f32 0xBF800000#32 ≤ (p.x1 (ix2 r l) : EReal) ∧ Ideal.ofBits .f32 0xBF800000#32 ≤ (p.y1 (ix2 r l) : EReal)
    ∧ Ideal.ofBits .f32 0xBF800000#32 ≤ (p.x2 (ix2 r l) : EReal) ∧ Ideal.ofBits .f32 0xBF800000#32 ≤ (p.y2 (ix2 r l) : EReal)

variable (p : Planes Ideal) (ms : FVec Ideal S160x128 .f32)

theorem idx11 (x : S1x1.Idx) : x = ix2 (0 : Fin 1) (0 : Fin 1) := by
  rw [eq_ix2 x]
  exact congrArg₂ ix2 (Subsingleton.elim (α := Fin 1) _ _) (Subsingleton.elim (α := Fin 1) _ _)

/-- The kernel's way to read a plane at a place, as a fold over all places. -/
theorem read_fold (x : FVec Ideal S160x128 .f32) (hot : IVec S160x128 1) :
    (broadcast S1x1 (extractAt ![0, 0, 0] (shapeCast S1x1x1 (multiReduction .maximumf [1, 2] S1 (shapeCast S1x160x128
      (select hot x (broadcast S160x128 (Scalar.ofBits .f32 0xBF800000#32))) shapeCasts_S160x128_S1x160x128) 0xFF800000#32 reduces_S1x160x128_S1 (.inl rfl) rfl)
      shapeCasts_S1_S1x1x1) inpos_S1x1x1_p0_0_0) : FVec Ideal S1x1 .f32) (ix2 (0 : Fin 1) (0 : Fin 1)) = Finset.univ.fold max (Ideal.ofBits .f32 0xFF800000#32)
      fun j : Place => (Scalar.select (hot (ix2 j.1 j.2)) (x (ix2 j.1 j.2) : EReal) (Ideal.ofBits .f32 0xBF800000#32) : EReal) := by
  pointwise []

/-- It reads the plane there. -/
theorem at_place (x : FVec Ideal S160x128 .f32) (hot : IVec S160x128 1) (i : Place)
    (hh : ∀ (r : Fin 160) (l : Fin 128), hot (ix2 r l) = if (r, l) = i then 1#1 else 0#1)
    (hx : Ideal.ofBits .f32 0xBF800000#32 ≤ (x (ix2 i.1 i.2) : EReal)) :
    (broadcast S1x1 (extractAt ![0, 0, 0] (shapeCast S1x1x1 (multiReduction .maximumf [1, 2] S1 (shapeCast S1x160x128
      (select hot x (broadcast S160x128 (Scalar.ofBits .f32 0xBF800000#32))) shapeCasts_S160x128_S1x160x128) 0xFF800000#32 reduces_S1x160x128_S1 (.inl rfl) rfl)
      shapeCasts_S1_S1x1x1) inpos_S1x1x1_p0_0_0) : FVec Ideal S1x1 .f32) = fun _ => x (ix2 i.1 i.2) := by
  funext y
  rw [idx11 y]
  exact (read_fold x hot).trans (masked_fold x hot i hh hx)

section Coords

variable (i : Place)

theorem bx1_eq (hp : AboveNeg p) (hw : k0_pay13 rows lanes ms = fun _ => BitVec.ofNat 32 (key i)) : bx1 p ms = fun _ => p.x1 (ix2 i.1 i.2) := by
  unfold bx1 k0_pay19
  exact at_place p.x1 _ i (hot1 ms i hw) (hp _ _).1

theorem by1_eq (hp : AboveNeg p) (hw : k0_pay13 rows lanes ms = fun _ => BitVec.ofNat 32 (key i)) : by1 p ms = fun _ => p.y1 (ix2 i.1 i.2) := by
  unfold by1 k0_pay20
  exact at_place p.y1 _ i (hot1 ms i hw) (hp _ _).2.1

theorem bx2_eq (hp : AboveNeg p) (hw : k0_pay13 rows lanes ms = fun _ => BitVec.ofNat 32 (key i)) : bx2 p ms = fun _ => p.x2 (ix2 i.1 i.2) := by
  unfold bx2 k0_pay21
  exact at_place p.x2 _ i (hot1 ms i hw) (hp _ _).2.2.1

theorem by2_eq (hp : AboveNeg p) (hw : k0_pay13 rows lanes ms = fun _ => BitVec.ofNat 32 (key i)) : by2 p ms = fun _ => p.y2 (ix2 i.1 i.2) := by
  unfold by2 k0_pay22
  exact at_place p.y2 _ i (hot1 ms i hw) (hp _ _).2.2.2

theorem cx1_eq (hp : AboveNeg p) (hw : best2 ms = fun _ => BitVec.ofNat 32 (key i)) : cx1 p ms = fun _ => p.x1 (ix2 i.1 i.2) := by
  unfold cx1 k0_pay37
  exact at_place p.x1 _ i (hot2_of (best2 ms) i hw) (hp _ _).1

theorem cy1_eq (hp : AboveNeg p) (hw : best2 ms = fun _ => BitVec.ofNat 32 (key i)) : cy1 p ms = fun _ => p.y1 (ix2 i.1 i.2) := by
  unfold cy1 cy1' k0_pay39 k0_pay38
  exact at_place p.y1 _ i (hot2_of (best2 ms) i hw) (hp _ _).2.1

theorem cx2_eq (hp : AboveNeg p) (hw : best2 ms = fun _ => BitVec.ofNat 32 (key i)) : cx2 p ms = fun _ => p.x2 (ix2 i.1 i.2) := by
  unfold cx2 hot2 k0_pay40
  exact at_place p.x2 _ i (hot2_of (best2 ms) i hw) (hp _ _).2.2.1

theorem cy2_eq (hp : AboveNeg p) (hw : best2 ms = fun _ => BitVec.ofNat 32 (key i)) : cy2 p ms = fun _ => p.y2 (ix2 i.1 i.2) := by
  unfold cy2 hot2 k0_pay41
  exact at_place p.y2 _ i (hot2_of (best2 ms) i hw) (hp _ _).2.2.2

end Coords

end Cert.Proof.KI

end
-- ==== Proof.Val.Pick2.lean ====
/-
  What a sweep reads off the planes, on the extended reals: the second pick's place and its score. The second pick is the first pick of
  the scores with the first pick's place set to the filler score, although the kernel only recomputes the lane that changed.
-/
module

public import proofs.«01_k».proof.Proof.Val.Picks

@[expose] public section

set_option maxRecDepth 16384

noncomputable section

namespace Cert.Proof.KI

open Cert.KernelIdeal Cert.KernelIdeal.Gen
open Idealize.ShloMosaic Idealize.ShloMosaic.TcCoe
open Idealize.SL Idealize.SL.Sem

variable (ms : FVec Ideal S160x128 .f32)

theorem ex_lane (x : S1x128.Idx) : ∃ l : Fin 128, x = ix2 (0 : Fin 1) l :=
  ⟨x 1, by rw [eq_ix2 x]; exact congrArg (fun a => ix2 a (x 1)) (Subsingleton.elim (α := Fin 1) _ _)⟩

/-- The masked scores with the first pick taken out. -/
def msOut : FVec Ideal S160x128 .f32 :=
  k0_pay30 rows lanes ms (best1 ms) (k0_pay26 (best1 ms)) 128#32 (k0_pay27 (best1 ms)) (k0_pay28 (best1 ms)) (k0_pay29 (best1 ms))

/-- The lane of the first pick, as the kernel finds it. -/
theorem lane_word (w : IVec S1x1 32) (i : Place) (hw : w = fun _ => BitVec.ofNat 32 (key i)) (l : Fin 128) :
    IntOp.cmpi .eq (BitVec.ofNat 32 l.val) (k0_pay26 w (ix2 (0 : Fin 1) (0 : Fin 1))) = if l = i.2 then 1#1 else 0#1 := by
  have h := hot_word i i.1 l
  have e : k0_pay26 w (ix2 (0 : Fin 1) (0 : Fin 1))
      = IntOp.subi (BitVec.ofNat 32 (key i)) (IntOp.muli (rowWord (BitVec.ofNat 32 (key i))) 128#32) := by
    rw [hw]; unfold k0_pay26; pointwise []; rfl
  rw [e]
  rw [show IntOp.cmpi .eq (BitVec.ofNat 32 i.1.val) (rowWord (BitVec.ofNat 32 (key i))) = 1#1 from by
    rw [rowWord_small _ (key_lt _)]
    have : key i / 128 = i.1.val := by have := i.2.isLt; unfold key; omega
    rw [this]; show BitVec.ofBool (_ == _) = _; simp] at h
  have h2 : ∀ a : BitVec 1, IntOp.andi 1#1 a = a := by decide
  rw [h2] at h
  rw [h]
  by_cases hl : l = i.2
  · rw [if_pos hl, if_pos (by rw [hl])]
  · rw [if_neg hl, if_neg (fun e => hl (by rw [← e]))]

/-- The lanes' greatest scores without the first pick: only its lane is looked at again. -/
theorem colMax2 (i : Place) (hw : best1 ms = fun _ => BitVec.ofNat 32 (key i)) :
    k0_pay32 rows lanes ms (colMax ms) (best1 ms) (k0_pay26 (best1 ms)) 128#32 (k0_pay27 (best1 ms)) (k0_pay28 (best1 ms)) (k0_pay29 (best1 ms))
      = k0_pay10 (msOut ms) := by
  funext x
  obtain ⟨l, rfl⟩ := ex_lane x
  have hlane := lane_word (best1 ms) i hw l
  have hout := out1 ms (best1 ms) i hw
  have e : k0_pay32 rows lanes ms (colMax ms) (best1 ms) (k0_pay26 (best1 ms)) 128#32 (k0_pay27 (best1 ms)) (k0_pay28 (best1 ms)) (k0_pay29 (best1 ms)) (ix2 (0 : Fin 1) l)
      = Scalar.select (IntOp.cmpi .eq (BitVec.ofNat 32 l.val) (k0_pay26 (best1 ms) (ix2 (0 : Fin 1) (0 : Fin 1)))) (k0_pay10 (msOut ms) (ix2 (0 : Fin 1) l)) (k0_pay10 ms (ix2 (0 : Fin 1) l)) := by
    unfold k0_pay32 colMax
    have : k0_pay31 rows lanes ms (best1 ms) (k0_pay26 (best1 ms)) 128#32 (k0_pay27 (best1 ms)) (k0_pay28 (best1 ms)) (k0_pay29 (best1 ms)) = k0_pay10 (msOut ms) := rfl
    rw [this]
    generalize k0_pay10 (msOut ms) = a
    generalize k0_pay10 ms = b
    generalize k0_pay26 (best1 ms) = c
    pointwise [lanes]
  rw [e, hlane]
  by_cases hl : l = i.2
  · rw [if_pos hl]; rfl
  · rw [if_neg hl]
    refine Eq.trans (rfl : _ = k0_pay10 ms (ix2 (0 : Fin 1) l)) ?_
    rw [colMax_fold, colMax_fold]
    congr 1
    funext r
    refine ((hout r l).trans (if_neg fun e => hl (by rw [← e]))).symm

/-- The first rows of them, likewise. -/
theorem colRow2 (i : Place) (hw : best1 ms = fun _ => BitVec.ofNat 32 (key i)) (l : Fin 128) (hl : l ≠ i.2) :
    k0_pay11 rows ms (ix2 (0 : Fin 1) l) = k0_pay11 rows (msOut ms) (ix2 (0 : Fin 1) l) := by
  have hout := out1 ms (best1 ms) i hw
  have e : ∀ r : Fin 160, (ms (ix2 r l) : EReal) = msOut ms (ix2 r l) := fun r =>
    ((hout r l).trans (if_neg fun e => hl (by rw [← e]))).symm
  have hc : (k0_pay10 ms (ix2 (0 : Fin 1) l) : EReal) = k0_pay10 (msOut ms) (ix2 (0 : Fin 1) l) := by
    rw [colMax_fold, colMax_fold]; congr 1; funext r; exact e r
  unfold k0_pay11
  generalize k0_pay10 (msOut ms) = a at hc ⊢
  generalize k0_pay10 ms = b at hc ⊢
  generalize msOut ms = ms' at e ⊢
  pointwise [rows]
  simp only [e, hc]

/-- The second pick: the greatest score and the first place that holds it once the first pick is out. -/
theorem pick2 (i : Place) (hw : best1 ms = fun _ => BitVec.ofNat 32 (key i)) : ∃ k : Place,
    First key (fun j => if j = i then filler else (ms (ix2 j.1 j.2) : EReal)) k
      ∧ m2 ms = (fun _ => if k = i then filler else (ms (ix2 k.1 k.2) : EReal)) ∧ best2 ms = fun _ => BitVec.ofNat 32 (key k) := by
  obtain ⟨k, hk, hm, hb⟩ := pick (msOut ms)
  have hout : ∀ j : Place, (msOut ms (ix2 j.1 j.2) : EReal) = if j = i then filler else (ms (ix2 j.1 j.2) : EReal) := fun j =>
    out1 ms (best1 ms) i hw j.1 j.2
  have hc := colMax2 ms i hw
  have h33 : m2 ms = k0_pay12 (msOut ms) := by
    unfold m2 k0_pay33
    rw [hc]
    rfl
  refine ⟨k, ?_, ?_, ?_⟩
  · simpa only [hout] using hk
  · rw [h33, hm]; funext _; exact hout k
  · have hrow : select (cmpi .eq lanes (broadcastTo S1x128 (k0_pay26 (best1 ms)) broadcasts_S1x1_S1x128)) (k0_pay11 rows (msOut ms)) (colRow ms)
        = k0_pay11 rows (msOut ms) := by
      funext x
      obtain ⟨l, rfl⟩ := ex_lane x
      have hlane := lane_word (best1 ms) i hw l
      have e : select (cmpi .eq lanes (broadcastTo S1x128 (k0_pay26 (best1 ms)) broadcasts_S1x1_S1x128)) (k0_pay11 rows (msOut ms)) (colRow ms) (ix2 (0 : Fin 1) l)
          = Scalar.select (IntOp.cmpi .eq (BitVec.ofNat 32 l.val) (k0_pay26 (best1 ms) (ix2 (0 : Fin 1) (0 : Fin 1)))) (k0_pay11 rows (msOut ms) (ix2 (0 : Fin 1) l)) (k0_pay11 rows ms (ix2 (0 : Fin 1) l)) := by
        unfold colRow
        generalize k0_pay11 rows (msOut ms) = a
        generalize k0_pay11 rows ms = b
        generalize k0_pay26 (best1 ms) = c
        pointwise [lanes]
      rw [e, hlane]
      by_cases hl : l = i.2
      · rw [if_pos hl]; rfl
      · rw [if_neg hl]; exact colRow2 ms i hw l hl
    have e : shapeCast S1x1 (best2 ms) shapeCasts_S1_S1x1 = k0_pay13 rows lanes (msOut ms) := by
      have h33' : k0_pay33 rows lanes ms (colMax ms) (best1 ms) (k0_pay26 (best1 ms)) 128#32 (k0_pay27 (best1 ms)) (k0_pay28 (best1 ms)) (k0_pay29 (best1 ms))
          = k0_pay12 (msOut ms) := h33
      unfold best2 k0_pay34
      rw [hc, h33']
      show shapeCast S1x1 (multiReductionI .minsi [1] S1 (select _ (addi (muli (select _ (k0_pay11 rows (msOut ms)) (colRow ms)) _) _) _) _ _ _) _ = _
      rw [hrow]
      rfl
    funext y
    have hy : y = ix1 (0 : Fin 1) := by rw [eq_ix1 y]; exact congrArg ix1 (Subsingleton.elim (α := Fin 1) _ _)
    rw [hy]
    have := congrFun (e.trans hb) (ix2 (0 : Fin 1) (0 : Fin 1))
    rw [← this]
    generalize best2 ms = w
    pointwise []

end Cert.Proof.KI

end
-- ==== Proof.Val.Sweep.lean ====
/-
  What a sweep of the kernel's loop does, on the extended reals and place by place: the two picks, whether the second is taken as well, the masked
  scores it leaves, and the two rows.
-/
module

public import proofs.«01_k».proof.Proof.Val.Pick2

@[expose] public section

set_option maxRecDepth 16384

noncomputable section

namespace Cert.Proof.KI

open Cert.KernelIdeal Cert.KernelIdeal.Gen
open Idealize.ShloMosaic Idealize.ShloMosaic.TcCoe
open Idealize.SL Idealize.SL.Sem

/-- The box at a place of the planes. -/
def boxAt (p : Planes Ideal) (i : Place) : Box := ⟨p.x1 (ix2 i.1 i.2), p.y1 (ix2 i.1 i.2), p.x2 (ix2 i.1 i.2), p.y2 (ix2 i.1 i.2)⟩

variable (p : Planes Ideal) (ms : FVec Ideal S160x128 .f32)

section

variable (i k : Place)

theorem iou1_eq (hp : AboveNeg p) (hw : k0_pay13 rows lanes ms = fun _ => BitVec.ofNat 32 (key i)) (j : Place) :
    (iou1 p ms (ix2 j.1 j.2) : EReal) = overlap (boxAt p i) (boxAt p j) (p.ar (ix2 j.1 j.2)) := by
  have h1 := bx1_eq p ms i hp hw
  have h2 := by1_eq p ms i hp hw
  have h3 := bx2_eq p ms i hp hw
  have h4 := by2_eq p ms i hp hw
  unfold iou1 k0_pay23 k0_pay24
  change (k0_pay25 p.ar (bx1 p ms) (by1 p ms) (bx2 p ms) (by2 p ms)
    (maximumf (broadcast S160x128 (Scalar.ofBits .f32 0x00000000#32)) (subf (minimumf (broadcastTo S160x128 (bx2 p ms) broadcasts_S1x1_S160x128) p.x2)
      (maximumf (broadcastTo S160x128 (bx1 p ms) broadcasts_S1x1_S160x128) p.x1)))
    (subf (minimumf (broadcastTo S160x128 (by2 p ms) broadcasts_S1x1_S160x128) p.y2)
      (maximumf (broadcastTo S160x128 (by1 p ms) broadcasts_S1x1_S160x128) p.y1)) (ix2 j.1 j.2) : EReal) = _
  rw [h1, h2, h3, h4]
  pointwise [k0_pay25]
  rfl

theorem iou2_eq (hp : AboveNeg p) (hw : best2 ms = fun _ => BitVec.ofNat 32 (key k)) (j : Place) :
    (iou2 p ms (ix2 j.1 j.2) : EReal) = overlap (boxAt p k) (boxAt p j) (p.ar (ix2 j.1 j.2)) := by
  have h1 := cx1_eq p ms k hp hw
  have h2 : k0_pay39 (cy1' p ms) = fun _ => p.y1 (ix2 k.1 k.2) := cy1_eq p ms k hp hw
  have h3 : k0_pay40 p.x2 (hot2 ms) = fun _ => p.x2 (ix2 k.1 k.2) := cx2_eq p ms k hp hw
  have h4 : k0_pay41 p.y2 (hot2 ms) = fun _ => p.y2 (ix2 k.1 k.2) := cy2_eq p ms k hp hw
  unfold iou2 k0_pay42
  rw [h1, h2, h3, h4]
  pointwise []
  rfl

theorem accept_eq (hp : AboveNeg p) (hw1 : k0_pay13 rows lanes ms = fun _ => BitVec.ofNat 32 (key i))
    (hw : best2 ms = fun _ => BitVec.ofNat 32 (key k)) (m : EReal) (hm : m2 ms = fun _ => m) :
    accept p ms = fun _ => BitVec.ofBool (decide (cutoff < m)) &&& BitVec.ofBool (decide (overlap (boxAt p i) (boxAt p k) (boxAt p k).area ≤ half)) := by
  have h1 := bx1_eq p ms i hp hw1
  have h2 := by1_eq p ms i hp hw1
  have h3 := bx2_eq p ms i hp hw1
  have h4 := by2_eq p ms i hp hw1
  have g1 := cx1_eq p ms k hp hw
  have g2 := cy1_eq p ms k hp hw
  have g2' : k0_pay39 (cy1' p ms) = fun _ => p.y1 (ix2 k.1 k.2) := g2
  have g3 := cx2_eq p ms k hp hw
  have g3' : k0_pay40 p.x2 (hot2 ms) = fun _ => p.x2 (ix2 k.1 k.2) := g3
  have g4 := cy2_eq p ms k hp hw
  have g4' : k0_pay41 p.y2 (hot2 ms) = fun _ => p.y2 (ix2 k.1 k.2) := g4
  unfold accept valid2 pairW pairH k0_pay43 k0_pay44
  rw [h1, h2, h3, h4, g1, g2, g2', g3, g3', g4, g4', hm]
  unfold overlap inter
  rw [← Ideal.ofBits_zero_f32]
  rfl

/-- The masked scores that a sweep leaves, from its parts. -/
theorem next_eq (v35 v206 : IVec S1x1 1) (a b c d f g h q u w : FVec Ideal S1x1 .f32) (o1 o2 : FVec Ideal S160x128 .f32) (r : Fin 160) (l : Fin 128) :
    (k0_pay46 ms v35 a b c d o1 v206 f g h q o2 u w (ix2 r l) : EReal) = Scalar.select
      (BitVec.ofBool (decide (half < (o1 (ix2 r l) : EReal))) &&& v35 (ix2 0 0)
        ||| BitVec.ofBool (decide (half < (o2 (ix2 r l) : EReal))) &&& k0_pay45 a b c d v206 f g h q u w (ix2 0 0) &&& v206 (ix2 0 0)) filler (ms (ix2 r l)) := by
  unfold k0_pay46
  generalize k0_pay45 a b c d v206 f g h q u w = acc
  pointwise []
  rfl

theorem msNext_eq (hp : AboveNeg p) (hw1 : k0_pay13 rows lanes ms = fun _ => BitVec.ofNat 32 (key i)) (m : EReal) (hm1 : k0_pay12 ms = fun _ => m)
    (hw : best2 ms = fun _ => BitVec.ofNat 32 (key k)) (m' : EReal) (hm : m2 ms = fun _ => m') (j : Place) :
    (msNext p ms (ix2 j.1 j.2) : EReal) = Scalar.select
      (BitVec.ofBool (decide (half < overlap (boxAt p i) (boxAt p j) (p.ar (ix2 j.1 j.2)))) &&& BitVec.ofBool (decide (cutoff < m))
        ||| BitVec.ofBool (decide (half < overlap (boxAt p k) (boxAt p j) (p.ar (ix2 j.1 j.2))))
          &&& (BitVec.ofBool (decide (cutoff < m')) &&& BitVec.ofBool (decide (overlap (boxAt p i) (boxAt p k) (boxAt p k).area ≤ half)))
          &&& BitVec.ofBool (decide (cutoff < m'))) filler (ms (ix2 j.1 j.2)) := by
  have ha := accept_eq p ms i k hp hw1 hw m' hm
  have e1 := iou1_eq p ms i hp hw1 j
  have e2 := iou2_eq p ms k hp hw j
  unfold msNext
  rw [next_eq, show k0_pay45 (bx1 p ms) (by1 p ms) (bx2 p ms) (by2 p ms) (valid2 ms) (cx1 p ms) (cy1 p ms) (cx2 p ms) (cy2 p ms) (pairW p ms) (pairH p ms)
    = accept p ms from rfl, ha, e1, e2]
  unfold valid1 valid2 k0_pay14 k0_pay35
  rw [hm1, hm]
  rfl

end

end Cert.Proof.KI

end
-- ==== Proof.Val.Rows.lean ====
/-
  The rows of the result that a sweep stores, on the extended reals: a pick's box and score when the pick counts, zeros otherwise.
-/
module

public import proofs.«01_k».proof.Proof.Val.Sweep
public import Idealize.ShloMosaic.Lib.IdealHost

@[expose] public section

set_option maxRecDepth 16384

noncomputable section

namespace Cert.Proof.KI

open Cert.KernelIdeal Cert.KernelIdeal.Gen
open Idealize.ShloMosaic Idealize.ShloMosaic.TcCoe
open Idealize.SL Idealize.SL.Sem

/-- The five numbers that the lanes of a row add up to: each lane takes its own and zeros for the rest. -/
theorem lane_sum (c : Fin 5) (a b d e s : EReal) :
    (if BitVec.ofNat 32 c.val = 0#32 then a else 0) + (if BitVec.ofNat 32 c.val = 1#32 then b else 0)
      + (if BitVec.ofNat 32 c.val = 2#32 then d else 0) + (if BitVec.ofNat 32 c.val = 3#32 then e else 0)
      + (if BitVec.ofNat 32 c.val = 4#32 then s else 0) = entries ⟨a, b, d, e⟩ s c := by
  fin_cases c <;> simp [entries]

theorem select_eq (w n : BitVec 32) (a b : EReal) : Scalar.select (IntOp.cmpi .eq w n) a b = if w = n then a else b := by
  show (if BitVec.ofBool (w == n) = 1#1 then a else b) = _
  by_cases h : w = n
  · rw [if_pos h, h]; simp
  · rw [if_neg h, beq_eq_false_iff_ne.mpr h]; rfl

theorem select_mul (v : BitVec 1) (a : EReal) : Scalar.select v a 0 = a * if v = 1#1 then 1 else 0 := by
  show (if v = 1#1 then a else 0) = _
  by_cases h : v = 1#1
  · rw [if_pos h, if_pos h, mul_one]
  · rw [if_neg h, if_neg h, mul_zero]

/-- The second row, from its parts. -/
theorem row9_eq (v : IVec S1x1 1) (s a b d e : FVec Ideal S1x1 .f32) (c : Fin 5) :
    (k0_pay9 lanes s v a b d e (ix2 (0 : Fin 1) c) : EReal)
      = rowOf ⟨a (ix2 0 0), b (ix2 0 0), d (ix2 0 0), e (ix2 0 0)⟩ (s (ix2 0 0)) (v (ix2 0 0) = 1#1) c := by
  unfold rowOf
  rw [← lane_sum]
  pointwise [k0_pay9, lanes]
  simp only [select_eq]
  refine (select_mul _ _).trans ?_
  congr!

/-- The first row, from its parts. -/
theorem row7_eq (v : IVec S1x1 1) (s a b d e : FVec Ideal S1x1 .f32) (c : Fin 5) :
    (k0_pay7 lanes s e (k0_pay47 (F := Ideal) v) (k0_pay48 lanes a b) (k0_pay49 lanes) (Scalar.ofBits .f32 0x00000000#32) (k0_pay50 d) (ix2 (0 : Fin 1) c) : EReal)
      = rowOf ⟨a (ix2 0 0), b (ix2 0 0), d (ix2 0 0), e (ix2 0 0)⟩ (s (ix2 0 0)) (v (ix2 0 0) = 1#1) c := by
  unfold rowOf
  rw [← lane_sum]
  pointwise [k0_pay7, k0_pay47, k0_pay48, k0_pay49, k0_pay50, lanes]
  simp only [select_eq]
  refine (select_mul _ _).trans ?_
  congr!

variable (p : Planes Ideal) (ms : FVec Ideal S160x128 .f32) (i k : Place)

theorem valid_iff (m : EReal) : BitVec.ofBool (decide (cutoff < m)) = 1#1 ↔ cutoff < m := by
  by_cases h : cutoff < m <;> simp [h]

theorem row1_eq (hp : AboveNeg p) (hw : k0_pay13 rows lanes ms = fun _ => BitVec.ofNat 32 (key i)) (m : EReal) (hm : k0_pay12 ms = fun _ => m) (c : Fin 5) :
    (row1 p ms (ix2 (0 : Fin 1) c) : EReal) = rowOf (boxAt p i) m (cutoff < m) c := by
  unfold row1
  rw [row7_eq, bx1_eq p ms i hp hw, by1_eq p ms i hp hw, bx2_eq p ms i hp hw, by2_eq p ms i hp hw]
  unfold m1 valid1 k0_pay14
  rw [hm]
  exact congrArg (fun q => rowOf (boxAt p i) m q c) (propext (valid_iff m))

theorem row2_eq (hp : AboveNeg p) (hw : best2 ms = fun _ => BitVec.ofNat 32 (key k)) (m : EReal) (hm : m2 ms = fun _ => m) (c : Fin 5) :
    (row2 p ms (ix2 (0 : Fin 1) c) : EReal) = rowOf (boxAt p k) m (cutoff < m) c := by
  unfold row2
  rw [row9_eq, cx1_eq p ms k hp hw, cy1_eq p ms k hp hw, cx2_eq p ms k hp hw, cy2_eq p ms k hp hw]
  unfold valid2 k0_pay35
  rw [hm]
  exact congrArg (fun q => rowOf (boxAt p k) m q c) (propext (valid_iff m))

open Classical in
/-- **One sweep**, on the extended reals: the first pick `i` is the first place of the greatest score, the second pick `k` the first place of the greatest
    score once `i` is out; the second is taken too when its score counts and the two boxes overlap by a half at most; a sweep puts out what overlaps a taken
    pick by more than a half, and stores the picks' rows. -/
theorem sweep (hp : AboveNeg p) : ∃ i k : Place, ∃ m m' : EReal,
    First key (fun j => (ms (ix2 j.1 j.2) : EReal)) i ∧ m = ms (ix2 i.1 i.2)
    ∧ First key (fun j => if j = i then filler else (ms (ix2 j.1 j.2) : EReal)) k ∧ m' = (if k = i then filler else (ms (ix2 k.1 k.2) : EReal))
    ∧ ((acceptWord p ms).slt 1#32 = false ↔ cutoff < m' ∧ overlap (boxAt p i) (boxAt p k) (boxAt p k).area ≤ half)
    ∧ (∀ j : Place, (msNext p ms (ix2 j.1 j.2) : EReal) =
        if (half < overlap (boxAt p i) (boxAt p j) (p.ar (ix2 j.1 j.2)) ∧ cutoff < m)
          ∨ (half < overlap (boxAt p k) (boxAt p j) (p.ar (ix2 j.1 j.2)) ∧ cutoff < m' ∧ overlap (boxAt p i) (boxAt p k) (boxAt p k).area ≤ half)
        then filler else (ms (ix2 j.1 j.2) : EReal))
    ∧ (∀ c : Fin 5, (row1 p ms (ix2 (0 : Fin 1) c) : EReal) = rowOf (boxAt p i) m (cutoff < m) c)
    ∧ (∀ c : Fin 5, (row2 p ms (ix2 (0 : Fin 1) c) : EReal) = rowOf (boxAt p k) m' (cutoff < m') c) := by
  obtain ⟨i, hi, hm, hw⟩ := pick ms
  obtain ⟨k, hk, hm', hw'⟩ := pick2 ms i hw
  refine ⟨i, k, ms (ix2 i.1 i.2), if k = i then filler else (ms (ix2 k.1 k.2) : EReal), hi, rfl, ?_, rfl, ?_, fun j => ?_, fun c => ?_, fun c => ?_⟩
  · convert hk
  · have ha := accept_eq p ms i k hp hw hw' _ hm'
    have e : acceptWord p ms = (accept p ms (ix2 (0 : Fin 1) (0 : Fin 1))).setWidth 32 := by
      unfold acceptWord
      generalize accept p ms = a
      exact congrArg (fun x => (a x).setWidth 32) (idx11 _)
    rw [e, ha]
    have key1 : ∀ a b : BitVec 1, ((a &&& b).setWidth 32).slt 1#32 = false ↔ a = 1#1 ∧ b = 1#1 := by decide
    rw [key1]
    refine and_congr ?_ ?_
    · convert valid_iff _
    · by_cases h : overlap (boxAt p i) (boxAt p k) (boxAt p k).area ≤ half <;> simp [h]
  · rw [msNext_eq p ms i k hp hw _ hm hw' _ hm' j]
    have hs : ∀ (b : BitVec 1) (x y : EReal) (q : Prop) [Decidable q], (b = 1#1 ↔ q) → Scalar.select b x y = if q then x else y := by
      intro b x y q _ h
      show (if b = 1#1 then x else y) = _
      by_cases hq : q
      · rw [if_pos hq, if_pos (h.mpr hq)]
      · rw [if_neg hq, if_neg fun e => hq (h.mp e)]
    have key2 : ∀ a b c d e : BitVec 1, (a &&& b ||| c &&& (d &&& e) &&& d) = 1#1 ↔ (a = 1#1 ∧ b = 1#1) ∨ (c = 1#1 ∧ d = 1#1 ∧ e = 1#1) := by decide
    have hd : ∀ (q : Prop) [Decidable q], BitVec.ofBool (decide q) = 1#1 ↔ q := by
      intro q _; by_cases h : q <;> simp [h]
    refine hs _ _ _ _ ?_
    rw [key2, hd, hd, hd, hd, hd]
  · exact row1_eq p ms i hp hw _ hm c
  · exact row2_eq p ms k hp hw' _ hm' c

end Cert.Proof.KI

end
-- ==== Proof.Val.Host.lean ====
/-
  What the host hands to the kernel, on the extended reals and place by place: the four coordinates of a box, its area and its score at the
  place of the box's number; zeros and the filler score at the places past the last box.
-/
module

public import proofs.«01_k».proof.Proof.KI.Run
public import proofs.«01_k».proof.Proof.Val.Sweep

@[expose] public section

set_option maxRecDepth 16384

noncomputable section

namespace Cert.Proof.KI

open Cert.KernelIdeal Cert.KernelIdeal.Gen Cert.KernelIdeal.Facts
open Idealize.ShloMosaic Idealize.ShloMosaic.TcCoe
open Idealize.ShloMosaic.StableHlo
open Idealize.SL Idealize.SL.Sem

/-- A vector of 20000 numbers as a plane, filled up with one value. -/
def plane (x : FVec Ideal S20000 .f32) (v : FVec Ideal S_ .f32) : FVec Ideal S160x128 .f32 :=
  shapeCast S160x128 (pad S20480 ![0] ![480] ![0] x v pads_S20000_S20480_04800 h_S_) shapeCasts_S20480_S160x128

/-- A column of the boxes. -/
def column (o : Fin 2 → ℕ) (h : S20000x4.Slices o S20000x1) (x : FVec Ideal S20000x4 .f32) : FVec Ideal S20000 .f32 :=
  shapeCast S20000 (extractStridedSlice S20000x1 o x h) shapeCasts_S20000x1_S20000

theorem plane_eq (x : FVec Ideal S20000 .f32) (v : FVec Ideal S_ .f32) (i : Place) :
    (plane x v (ix2 i.1 i.2) : EReal) = if h : key i < 20000 then x (ix1 ⟨key i, h⟩) else v (Shape.Idx.first h_S_) := by
  obtain ⟨r, l⟩ := i
  unfold key
  pointwise [plane]

theorem column0 (x : FVec Ideal S20000x4 .f32) (k : Fin 20000) :
    (column ![0, 0] slices_S20000x4_S20000x1_0_0 x (ix1 k) : EReal) = x (ix2 k (0 : Fin 4)) := by
  pointwise [column]
theorem column1 (x : FVec Ideal S20000x4 .f32) (k : Fin 20000) :
    (column ![0, 1] slices_S20000x4_S20000x1_0_1 x (ix1 k) : EReal) = x (ix2 k (1 : Fin 4)) := by
  pointwise [column]
theorem column2 (x : FVec Ideal S20000x4 .f32) (k : Fin 20000) :
    (column ![0, 2] slices_S20000x4_S20000x1_0_2 x (ix1 k) : EReal) = x (ix2 k (2 : Fin 4)) := by
  pointwise [column]
theorem column3 (x : FVec Ideal S20000x4 .f32) (k : Fin 20000) :
    (column ![0, 3] slices_S20000x4_S20000x1_0_3 x (ix1 k) : EReal) = x (ix2 k (3 : Fin 4)) := by
  pointwise [column]

/-- The zero that fills up a plane. -/
theorem zero_fill (i : S_.Idx) : (sitofp (F := Ideal) .f32 (constantI S_ 32 0#32) i : EReal) = 0 := by
  show (((0#32 : BitVec 32).toInt : ℝ) : EReal) = 0
  simp

variable (m : (ℓ : Loc nD τ sig) → Buf (Elt Ideal) ℓ)

theorem V_v3 (c : Dev nD) : V m c main_v3 = plane (column ![0, 0] slices_S20000x4_S20000x1_0_0 (m ((c : Thread nD τ).loc main_arg0))) (sitofp .f32 (constantI S_ 32 0#32)) := by
  show after (hostOps0 ++ hostOps0_1 ++ hostOps0_2 ++ hostOps0_3 ++ hostOps0_4 ++ hostOps0_5 ++ hostOps0_6 ++ hostOps0_7 ++ hostOps0_8
    ++ hostOps0_9 ++ hostOps0_10 ++ hostOps0_11 ++ hostOps0_12) (fun b => m (c, b)) (Proc.devRef .tc main_v3) = _
  after_reads_simp
  rfl
theorem V_v7 (c : Dev nD) : V m c main_v7 = plane (column ![0, 1] slices_S20000x4_S20000x1_0_1 (m ((c : Thread nD τ).loc main_arg0))) (sitofp .f32 (constantI S_ 32 0#32)) := by
  show after (hostOps0 ++ hostOps0_1 ++ hostOps0_2 ++ hostOps0_3 ++ hostOps0_4 ++ hostOps0_5 ++ hostOps0_6 ++ hostOps0_7 ++ hostOps0_8
    ++ hostOps0_9 ++ hostOps0_10 ++ hostOps0_11 ++ hostOps0_12) (fun b => m (c, b)) (Proc.devRef .tc main_v7) = _
  after_reads_simp
  rfl
theorem V_v11 (c : Dev nD) : V m c main_v11 = plane (column ![0, 2] slices_S20000x4_S20000x1_0_2 (m ((c : Thread nD τ).loc main_arg0))) (sitofp .f32 (constantI S_ 32 0#32)) := by
  show after (hostOps0 ++ hostOps0_1 ++ hostOps0_2 ++ hostOps0_3 ++ hostOps0_4 ++ hostOps0_5 ++ hostOps0_6 ++ hostOps0_7 ++ hostOps0_8
    ++ hostOps0_9 ++ hostOps0_10 ++ hostOps0_11 ++ hostOps0_12) (fun b => m (c, b)) (Proc.devRef .tc main_v11) = _
  after_reads_simp
  rfl
theorem V_v15 (c : Dev nD) : V m c main_v15 = plane (column ![0, 3] slices_S20000x4_S20000x1_0_3 (m ((c : Thread nD τ).loc main_arg0))) (sitofp .f32 (constantI S_ 32 0#32)) := by
  show after (hostOps0 ++ hostOps0_1 ++ hostOps0_2 ++ hostOps0_3 ++ hostOps0_4 ++ hostOps0_5 ++ hostOps0_6 ++ hostOps0_7 ++ hostOps0_8
    ++ hostOps0_9 ++ hostOps0_10 ++ hostOps0_11 ++ hostOps0_12) (fun b => m (c, b)) (Proc.devRef .tc main_v15) = _
  after_reads_simp
  rfl
theorem V_v28 (c : Dev nD) : V m c main_v28 = plane (mulf (subf (column ![0, 2] slices_S20000x4_S20000x1_0_2 (m ((c : Thread nD τ).loc main_arg0))) (column ![0, 0] slices_S20000x4_S20000x1_0_0 (m ((c : Thread nD τ).loc main_arg0)))) (subf (column ![0, 3] slices_S20000x4_S20000x1_0_3 (m ((c : Thread nD τ).loc main_arg0))) (column ![0, 1] slices_S20000x4_S20000x1_0_1 (m ((c : Thread nD τ).loc main_arg0))))) (sitofp .f32 (constantI S_ 32 0#32)) := by
  show after (hostOps0 ++ hostOps0_1 ++ hostOps0_2 ++ hostOps0_3 ++ hostOps0_4 ++ hostOps0_5 ++ hostOps0_6 ++ hostOps0_7 ++ hostOps0_8
    ++ hostOps0_9 ++ hostOps0_10 ++ hostOps0_11 ++ hostOps0_12) (fun b => m (c, b)) (Proc.devRef .tc main_v28) = _
  after_reads_simp
  rfl
theorem V_v30 (c : Dev nD) : V m c main_v30 = plane (m ((c : Thread nD τ).loc main_arg1)) (id (constant S_ .f32 0xF149F2CA#32)) := by
  show after (hostOps0 ++ hostOps0_1 ++ hostOps0_2 ++ hostOps0_3 ++ hostOps0_4 ++ hostOps0_5 ++ hostOps0_6 ++ hostOps0_7 ++ hostOps0_8
    ++ hostOps0_9 ++ hostOps0_10 ++ hostOps0_11 ++ hostOps0_12) (fun b => m (c, b)) (Proc.devRef .tc main_v30) = _
  after_reads_simp
  rfl

/-- The boxes and the scores that the program is given. -/
abbrev boxesOf (c : Dev nD) : FVec Ideal S20000x4 .f32 := m ((c : Thread nD τ).loc main_arg0)
abbrev scoresOf (c : Dev nD) : FVec Ideal S20000 .f32 := m ((c : Thread nD τ).loc main_arg1)

theorem planes_x1 (c : Dev nD) : (planes m c).x1 = V m c main_v3 := by
  unfold planes k0_pay1; dsimp only; exact shapeCast_self _ _
theorem planes_y1 (c : Dev nD) : (planes m c).y1 = V m c main_v7 := by
  unfold planes k0_pay2; dsimp only; exact shapeCast_self _ _
theorem planes_x2 (c : Dev nD) : (planes m c).x2 = V m c main_v11 := by
  unfold planes k0_pay3; dsimp only; exact shapeCast_self _ _
theorem planes_y2 (c : Dev nD) : (planes m c).y2 = V m c main_v15 := by
  unfold planes k0_pay4; dsimp only; exact shapeCast_self _ _
theorem planes_ar (c : Dev nD) : (planes m c).ar = V m c main_v28 := by
  unfold planes k0_pay5; dsimp only; exact shapeCast_self _ _
theorem ms0_eq (c : Dev nD) : ms0 m c = V m c main_v30 := by
  unfold ms0 k0_pay6; exact shapeCast_self _ _

/-- The box of a number. -/
def boxNo (x : FVec Ideal S20000x4 .f32) (k : Fin 20000) : Box :=
  ⟨x (ix2 k (0 : Fin 4)), x (ix2 k (1 : Fin 4)), x (ix2 k (2 : Fin 4)), x (ix2 k (3 : Fin 4))⟩

theorem boxAt_planes (c : Dev nD) (i : Place) :
    boxAt (planes m c) i = if h : key i < 20000 then boxNo (boxesOf m c) ⟨key i, h⟩ else ⟨0, 0, 0, 0⟩ := by
  unfold boxAt
  rw [planes_x1, planes_y1, planes_x2, planes_y2, V_v3, V_v7, V_v11, V_v15, plane_eq, plane_eq, plane_eq, plane_eq]
  by_cases h : key i < 20000
  · simp only [dif_pos h, column0, column1, column2, column3]; rfl
  · simp only [dif_neg h, zero_fill]

theorem ar_planes (c : Dev nD) (i : Place) (h : key i < 20000) :
    ((planes m c).ar (ix2 i.1 i.2) : EReal) = (boxNo (boxesOf m c) ⟨key i, h⟩).area := by
  rw [planes_ar, V_v28, plane_eq, dif_pos h]
  unfold Box.area boxNo
  dsimp only
  rw [← column0 (boxesOf m c), ← column1 (boxesOf m c), ← column2 (boxesOf m c), ← column3 (boxesOf m c)]
  rfl

theorem ms0_planes (c : Dev nD) (i : Place) :
    (ms0 m c (ix2 i.1 i.2) : EReal) = if h : key i < 20000 then scoresOf m c (ix1 ⟨key i, h⟩) else filler := by
  rw [ms0_eq, V_v30, plane_eq]
  rfl

end Cert.Proof.KI

end
-- ==== Proof.Val.Argmax.lean ====
/-
  The reference's pick: the position that its arg-max returns is the first place of the greatest score.
-/
module

public import proofs.«01_k».proof.Proof.Ref.Out
public import proofs.«01_k».proof.Proof.Val.First
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe
open Idealize.ShloMosaic.StableHlo

/-- The better of two pairs of a score and a number: the greater score, of equal scores the less number. -/
theorem better (a b : EReal) (n k : ℕ) (hn : n < 20000) (hk : k < 20000) :
    reducer_argmax_f32_i32 (F := Ideal) (a, BitVec.ofNat 32 n) (b, BitVec.ofNat 32 k)
      = if b < a ∨ (a = b ∧ n < k) then (a, BitVec.ofNat 32 n) else (b, BitVec.ofNat 32 k) := by
  have hs : (BitVec.ofNat 32 n).slt (BitVec.ofNat 32 k) = decide (n < k) := by
    rw [BitVec.slt_eq_decide, toInt_small n (by omega), toInt_small k (by omega)]
    simp
  show ((Scalar.select (IntOp.ori (BitVec.ofBool (decide (b < a))) (BitVec.ofBool (decide (a ≠ a)))) a b : EReal),
      Scalar.select (IntOp.ori (IntOp.ori (BitVec.ofBool (decide (b < a))) (BitVec.ofBool (decide (a ≠ a))))
        (IntOp.andi (BitVec.ofBool (decide (a = b))) (BitVec.ofBool ((BitVec.ofNat 32 n).slt (BitVec.ofNat 32 k)))))
        (BitVec.ofNat 32 n) (BitVec.ofNat 32 k)) = _
  rw [hs, decide_eq_false (fun h : a ≠ a => h rfl)]
  by_cases h1 : b < a
  · rw [decide_eq_true h1, if_pos (Or.inl h1)]
    by_cases h2 : a = b <;> by_cases h3 : n < k <;> simp only [h2, h3, decide_true, decide_false] <;> rfl
  · rw [decide_eq_false h1]
    by_cases h2 : a = b
    · rw [decide_eq_true h2]
      by_cases h3 : n < k
      · rw [decide_eq_true h3, if_pos (Or.inr ⟨h2, h3⟩), h2]; rfl
      · rw [decide_eq_false h3, if_neg (fun h => h.elim h1 fun h => h3 h.2)]; rfl
    · rw [decide_eq_false h2, if_neg (fun h => h.elim h1 fun h => h2 h.1)]
      by_cases h3 : n < k <;> simp only [h3, decide_true, decide_false] <;> rfl

/-- The running best over a list of numbers, from the pair that the fold starts from or a better one. -/
theorem best_of_list (f : Fin 20000 → EReal) : ∀ (l : List (Fin 20000)) (a : EReal) (n : ℕ), n < 20000 →
    ∃ (a' : EReal) (n' : ℕ), n' < 20000
      ∧ (l.map fun k => (f k, BitVec.ofNat 32 k.val)).foldl (reducer_argmax_f32_i32 (F := Ideal)) (a, BitVec.ofNat 32 n) = (a', BitVec.ofNat 32 n')
      ∧ (a < a' ∨ (a = a' ∧ n' ≤ n))
      ∧ (∀ k ∈ l, f k < a' ∨ (f k = a' ∧ n' ≤ k.val))
      ∧ ((a' = a ∧ n' = n) ∨ ∃ k ∈ l, a' = f k ∧ n' = k.val)
  | [], a, n, hn => ⟨a, n, hn, rfl, Or.inr ⟨rfl, le_refl _⟩, fun k hk => absurd hk (List.not_mem_nil), Or.inl ⟨rfl, rfl⟩⟩
  | x :: l, a, n, hn => by
    rw [List.map_cons, List.foldl_cons, better a (f x) n x.val hn x.isLt]
    by_cases hc : f x < a ∨ (a = f x ∧ n < x.val)
    · rw [if_pos hc]
      obtain ⟨a', n', hn', e, h1, h2, h3⟩ := best_of_list f l a n hn
      refine ⟨a', n', hn', e, h1, ?_, ?_⟩
      · intro k hk
        rcases List.mem_cons.mp hk with rfl | hk
        · rcases hc with hc | ⟨hc, hc'⟩
          · rcases h1 with h1 | ⟨h1, _⟩
            · exact Or.inl (hc.trans h1)
            · exact Or.inl (h1 ▸ hc)
          · rcases h1 with h1 | ⟨h1, h1'⟩
            · exact Or.inl (hc ▸ h1)
            · exact Or.inr ⟨hc ▸ h1, by omega⟩
        · exact h2 k hk
      · rcases h3 with h3 | ⟨k, hk, h3⟩
        · exact Or.inl h3
        · exact Or.inr ⟨k, List.mem_cons_of_mem _ hk, h3⟩
    · rw [if_neg hc]
      obtain ⟨a', n', hn', e, h1, h2, h3⟩ := best_of_list f l (f x) x.val x.isLt
      refine ⟨a', n', hn', e, ?_, ?_, ?_⟩
      · push Not at hc
        obtain ⟨hc1, hc2⟩ := hc
        rcases lt_or_eq_of_le hc1 with hlt | heq
        · rcases h1 with h1 | ⟨h1, _⟩
          · exact Or.inl (hlt.trans h1)
          · exact Or.inl (h1 ▸ hlt)
        · have := hc2 heq
          rcases h1 with h1 | ⟨h1, h1'⟩
          · exact Or.inl (heq ▸ h1)
          · exact Or.inr ⟨heq.trans h1, by omega⟩
      · intro k hk
        rcases List.mem_cons.mp hk with rfl | hk
        · exact h1
        · exact h2 k hk
      · rcases h3 with ⟨h3, h3'⟩ | ⟨k, hk, h3⟩
        · exact Or.inr ⟨x, List.mem_cons_self, h3, h3'⟩
        · exact Or.inr ⟨k, List.mem_cons_of_mem _ hk, h3⟩

/-- The arg-max of 20000 scores is the number of the first of the greatest. -/
theorem argmax_word (x : FVec Ideal S20000 .f32) (j : S_.Idx) :
    ∃ b : Fin 20000, First (fun k : Fin 20000 => k.val) (fun k => (x (ix1 k) : EReal)) b
      ∧ (Host.argReduce reducer_argmax_f32_i32 x (iotaInDim S20000 32 0) (constant S_ .f32 0xFF800000#32) (constantI S_ 32 0#32)
          reducesTo_S20000_S_d0 h_S_ j).2 = BitVec.ofNat 32 b.val := by
  rw [Ideal.argReduce_eq_reduce2, Host.reduce2_eq_foldl_fiber]
  have hl : ∃ l : List (Fin 20000), (∀ k, k ∈ l) ∧ Host.argReduceFiber x (iotaInDim S20000 32 0) reducesTo_S20000_S_d0 j
      = l.map fun k => ((x (ix1 k) : EReal), BitVec.ofNat 32 k.val) := by
    let num : Fin S20000.numel → Fin 20000 := fun n => (S20000.rowMajor.symm n) 0
    refine ⟨((List.finRange S20000.numel).filter fun n => reducesTo_S20000_S_d0.drop (S20000.rowMajor.symm n) = j).map num, ?_, ?_⟩
    · intro k
      refine List.mem_map.mpr ⟨S20000.rowMajor (ix1 k), ?_, ?_⟩
      · refine List.mem_filter.mpr ⟨List.mem_finRange _, ?_⟩
        refine decide_eq_true ?_
        funext a
        exact a.elim0
      · show (S20000.rowMajor.symm (S20000.rowMajor (ix1 k))) 0 = k
        rw [Equiv.symm_apply_apply]
        rfl
    · unfold Host.argReduceFiber
      refine Eq.trans ?_ List.map_map.symm
      refine List.map_congr_left fun n _ => ?_
      obtain ⟨k, hk⟩ : ∃ k : Fin 20000, S20000.rowMajor.symm n = ix1 k := ⟨(S20000.rowMajor.symm n) 0, by
        funext a; obtain rfl : a = 0 := Subsingleton.elim _ _; rfl⟩
      have hn : num n = k := by show (S20000.rowMajor.symm n) 0 = k; rw [hk]; rfl
      show (x (S20000.rowMajor.symm n), iotaInDim S20000 32 0 (S20000.rowMajor.symm n)) = ((x (ix1 (num n)) : EReal), BitVec.ofNat 32 (num n).val)
      rw [hn, hk]
      rfl
  obtain ⟨l, hmem, el⟩ := hl
  obtain ⟨a', n', hn', e, _, h2, h3⟩ := best_of_list (fun k => (x (ix1 k) : EReal)) l ⊥ 0 (by omega)
  have hbot : Ideal.ofBits .f32 0xFF800000#32 = (⊥ : EReal) := by simp [Ideal.ofBits, Ideal.ieee]
  have e0 : ((constant (F := Ideal) S_ .f32 0xFF800000#32 (Shape.Idx.first h_S_) : EReal), constantI S_ 32 0#32 (Shape.Idx.first h_S_))
      = ((⊥ : EReal), BitVec.ofNat 32 0) := Prod.ext hbot rfl
  have hval : a' = (x (ix1 (⟨n', hn'⟩ : Fin 20000)) : EReal) := by
    rcases h3 with ⟨ha, hn⟩ | ⟨k, _, ha, hn⟩
    · subst hn
      rcases h2 ⟨0, by omega⟩ (hmem _) with h | ⟨h, _⟩
      · rw [ha] at h; exact absurd h not_lt_bot
      · exact h.symm
    · subst hn; exact ha
  refine ⟨⟨n', hn'⟩, ⟨fun k => ?_, fun k hk => ?_⟩, ?_⟩
  · rcases h2 k (hmem k) with h | ⟨h, _⟩
    · exact h.le.trans hval.le
    · exact (h.trans hval).le
  · rcases h2 k (hmem k) with h | ⟨_, h⟩
    · exact h.trans_eq hval
    · exact absurd hk (not_lt.mpr h)
  · refine (congrArg Prod.snd ?_ : _ = (a', BitVec.ofNat 32 n').2)
    rw [el]
    exact (congrArg (fun z => List.foldl (reducer_argmax_f32_i32 (F := Ideal)) z _) e0).trans e

end Cert.Proof.Ref

end
-- ==== Proof.Val.RefOps.lean ====
/-
  The operations of one trip of the reference, on the extended reals and entry by entry: the scores still in the running, the pick's validity and its
  box, the overlap of that box with every other, and the mask that the trip leaves.
-/
module

public import proofs.«01_k».proof.Proof.Ref.Out
public import proofs.«01_k».proof.Proof.Val.Host
public import Idealize.ShloMosaic.Lib.Pointwise
public import Idealize.ShloMosaic.Lib.DynamicIndex

@[expose] public section

set_option maxRecDepth 16384

noncomputable section

namespace Cert.Proof.Ref

open Cert.ReferenceIdeal Cert.ReferenceIdeal.Gen
open Idealize.ShloMosaic Idealize.ShloMosaic.TcCoe
open Idealize.ShloMosaic.StableHlo
open Cert.Proof.KI (boxNo)

/-- The scores in the running, the filler elsewhere. -/
def maskedOf (mask : IVec S20000 1) (scores : FVec Ideal S20000 .f32) (neg : FVec Ideal S_ .f32) : FVec Ideal S20000 .f32 :=
  select mask scores (broadcastInDim S20000 ![] bcast_S_S20000 neg)

theorem maskedOf_apply (mask : IVec S20000 1) (scores : FVec Ideal S20000 .f32) (neg : FVec Ideal S_ .f32) (k : Fin 20000) :
    (maskedOf mask scores neg (ix1 k) : EReal) = Scalar.select (mask (ix1 k)) (scores (ix1 k)) (neg (Shape.Idx.first h_S_)) := by
  pointwise [maskedOf]
  exact congrArg _ (congrArg neg (funext fun a => a.elim0))

/-- Whether the score at the picked position counts. -/
def validOf (x : FVec Ideal S20000 .f32) (w : IVec S_ 32) (neg : FVec Ideal S_ .f32) : IVec S_ 1 :=
  cmpf .ogt (shapeCast S_ (Host.dynamicSlice S1 x (fun k => (((![select (cmpi .slt w (constantI S_ 32 0#32)) (addi w (constantI S_ 32 20000#32)) w] : Fin 1 → IVec S_ 32)) k (Shape.Idx.first h_S_)).toInt) sliceFits_S20000_S1) shapeCasts_S1_S_) (Host.divf neg (constant S_ .f32 0x40000000#32))

theorem start_word (w : IVec S_ 32) (d : IVec S_ 32) (b : ℕ) (hb : b < 20000) (hw : ∀ j, w j = BitVec.ofNat 32 b) (j : S_.Idx) :
    (select (cmpi .slt w (constantI S_ 32 0#32)) (addi w d) w j).toInt = (b : ℤ) := by
  obtain rfl : w = constantI S_ 32 (BitVec.ofNat 32 b) := funext hw
  exact toInt_wrap_ofNat b (by omega)

/-- Half the filler is the cutoff. -/
theorem half_filler : Ideal.div filler (Ideal.ofBits .f32 0x40000000#32) = cutoff := by
  have h1 : filler = ((-(13234890 * 2 ^ 76) : ℝ) : EReal) := by
    simp [Ideal.ofBits, Ideal.ieee]
  have h2 : Ideal.ofBits .f32 0x40000000#32 = ((2 : ℝ) : EReal) := by
    simp [Ideal.ofBits, Ideal.ieee]
    norm_cast; norm_num
  have h3 : cutoff = ((-(13234890 * 2 ^ 75) : ℝ) : EReal) := by
    simp [Ideal.ofBits, Ideal.ieee]
  have h0 : ((2 : ℝ) : EReal) ≠ 0 := by norm_num
  rw [h1, h2, h3, Ideal.div, if_neg h0, ← EReal.coe_inv, ← EReal.coe_mul]
  congr 1
  norm_num

theorem validOf_apply (x : FVec Ideal S20000 .f32) (w : IVec S_ 32) (b : Fin 20000) (hw : ∀ j, w j = BitVec.ofNat 32 b.val) (j : S_.Idx) :
    validOf x w (constant S_ .f32 0xF149F2CA#32) j = BitVec.ofBool (decide (cutoff < (x (ix1 b) : EReal))) := by
  unfold validOf
  have hs : S20000.Slices ![b.val] S1 := ⟨rfl, fun a => by obtain rfl : a = 0 := Subsingleton.elim _ _; have := b.isLt; show b.val + 1 ≤ 20000; omega⟩
  rw [Host.dynamicSlice_eq_extractStridedSlice S1 x _ ![b.val] sliceFits_S20000_S1 hs (fun a => by
    obtain rfl : a = 0 := Subsingleton.elim _ _
    exact start_word w _ b.val b.isLt hw _)]
  rw [← half_filler]
  have e : (shapeCast S_ (extractStridedSlice S1 ![b.val] x hs) shapeCasts_S1_S_ j : EReal) = x (ix1 b) := by
    obtain rfl : j = Shape.Idx.first h_S_ := funext fun a => a.elim0
    pointwise []
  rw [← e]
  rfl

/-- The picked box. -/
def boxOf (boxes : FVec Ideal S20000x4 .f32) (w : IVec S_ 32) : FVec Ideal S4 .f32 :=
  shapeCast S4 (Host.dynamicSlice S1x4 boxes (fun k => (((![select (cmpi .slt w (constantI S_ 32 0#32)) (addi w (constantI S_ 32 20000#32)) w, select (cmpi .slt (constantI S_ 32 0#32) (constantI S_ 32 0#32)) (addi (constantI S_ 32 0#32) (constantI S_ 32 4#32)) (constantI S_ 32 0#32)] : Fin 2 → IVec S_ 32)) k (Shape.Idx.first h_S_)).toInt) sliceFits_S20000x4_S1x4) shapeCasts_S1x4_S4

theorem boxOf_apply (boxes : FVec Ideal S20000x4 .f32) (w : IVec S_ 32) (b : Fin 20000) (hw : ∀ j, w j = BitVec.ofNat 32 b.val) (c : Fin 4) :
    (boxOf boxes w (ix1 c) : EReal) = boxes (ix2 b c) := by
  unfold boxOf
  have hs : S20000x4.Slices ![b.val, 0] S1x4 := ⟨rfl, fun a => by fin_cases a; · have := b.isLt; show b.val + 1 ≤ 20000; omega
                                                                  · show 0 + 4 ≤ 4; omega⟩
  rw [Host.dynamicSlice_eq_extractStridedSlice S1x4 boxes _ ![b.val, 0] sliceFits_S20000x4_S1x4 hs (fun a => by
    fin_cases a
    · exact start_word w _ b.val b.isLt hw _
    · exact toInt_wrap_ofNat (s := S_) (d := constantI S_ 32 4#32) (i := Shape.Idx.first h_S_) 0 (by omega))]
  pointwise []

/-- A coordinate of the picked box. -/
def coord (o : Fin 1 → ℕ) (h : S4.Slices o S1) (x : FVec Ideal S4 .f32) : FVec Ideal S_ .f32 :=
  shapeCast S_ (extractStridedSlice S1 o x h) shapeCasts_S1_S_
/-- A column of the boxes. -/
def column (o : Fin 2 → ℕ) (h : S20000x4.Slices o S20000x1) (x : FVec Ideal S20000x4 .f32) : FVec Ideal S20000 .f32 :=
  shapeCast S20000 (extractStridedSlice S20000x1 o x h) shapeCasts_S20000x1_S20000

/-- The same scalar for every box. -/
def spread (x : FVec Ideal S_ .f32) : FVec Ideal S20000 .f32 := broadcastInDim S20000 ![] bcast_S_S20000 x

/-- The area that the picked box shares with every box. -/
def sharedOf (x : FVec Ideal S4 .f32) (boxes : FVec Ideal S20000x4 .f32) : FVec Ideal S20000 .f32 :=
  mulf (maximumf (spread (id (constant S_ .f32 0x00000000#32))) (subf (minimumf (spread (coord ![2] slices_S4_S1_2 x)) (column ![0, 2] slices_S20000x4_S20000x1_0_2 boxes)) (maximumf (spread (coord ![0] slices_S4_S1_0 x)) (column ![0, 0] slices_S20000x4_S20000x1_0_0 boxes)))) (maximumf (spread (id (constant S_ .f32 0x00000000#32))) (subf (minimumf (spread (coord ![3] slices_S4_S1_3 x)) (column ![0, 3] slices_S20000x4_S20000x1_0_3 boxes)) (maximumf (spread (coord ![1] slices_S4_S1_1 x)) (column ![0, 1] slices_S20000x4_S20000x1_0_1 boxes))))

/-- The mask after the trip. -/
def maskOf (valid : IVec S_ 1) (mask : IVec S20000 1) (x : FVec Ideal S4 .f32) (boxes : FVec Ideal S20000x4 .f32) (shared : FVec Ideal S20000 .f32) : IVec S20000 1 :=
  select (broadcastInDim S20000 ![] bcast_S_S20000 valid) (andi mask (noti (cmpf .ogt (Host.divf shared (addf (subf (addf (spread (mulf (subf (coord ![2] slices_S4_S1_2 x) (coord ![0] slices_S4_S1_0 x)) (subf (coord ![3] slices_S4_S1_3 x) (coord ![1] slices_S4_S1_1 x)))) (mulf (subf (column ![0, 2] slices_S20000x4_S20000x1_0_2 boxes) (column ![0, 0] slices_S20000x4_S20000x1_0_0 boxes)) (subf (column ![0, 3] slices_S20000x4_S20000x1_0_3 boxes) (column ![0, 1] slices_S20000x4_S20000x1_0_1 boxes)))) shared) (spread (constant S_ .f32 0x322BCC77#32)))) (spread (constant S_ .f32 0x3F000000#32))))) mask

theorem column0 (x : FVec Ideal S20000x4 .f32) (k : Fin 20000) : (column ![0, 0] slices_S20000x4_S20000x1_0_0 x (ix1 k) : EReal) = x (ix2 k (0 : Fin 4)) := by
  pointwise [column]
theorem column1 (x : FVec Ideal S20000x4 .f32) (k : Fin 20000) : (column ![0, 1] slices_S20000x4_S20000x1_0_1 x (ix1 k) : EReal) = x (ix2 k (1 : Fin 4)) := by
  pointwise [column]
theorem column2 (x : FVec Ideal S20000x4 .f32) (k : Fin 20000) : (column ![0, 2] slices_S20000x4_S20000x1_0_2 x (ix1 k) : EReal) = x (ix2 k (2 : Fin 4)) := by
  pointwise [column]
theorem column3 (x : FVec Ideal S20000x4 .f32) (k : Fin 20000) : (column ![0, 3] slices_S20000x4_S20000x1_0_3 x (ix1 k) : EReal) = x (ix2 k (3 : Fin 4)) := by
  pointwise [column]
theorem spread_apply (x : FVec Ideal S_ .f32) (k : Fin 20000) : (spread x (ix1 k) : EReal) = x (Shape.Idx.first h_S_) := by
  pointwise [spread]
  exact congrArg x (funext fun a => a.elim0)
theorem coord0 (x : FVec Ideal S4 .f32) (j : S_.Idx) : (coord ![0] slices_S4_S1_0 x j : EReal) = x (ix1 (0 : Fin 4)) := by
  obtain rfl : j = Shape.Idx.first h_S_ := funext fun a => a.elim0
  pointwise [coord]
theorem coord1 (x : FVec Ideal S4 .f32) (j : S_.Idx) : (coord ![1] slices_S4_S1_1 x j : EReal) = x (ix1 (1 : Fin 4)) := by
  obtain rfl : j = Shape.Idx.first h_S_ := funext fun a => a.elim0
  pointwise [coord]
theorem coord2 (x : FVec Ideal S4 .f32) (j : S_.Idx) : (coord ![2] slices_S4_S1_2 x j : EReal) = x (ix1 (2 : Fin 4)) := by
  obtain rfl : j = Shape.Idx.first h_S_ := funext fun a => a.elim0
  pointwise [coord]
theorem coord3 (x : FVec Ideal S4 .f32) (j : S_.Idx) : (coord ![3] slices_S4_S1_3 x j : EReal) = x (ix1 (3 : Fin 4)) := by
  obtain rfl : j = Shape.Idx.first h_S_ := funext fun a => a.elim0
  pointwise [coord]

/-- A box of four entries. -/
def asBox (x : FVec Ideal S4 .f32) : Box := ⟨x (ix1 (0 : Fin 4)), x (ix1 (1 : Fin 4)), x (ix1 (2 : Fin 4)), x (ix1 (3 : Fin 4))⟩

theorem sharedOf_apply (x : FVec Ideal S4 .f32) (boxes : FVec Ideal S20000x4 .f32) (k : Fin 20000) :
    (sharedOf x boxes (ix1 k) : EReal) = inter (asBox x) (boxNo boxes k) := by
  show max (spread (id (constant S_ .f32 0x00000000#32)) (ix1 k) : EReal) (min (spread (coord ![2] slices_S4_S1_2 x) (ix1 k) : EReal) (column ![0, 2] slices_S20000x4_S20000x1_0_2 boxes (ix1 k)) - max (spread (coord ![0] slices_S4_S1_0 x) (ix1 k) : EReal) (column ![0, 0] slices_S20000x4_S20000x1_0_0 boxes (ix1 k)))
    * max (spread (id (constant S_ .f32 0x00000000#32)) (ix1 k) : EReal) (min (spread (coord ![3] slices_S4_S1_3 x) (ix1 k) : EReal) (column ![0, 3] slices_S20000x4_S20000x1_0_3 boxes (ix1 k)) - max (spread (coord ![1] slices_S4_S1_1 x) (ix1 k) : EReal) (column ![0, 1] slices_S20000x4_S20000x1_0_1 boxes (ix1 k))) = _
  rw [spread_apply, spread_apply, spread_apply, spread_apply, spread_apply, column0, column1, column2, column3, coord0, coord1, coord2, coord3]
  show max (Ideal.ofBits .f32 0x00000000#32) _ * max (Ideal.ofBits .f32 0x00000000#32) _ = _
  rw [Ideal.ofBits_zero_f32]
  rfl

theorem maskOf_apply (valid : IVec S_ 1) (mask : IVec S20000 1) (x : FVec Ideal S4 .f32) (boxes : FVec Ideal S20000x4 .f32) (k : Fin 20000) (p : Prop) [Decidable p]
    (hv : ∀ j, valid j = BitVec.ofBool (decide p)) :
    maskOf valid mask x boxes (sharedOf x boxes) (ix1 k)
      = if p ∧ half < overlap (asBox x) (boxNo boxes k) (boxNo boxes k).area then 0#1 else mask (ix1 k) := by
  have hden : ((addf (subf (addf (spread (mulf (subf (coord ![2] slices_S4_S1_2 x) (coord ![0] slices_S4_S1_0 x)) (subf (coord ![3] slices_S4_S1_3 x) (coord ![1] slices_S4_S1_1 x)))) (mulf (subf (column ![0, 2] slices_S20000x4_S20000x1_0_2 boxes) (column ![0, 0] slices_S20000x4_S20000x1_0_0 boxes)) (subf (column ![0, 3] slices_S20000x4_S20000x1_0_3 boxes) (column ![0, 1] slices_S20000x4_S20000x1_0_1 boxes)))) (sharedOf x boxes)) (spread (constant S_ .f32 0x322BCC77#32))) (ix1 k) : EReal)
      = (asBox x).area + (boxNo boxes k).area - inter (asBox x) (boxNo boxes k) + eps := by
    show (spread (mulf (subf (coord ![2] slices_S4_S1_2 x) (coord ![0] slices_S4_S1_0 x)) (subf (coord ![3] slices_S4_S1_3 x) (coord ![1] slices_S4_S1_1 x))) (ix1 k) : EReal)
      + ((column ![0, 2] slices_S20000x4_S20000x1_0_2 boxes (ix1 k) : EReal) - column ![0, 0] slices_S20000x4_S20000x1_0_0 boxes (ix1 k)) * ((column ![0, 3] slices_S20000x4_S20000x1_0_3 boxes (ix1 k) : EReal) - column ![0, 1] slices_S20000x4_S20000x1_0_1 boxes (ix1 k))
      - sharedOf x boxes (ix1 k) + spread (constant S_ .f32 0x322BCC77#32) (ix1 k) = _
    rw [spread_apply, spread_apply, column0, column1, column2, column3, sharedOf_apply]
    show ((coord ![2] slices_S4_S1_2 x (Shape.Idx.first h_S_) : EReal) - coord ![0] slices_S4_S1_0 x (Shape.Idx.first h_S_)) * ((coord ![3] slices_S4_S1_3 x (Shape.Idx.first h_S_) : EReal) - coord ![1] slices_S4_S1_1 x (Shape.Idx.first h_S_)) + _ - _ + _ = _
    rw [coord0, coord1, coord2, coord3]
    rfl
  show Scalar.select (broadcastInDim S20000 ![] bcast_S_S20000 valid (ix1 k)) (IntOp.andi (mask (ix1 k)) (~~~ (BitVec.ofBool (decide ((spread (constant S_ .f32 0x3F000000#32) (ix1 k) : EReal) < Ideal.div (sharedOf x boxes (ix1 k)) _))))) (mask (ix1 k)) = _
  rw [hden, sharedOf_apply, spread_apply]
  rw [show broadcastInDim S20000 ![] bcast_S_S20000 valid (ix1 k) = BitVec.ofBool (decide p) from hv _]
  show Scalar.select (BitVec.ofBool (decide p)) (IntOp.andi (mask (ix1 k)) (~~~ (BitVec.ofBool (decide (half < overlap (asBox x) (boxNo boxes k) (boxNo boxes k).area))))) (mask (ix1 k)) = _
  generalize mask (ix1 k) = b
  by_cases hp : p
  · by_cases ho : half < overlap (asBox x) (boxNo boxes k) (boxNo boxes k).area
    · rw [decide_eq_true hp, decide_eq_true ho, if_pos ⟨hp, ho⟩]
      revert b; decide
    · rw [decide_eq_true hp, decide_eq_false ho, if_neg (fun h => ho h.2)]
      revert b; decide
  · rw [decide_eq_false hp, if_neg (fun h => hp h.1)]
    rfl

end Cert.Proof.Ref

end
-- ==== Proof.Val.RefStep.lean ====
/-
  One trip of the reference on the extended reals: it picks the first greatest score in the running, notes its number if the score counts, and takes
  out of the running every box that the picked one overlaps.
-/
module

public import proofs.«01_k».proof.Proof.Val.Argmax
public import proofs.«01_k».proof.Proof.Val.RefOps
public import Idealize.ShloMosaic.Lib.Routing.OpsOne

@[expose] public section

set_option maxRecDepth 16384

noncomputable section

namespace Cert.Proof.Ref

open Cert.ReferenceIdeal Cert.ReferenceIdeal.Gen
open Idealize.ShloMosaic Idealize.ShloMosaic.TcCoe
open Idealize.ShloMosaic.StableHlo
open Cert.Proof.KI (boxNo)

/-- What no trip changes. -/
structure Fixed (boxes : FVec Ideal S20000x4 .f32) (scores : FVec Ideal S20000 .f32) (V : Valuation τ sig (Elt Ideal)) : Prop where
  scores_eq : V (Proc.devRef .tc main_v2_0) = scores
  neg_eq : V (Proc.devRef .tc main_v2_1) = (constant (F := Ideal) S_ .f32 0xF149F2CA#32 : FVec Ideal S_ .f32)
  boxes_eq : V (Proc.devRef .tc main_v2_2) = boxes

/-- The scores in the running before a trip. -/
def masked (V : Valuation τ sig (Elt Ideal)) (k : Fin 20000) : EReal :=
  maskedOf (V (Proc.devRef .tc main_v2_5)) (V (Proc.devRef .tc main_v2_0)) (V (Proc.devRef .tc main_v2_1)) (ix1 k)

section
variable {boxes : FVec Ideal S20000x4 .f32} {scores : FVec Ideal S20000 .f32} {V : Valuation τ sig (Elt Ideal)}

theorem Fixed.step (h : Fixed boxes scores V) : Fixed boxes scores (STEP V) :=
  ⟨(STEP_main_v2_0 V).trans h.scores_eq, (STEP_main_v2_1 V).trans h.neg_eq, (STEP_main_v2_2 V).trans h.boxes_eq⟩

/-- The mask before a trip. -/
def maskAt (V : Valuation τ sig (Elt Ideal)) : IVec S20000 1 := V (Proc.devRef .tc main_v2_5)
/-- The numbers noted before a trip. -/
def keepAt (V : Valuation τ sig (Elt Ideal)) : IVec S512 32 := V (Proc.devRef .tc main_v2_6)
/-- The trip's number. -/
def tripAt (V : Valuation τ sig (Elt Ideal)) : IVec S_ 32 := V (Proc.devRef .tc main_v2_4)

theorem masked_eq (h : Fixed boxes scores V) (k : Fin 20000) : masked V k = Scalar.select (maskAt V (ix1 k)) (scores (ix1 k) : EReal) filler := by
  unfold masked maskAt
  rw [maskedOf_apply, h.scores_eq, h.neg_eq]
  rfl

theorem masked_or (h : Fixed boxes scores V) (k : Fin 20000) : masked V k = filler ∨ masked V k = scores (ix1 k) := by
  rw [masked_eq h]
  unfold Scalar.select
  split
  · exact Or.inr rfl
  · exact Or.inl rfl

/-- The word that the trip picks. -/
def word (V : Valuation τ sig (Elt Ideal)) : IVec S_ 32 := res_main_while0b_v18 V

theorem word_spec (V : Valuation τ sig (Elt Ideal)) :
    ∃ b : Fin 20000, First (fun k : Fin 20000 => k.val) (masked V) b ∧ ∀ j, word V j = BitVec.ofNat 32 b.val := by
  obtain ⟨b, hb, e⟩ := argmax_word (maskedOf (V (Proc.devRef .tc main_v2_5)) (V (Proc.devRef .tc main_v2_0)) (V (Proc.devRef .tc main_v2_1))) (Shape.Idx.first h_S_)
  refine ⟨b, hb, fun j => ?_⟩
  obtain rfl : j = Shape.Idx.first h_S_ := funext fun a => a.elim0
  exact e

theorem v25_eq (V : Valuation τ sig (Elt Ideal)) : res_main_while0b_v25 V
    = validOf (maskedOf (V (Proc.devRef .tc main_v2_5)) (V (Proc.devRef .tc main_v2_0)) (V (Proc.devRef .tc main_v2_1))) (word V) (V (Proc.devRef .tc main_v2_1)) := rfl
theorem v33_eq (V : Valuation τ sig (Elt Ideal)) : res_main_while0b_v33 V = boxOf (V (Proc.devRef .tc main_v2_2)) (word V) := rfl
theorem v62_eq (V : Valuation τ sig (Elt Ideal)) : res_main_while0b_v62 V
    = sharedOf (res_main_while0b_v33 V) (V (Proc.devRef .tc main_v2_2)) := rfl
theorem mask_step (V : Valuation τ sig (Elt Ideal)) : maskAt (STEP V)
    = maskOf (res_main_while0b_v25 V) (maskAt V) (res_main_while0b_v33 V) (V (Proc.devRef .tc main_v2_2)) (sharedOf (res_main_while0b_v33 V) (V (Proc.devRef .tc main_v2_2))) :=
  (STEP_main_v2_5 V).trans rfl

/-- The place in the notes that the trip writes. -/
def place (i : IVec S_ 32) : IVec S1 32 :=
  broadcastInDim S1 ![] bcast_S_S1 (id (select (cmpi .slt i (constantI S_ 32 0#32)) (addi i (constantI S_ 32 512#32)) i))

theorem keep_step (V : Valuation τ sig (Elt Ideal)) : keepAt (STEP V)
    = Host.scatter scatter_S512_S1_S__n_0_0_0 (fun _ b => b) (keepAt V) (place (tripAt V)) (select (res_main_while0b_v25 V) (word V) (constantI S_ 32 4294967295#32)) :=
  (STEP_main_v2_6 V).trans rfl
theorem trip_step (V : Valuation τ sig (Elt Ideal)) : tripAt (STEP V) = addi (tripAt V) (constantI S_ 32 1#32) :=
  (STEP_main_v2_4 V).trans rfl

open Classical in
/-- One trip. -/
theorem step_spec (h : Fixed boxes scores V) : ∃ b : Fin 20000, First (fun k : Fin 20000 => k.val) (masked V) b
    ∧ (∀ k, masked (STEP V) k = if cutoff < masked V b ∧ half < overlap (boxNo boxes b) (boxNo boxes k) (boxNo boxes k).area then filler else masked V k)
    ∧ ∀ i : Fin 512, (∀ j, tripAt V j = BitVec.ofNat 32 i.val) → ∀ r : Fin 512,
        keepAt (STEP V) (ix1 r) = if r = i then (if cutoff < masked V b then BitVec.ofNat 32 b.val else 4294967295#32) else keepAt V (ix1 r) := by
  obtain ⟨b, hb, hw⟩ := word_spec V
  have hvalid : ∀ j, res_main_while0b_v25 V j = BitVec.ofBool (decide (cutoff < masked V b)) := fun j => by
    rw [v25_eq, h.neg_eq, validOf_apply _ _ b hw j]
    unfold masked
    rw [h.neg_eq]
  have hbox : asBox (res_main_while0b_v33 V) = boxNo boxes b := by
    rw [v33_eq, h.boxes_eq]
    unfold asBox boxNo
    rw [boxOf_apply _ _ b hw, boxOf_apply _ _ b hw, boxOf_apply _ _ b hw, boxOf_apply _ _ b hw]
  refine ⟨b, hb, fun k => ?_, fun i hi r => ?_⟩
  · rw [masked_eq h.step, masked_eq h k, mask_step, h.boxes_eq, maskOf_apply _ _ _ _ k (cutoff < masked V b) hvalid, hbox]
    split
    · rfl
    · rfl
  · rw [keep_step]
    have hp : (place (tripAt V) (ix1 (0 : Fin 1))).toInt = (i.val : ℤ) := by
      have e : tripAt V = constantI S_ 32 (BitVec.ofNat 32 i.val) := funext hi
      rw [e]
      exact toInt_wrap_ofNat (s := S_) (d := constantI S_ 32 512#32) (i := fun a => a.elim0) i.val (by have := i.isLt; omega)
    refine (Routing.scatter_one_signed scatter_S512_S1_S__n_0_0_0 rfl rfl (keepAt V) (place (tripAt V)) _ i hp r).trans ?_
    refine if_congr Iff.rfl ?_ rfl
    show Scalar.select (res_main_while0b_v25 V _) (word V _) 4294967295#32 = _
    rw [hvalid, hw]
    by_cases hc : cutoff < masked V b
    · rw [decide_eq_true hc, if_pos hc]; rfl
    · rw [decide_eq_false hc, if_neg hc]; rfl

end

variable (m : (ℓ : Loc nD τ sig) → Buf (Elt Ideal) ℓ) (c : Dev nD)

/-- The boxes and the scores that the program is given. -/
abbrev boxesOf : FVec Ideal S20000x4 .f32 := m ((c.tc : Thread nD τ).loc main_arg0)
abbrev scoresOf : FVec Ideal S20000 .f32 := m ((c.tc : Thread nD τ).loc main_arg1)

theorem start_scores : start m c (Proc.devRef .tc main_v2_0) = scoresOf m c := by
  simp only [start, entryContents, afterL_cons, afterL_nil]
  after_reads_simp
  rfl
theorem start_neg : start m c (Proc.devRef .tc main_v2_1) = (constant (F := Ideal) S_ .f32 0xF149F2CA#32 : FVec Ideal S_ .f32) := by
  simp only [start, entryContents, afterL_cons, afterL_nil]
  after_reads_simp
  rfl
theorem start_boxes : start m c (Proc.devRef .tc main_v2_2) = boxesOf m c := by
  simp only [start, entryContents, afterL_cons, afterL_nil]
  after_reads_simp
  rfl
theorem start_trip : tripAt (start m c) = constantI S_ 32 0#32 := by
  simp only [tripAt, start, entryContents, afterL_cons, afterL_nil]
  after_reads_simp
  rfl
theorem start_mask : maskAt (start m c) = broadcastInDim S20000 ![] bcast_S_S20000 (constantI S_ 1 1#1) := by
  simp only [maskAt, start, entryContents, afterL_cons, afterL_nil]
  after_reads_simp
  rfl

theorem start_fixed : Fixed (boxesOf m c) (scoresOf m c) (start m c) := ⟨start_scores m c, start_neg m c, start_boxes m c⟩

theorem start_masked (k : Fin 20000) : masked (start m c) k = scoresOf m c (ix1 k) := by
  rw [masked_eq (start_fixed m c), start_mask]
  rfl

/-- The contents before trip `n`. -/
def before (n : ℕ) : Valuation τ sig (Elt Ideal) := STEP^[n] (start m c)

theorem before_succ (n : ℕ) : before m c (n + 1) = STEP (before m c n) := Function.iterate_succ_apply' _ _ _

theorem before_fixed : ∀ n, Fixed (boxesOf m c) (scoresOf m c) (before m c n)
  | 0 => start_fixed m c
  | n + 1 => by rw [before_succ]; exact (before_fixed n).step

theorem before_trip : ∀ (n : ℕ) (j : S_.Idx), tripAt (before m c n) j = BitVec.ofNat 32 n
  | 0, j => by show tripAt (start m c) j = _; rw [start_trip]; rfl
  | n + 1, j => by
    rw [before_succ, trip_step]
    show tripAt (before m c n) j + 1#32 = _
    rw [before_trip n j, BitVec.ofNat_add]

open Classical in
/-- The notes before trip `n`: the number picked in each earlier trip, or minus one. -/
theorem keep_before (r : Fin 512) (b : Fin 20000) (hb : First (fun k : Fin 20000 => k.val) (masked (before m c r.val)) b) : ∀ n, r.val < n → n ≤ 512 →
    keepAt (before m c n) (ix1 r) = if cutoff < masked (before m c r.val) b then BitVec.ofNat 32 b.val else 4294967295#32
  | 0, h, _ => absurd h (Nat.not_lt_zero _)
  | n + 1, h, h' => by
    obtain ⟨b', hb', _, hk⟩ := step_spec (before_fixed m c n)
    rw [before_succ, hk ⟨n, by omega⟩ (before_trip m c n) r]
    by_cases hr : r = ⟨n, by omega⟩
    · have hn : r.val = n := congrArg Fin.val hr
      rw [if_pos hr]
      rw [hn] at hb ⊢
      obtain rfl : b = b' := First.unique Fin.val_injective hb hb'
      rfl
    · rw [if_neg hr]
      exact keep_before r b hb n (by have : r.val ≠ n := fun e => hr (Fin.ext e); omega) (by omega)

end Cert.Proof.Ref

end
-- ==== Proof.Val.RefRow.lean ====
/-
  A row of the reference's result, on the extended reals: the box and the score that its noted number names, or zeros where it notes none.
-/
module

public import proofs.«01_k».proof.Proof.Ref.Out
public import proofs.«01_k».proof.Proof.Val.Host
public import Idealize.ShloMosaic.Lib.Pointwise
public import Idealize.ShloMosaic.Lib.DynamicIndex
public import Idealize.ShloMosaic.Lib.StableHlo.Predicate

@[expose] public section

set_option maxRecDepth 16384

noncomputable section

namespace Cert.Proof.Ref

open Cert.ReferenceIdeal Cert.ReferenceIdeal.Gen
open Idealize.ShloMosaic Idealize.ShloMosaic.TcCoe
open Idealize.ShloMosaic.StableHlo
open Cert.Proof.KI (boxNo)

theorem kept_apply (keep : IVec S512 32) (r : Fin 512) : kept keep (ix1 r) = BitVec.ofBool ((0#32).sle (keep (ix1 r))) := rfl

theorem takeIdx_apply (safe : IVec S512 32) (r : Fin 512) (b : ℕ) (hb : b < 20000) (h : safe (ix1 r) = BitVec.ofNat 32 b) :
    takeIdx safe (ix2 r (0 : Fin 1)) = BitVec.ofNat 32 b := by
  have e : takeIdx safe (ix2 r (0 : Fin 1)) = Scalar.select (IntOp.cmpi .slt (safe (ix1 r)) 0#32) (safe (ix1 r) + 20000#32) (safe (ix1 r)) := by
    pointwise [takeIdx]
    rfl
  rw [e, h, IntOp.cmpi, BitVec.slt_eq_decide, toInt_small b (by omega), decide_eq_false (by simp)]
  rfl

theorem takeOk_apply (safe : IVec S512 32) (r : Fin 512) (b : ℕ) (hb : b < 20000) (h : safe (ix1 r) = BitVec.ofNat 32 b) :
    takeOk safe (ix1 r) = 1#1 := by
  have e := takeIdx_apply safe r b hb h
  unfold takeOk
  generalize takeIdx safe = t at e ⊢
  pointwise []
  rw [show (Finset.univ : Finset (Fin 1)) = {0} from rfl, Finset.fold_singleton, e, IntOp.cmpi, IntOp.cmpi, BitVec.sle_eq_decide, BitVec.sle_eq_decide,
    toInt_small b (by omega), show (0#32 : BitVec 32).toInt = 0 from rfl, show (19999#32 : BitVec 32).toInt = 19999 from rfl,
    decide_eq_true (by omega), decide_eq_true (by omega)]
  rfl

/-- The row of a gather's index column that a row of its result reads. -/
theorem toInt_clamp (b : Fin 20000) : min (BitVec.ofNat 32 b.val).toInt.toNat 19999 = b.val := by
  rw [toInt_small b.val (by omega)]
  have := b.isLt
  show min b.val 19999 = b.val
  omega

theorem gatherBoxes (boxes : FVec Ideal S20000x4 .f32) (idx : IVec S512x1 32) (r : Fin 512) (c : Fin 4) (b : Fin 20000)
    (h : idx (ix2 r (0 : Fin 1)) = BitVec.ofNat 32 b.val) :
    (Host.gather gather_S20000x4_S512x1_S512x4_1_0_n_n_0_1_14 boxes idx (ix2 r c) : EReal) = boxes (ix2 b c) := by
  unfold Host.gather
  congr 1
  funext a
  match a with
  | ⟨0, _⟩ =>
    refine Fin.ext ?_
    show GatherDims.start gather_S20000x4_S512x1_S512x4_1_0_n_n_0_1_14 (ix2 r c) idx 0 + GatherDims.batchCoord gather_S20000x4_S512x1_S512x4_1_0_n_n_0_1_14 (ix2 r c) 0
      + GatherDims.offCoord gather_S20000x4_S512x1_S512x4_1_0_n_n_0_1_14 (ix2 r c) 0 = b.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S20000x4_S512x1_S512x4_1_0_n_n_0_1_14.startIndexMap from List.mem_singleton.mpr rfl)]
    have hsi : GatherDims.siIdx gather_S20000x4_S512x1_S512x4_1_0_n_n_0_1_14 (ix2 r c) ⟨List.idxOf (0 : Fin 2) gather_S20000x4_S512x1_S512x4_1_0_n_n_0_1_14.startIndexMap,
        List.idxOf_lt_length_iff.2 (List.mem_singleton.mpr rfl)⟩ = ix2 r (0 : Fin 1) := by
      funext q; refine Fin.ext ?_
      match q with
      | ⟨0, _⟩ => rfl
      | ⟨1, _⟩ => rfl
    rw [hsi, h]
    exact toInt_clamp b
  | ⟨1, _⟩ =>
    refine Fin.ext ?_
    show GatherDims.start gather_S20000x4_S512x1_S512x4_1_0_n_n_0_1_14 (ix2 r c) idx 1 + GatherDims.batchCoord gather_S20000x4_S512x1_S512x4_1_0_n_n_0_1_14 (ix2 r c) 1
      + GatherDims.offCoord gather_S20000x4_S512x1_S512x4_1_0_n_n_0_1_14 (ix2 r c) 1 = c.val
    rw [GatherDims.batchCoord_eq_zero _ _ _ List.not_mem_nil]
    unfold GatherDims.start
    rw [dif_neg (show (1 : Fin 2) ∉ gather_S20000x4_S512x1_S512x4_1_0_n_n_0_1_14.startIndexMap from fun h => absurd (List.mem_singleton.mp h) (by decide))]
    show 0 + 0 + GatherDims.offCoord gather_S20000x4_S512x1_S512x4_1_0_n_n_0_1_14 (ix2 r c) 1 = c.val
    rw [Nat.zero_add]
    rfl

theorem gatherScores (scores : FVec Ideal S20000 .f32) (idx : IVec S512x1 32) (r : Fin 512) (b : Fin 20000)
    (h : idx (ix2 r (0 : Fin 1)) = BitVec.ofNat 32 b.val) :
    (Host.gather gather_S20000_S512x1_S512_n_0_n_n_0_1_1 scores idx (ix1 r) : EReal) = scores (ix1 b) := by
  unfold Host.gather
  congr 1
  funext a
  obtain rfl : a = 0 := Subsingleton.elim _ _
  refine Fin.ext ?_
  show GatherDims.start gather_S20000_S512x1_S512_n_0_n_n_0_1_1 (ix1 r) idx 0 + GatherDims.batchCoord gather_S20000_S512x1_S512_n_0_n_n_0_1_1 (ix1 r) 0
    + GatherDims.offCoord gather_S20000_S512x1_S512_n_0_n_n_0_1_1 (ix1 r) 0 = b.val
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ gather_S20000_S512x1_S512_n_0_n_n_0_1_1.startIndexMap from List.mem_singleton.mpr rfl)]
  have hsi : GatherDims.siIdx gather_S20000_S512x1_S512_n_0_n_n_0_1_1 (ix1 r) ⟨List.idxOf (0 : Fin 1) gather_S20000_S512x1_S512_n_0_n_n_0_1_1.startIndexMap,
      List.idxOf_lt_length_iff.2 (List.mem_singleton.mpr rfl)⟩ = ix2 r (0 : Fin 1) := by
    funext q; refine Fin.ext ?_
    match q with
    | ⟨0, _⟩ => rfl
    | ⟨1, _⟩ => rfl
  rw [hsi, h]
  exact toInt_clamp b

theorem takeBoxes_apply (boxes : FVec Ideal S20000x4 .f32) (safe : IVec S512 32) (r : Fin 512) (b : Fin 20000) (h : safe (ix1 r) = BitVec.ofNat 32 b.val) (c : Fin 4) :
    (takeBoxes boxes safe (ix2 r c) : EReal) = boxes (ix2 b c) := by
  have hok := takeOk_apply safe r b.val b.isLt h
  have hg := gatherBoxes boxes (takeIdx safe) r c b (takeIdx_apply safe r b.val b.isLt h)
  unfold takeBoxes
  generalize takeOk safe = ok at hok ⊢
  generalize Host.gather gather_S20000x4_S512x1_S512x4_1_0_n_n_0_1_14 boxes (takeIdx safe) = g at hg ⊢
  pointwise []
  rw [hok]
  exact hg

theorem takeScores_apply (scores : FVec Ideal S20000 .f32) (safe : IVec S512 32) (r : Fin 512) (b : Fin 20000) (h : safe (ix1 r) = BitVec.ofNat 32 b.val) :
    (takeScores scores safe (ix1 r) : EReal) = scores (ix1 b) := by
  have hok := takeOk_apply safe r b.val b.isLt h
  have hg := gatherScores scores (takeIdx safe) r b (takeIdx_apply safe r b.val b.isLt h)
  unfold takeScores
  generalize takeOk safe = ok at hok ⊢
  generalize Host.gather gather_S20000_S512x1_S512_n_0_n_n_0_1_1 scores (takeIdx safe) = g at hg ⊢
  pointwise []
  rw [hok]
  exact hg

theorem result_apply4 (boxes : FVec Ideal S20000x4 .f32) (scores : FVec Ideal S20000 .f32) (keep : IVec S512 32) (r : Fin 512) :
    (result boxes scores keep (ix2 r (4 : Fin 5)) : EReal) = (takeScores scores (safeIdx keep) (ix1 r) : EReal) * (((kept keep (ix1 r)).toNat : ℝ) : EReal) := by
  unfold result
  generalize takeScores scores (safeIdx keep) = s
  generalize takeBoxes boxes (safeIdx keep) = s'
  generalize kept keep = q
  pointwise [beside]
  rfl

theorem result_apply0 (boxes : FVec Ideal S20000x4 .f32) (scores : FVec Ideal S20000 .f32) (keep : IVec S512 32) (r : Fin 512) :
    (result boxes scores keep (ix2 r (0 : Fin 5)) : EReal) = (takeBoxes boxes (safeIdx keep) (ix2 r (0 : Fin 4)) : EReal) * (((kept keep (ix1 r)).toNat : ℝ) : EReal) := by
  unfold result
  generalize takeScores scores (safeIdx keep) = s
  generalize takeBoxes boxes (safeIdx keep) = s'
  generalize kept keep = q
  pointwise [beside]
  rfl
theorem result_apply1 (boxes : FVec Ideal S20000x4 .f32) (scores : FVec Ideal S20000 .f32) (keep : IVec S512 32) (r : Fin 512) :
    (result boxes scores keep (ix2 r (1 : Fin 5)) : EReal) = (takeBoxes boxes (safeIdx keep) (ix2 r (1 : Fin 4)) : EReal) * (((kept keep (ix1 r)).toNat : ℝ) : EReal) := by
  unfold result
  generalize takeScores scores (safeIdx keep) = s
  generalize takeBoxes boxes (safeIdx keep) = s'
  generalize kept keep = q
  pointwise [beside]
  rfl
theorem result_apply2 (boxes : FVec Ideal S20000x4 .f32) (scores : FVec Ideal S20000 .f32) (keep : IVec S512 32) (r : Fin 512) :
    (result boxes scores keep (ix2 r (2 : Fin 5)) : EReal) = (takeBoxes boxes (safeIdx keep) (ix2 r (2 : Fin 4)) : EReal) * (((kept keep (ix1 r)).toNat : ℝ) : EReal) := by
  unfold result
  generalize takeScores scores (safeIdx keep) = s
  generalize takeBoxes boxes (safeIdx keep) = s'
  generalize kept keep = q
  pointwise [beside]
  rfl
theorem result_apply3 (boxes : FVec Ideal S20000x4 .f32) (scores : FVec Ideal S20000 .f32) (keep : IVec S512 32) (r : Fin 512) :
    (result boxes scores keep (ix2 r (3 : Fin 5)) : EReal) = (takeBoxes boxes (safeIdx keep) (ix2 r (3 : Fin 4)) : EReal) * (((kept keep (ix1 r)).toNat : ℝ) : EReal) := by
  unfold result
  generalize takeScores scores (safeIdx keep) = s
  generalize takeBoxes boxes (safeIdx keep) = s'
  generalize kept keep = q
  pointwise [beside]
  rfl

theorem safeIdx_apply (keep : IVec S512 32) (r : Fin 512) : safeIdx keep (ix1 r) = Scalar.select (kept keep (ix1 r)) (keep (ix1 r)) 0#32 := by
  unfold safeIdx
  generalize kept keep = q
  pointwise []
  rfl

open Classical in
/-- A row of the result, by what its trip noted. -/
theorem result_row (boxes : FVec Ideal S20000x4 .f32) (scores : FVec Ideal S20000 .f32) (keep : IVec S512 32) (r : Fin 512) (b : Fin 20000) (p : Prop)
    (h : keep (ix1 r) = if p then BitVec.ofNat 32 b.val else 4294967295#32) (c : Fin 5) :
    (result boxes scores keep (ix2 r c) : EReal) = rowOf (boxNo boxes b) (scores (ix1 b)) p c := by
  by_cases hp : p
  · rw [if_pos hp] at h
    have hk : kept keep (ix1 r) = 1#1 := by
      rw [kept_apply, h, BitVec.sle_eq_decide, toInt_small b.val (by omega), show (0#32 : BitVec 32).toInt = 0 from rfl, decide_eq_true (by omega)]
      rfl
    have hs : safeIdx keep (ix1 r) = BitVec.ofNat 32 b.val := by rw [safeIdx_apply, hk, h]; rfl
    have one : ((((1#1 : BitVec 1).toNat : ℕ) : ℝ) : EReal) = 1 := by simp
    unfold rowOf
    rw [if_pos hp]
    match c with
    | ⟨0, _⟩ => exact (result_apply0 boxes scores keep r).trans (by rw [takeBoxes_apply boxes _ r b hs, hk, one]; rfl)
    | ⟨1, _⟩ => exact (result_apply1 boxes scores keep r).trans (by rw [takeBoxes_apply boxes _ r b hs, hk, one]; rfl)
    | ⟨2, _⟩ => exact (result_apply2 boxes scores keep r).trans (by rw [takeBoxes_apply boxes _ r b hs, hk, one]; rfl)
    | ⟨3, _⟩ => exact (result_apply3 boxes scores keep r).trans (by rw [takeBoxes_apply boxes _ r b hs, hk, one]; rfl)
    | ⟨4, _⟩ => exact (result_apply4 boxes scores keep r).trans (by rw [takeScores_apply scores _ r b hs, hk, one]; rfl)
  · rw [if_neg hp] at h
    have hk : kept keep (ix1 r) = 0#1 := by rw [kept_apply, h]; rfl
    have zero : ((((0#1 : BitVec 1).toNat : ℕ) : ℝ) : EReal) = 0 := by simp
    rw [rowOf_neg _ _ _ hp]
    match c with
    | ⟨0, _⟩ => exact (result_apply0 boxes scores keep r).trans (by rw [hk, zero, mul_zero])
    | ⟨1, _⟩ => exact (result_apply1 boxes scores keep r).trans (by rw [hk, zero, mul_zero])
    | ⟨2, _⟩ => exact (result_apply2 boxes scores keep r).trans (by rw [hk, zero, mul_zero])
    | ⟨3, _⟩ => exact (result_apply3 boxes scores keep r).trans (by rw [hk, zero, mul_zero])
    | ⟨4, _⟩ => exact (result_apply4 boxes scores keep r).trans (by rw [hk, zero, mul_zero])

end Cert.Proof.Ref

end
-- ==== Proof.Val.Pre.lean ====
/-
  What the precondition says, on the extended reals: no coordinate is below minus one, and every box overlaps itself by more than a half.
-/
module

public import proofs.«01_k».proof.Pre_boxes_ok
public import proofs.«01_k».proof.Proof.Val.RefOps

@[expose] public section

set_option maxRecDepth 16384

noncomputable section

namespace Cert.Proof.Pre

open Cert.Pre_boxes_ok Cert.Pre_boxes_ok.Facts
open Idealize.ShloMosaic
open Cert.Proof.KI (boxNo)

/-- A conjunction of bits is set only if all of them are. -/
theorem fold_andi {ι : Type} (s : Finset ι) (f : ι → BitVec 1) (h : s.fold IntOp.andi 1#1 f = 1#1) : ∀ i ∈ s, f i = 1#1 := by
  classical
  have key : ∀ a b : BitVec 1, IntOp.andi a b = 1#1 → a = 1#1 ∧ b = 1#1 := by decide
  induction s using Finset.induction_on with
  | empty => exact fun i hi => absurd hi (Finset.notMem_empty i)
  | insert a s ha ih =>
    rw [Finset.fold_insert ha] at h
    obtain ⟨h1, h2⟩ := key _ _ h
    intro i hi
    rcases Finset.mem_insert.mp hi with rfl | hi
    · exact h1
    · exact ih h2 i hi

theorem reduce_andi {s : Shape} {axes : List (Fin s.rank)} (x : IVec s 1) (h : s.ReducesTo axes S_) (hu : 0 < S_.numel) (j : S_.Idx)
    (e : Host.reduce IntOp.andi x (constantI S_ 1 1#1) h hu j = 1#1) (i : s.Idx) : x i = 1#1 := by
  rw [Host.reduce_eq_fold] at e
  exact fold_andi _ x e i (Finset.mem_filter.mpr ⟨Finset.mem_univ i, funext fun a => a.elim0⟩)

theorem and_bits : ∀ a b : BitVec 1, IntOp.andi a b = 1#1 → a = 1#1 ∧ b = 1#1 := by decide

theorem of_ofBool {p : Prop} [Decidable p] (h : BitVec.ofBool (decide p) = 1#1) : p := by
  by_cases hp : p
  · exact hp
  · rw [decide_eq_false hp] at h; exact absurd h (by decide)

variable [Cert.Pre_boxes_ok.Facts]

/-- A box's intersection with itself and its overlap with itself, entry by entry of the printed vectors. -/
def own (x : FVec Ideal S20000x4 .f32) : FVec Ideal S20000 .f32 :=
  mulf (fn_clip (F := Ideal) (subf (Ref.column ![0, 2] slices_S20000x4_S20000x1_0_2 x) (Ref.column ![0, 0] slices_S20000x4_S20000x1_0_0 x)) (constant S_ .f32 0x00000000#32))
    (fn_clip (F := Ideal) (subf (Ref.column ![0, 3] slices_S20000x4_S20000x1_0_3 x) (Ref.column ![0, 1] slices_S20000x4_S20000x1_0_1 x)) (constant S_ .f32 0x00000000#32))
def areas (x : FVec Ideal S20000x4 .f32) : FVec Ideal S20000 .f32 :=
  mulf (subf (Ref.column ![0, 2] slices_S20000x4_S20000x1_0_2 x) (Ref.column ![0, 0] slices_S20000x4_S20000x1_0_0 x))
    (subf (Ref.column ![0, 3] slices_S20000x4_S20000x1_0_3 x) (Ref.column ![0, 1] slices_S20000x4_S20000x1_0_1 x))
def overlaps (x : FVec Ideal S20000x4 .f32) : IVec S20000 1 :=
  cmpf .ogt (Host.divf (own x) (addf (subf (addf (areas x) (areas x)) (own x)) (broadcastInDim S20000 ![] bcast_S_S20000 (constant S_ .f32 0x322BCC77#32))))
    (broadcastInDim S20000 ![] bcast_S_S20000 (constant S_ .f32 0x3F000000#32))
def above (x : FVec Ideal S20000x4 .f32) : IVec S20000x4 1 :=
  cmpf .oge x (broadcastInDim S20000x4 ![] bcast_S_S20000x4 (constant S_ .f32 0xBF800000#32))

theorem fn_eq (x : FVec Ideal S20000x4 .f32) (s : FVec Ideal S20000 .f32) : fn (F := Ideal) x s
    = andi (Host.reduce IntOp.andi (above x) (constantI S_ 1 1#1) reducesTo_S20000x4_S_d0_1 h_S_)
        (Host.reduce IntOp.andi (overlaps x) (constantI S_ 1 1#1) reducesTo_S20000_S_d0 h_S_) := rfl

theorem own_apply (x : FVec Ideal S20000x4 .f32) (k : Fin 20000) : (own x (ix1 k) : EReal) = inter (boxNo x k) (boxNo x k) := by
  show max (Ideal.ofBits .f32 0x00000000#32) ((Ref.column ![0, 2] slices_S20000x4_S20000x1_0_2 x (ix1 k) : EReal) - Ref.column ![0, 0] slices_S20000x4_S20000x1_0_0 x (ix1 k))
    * max (Ideal.ofBits .f32 0x00000000#32) ((Ref.column ![0, 3] slices_S20000x4_S20000x1_0_3 x (ix1 k) : EReal) - Ref.column ![0, 1] slices_S20000x4_S20000x1_0_1 x (ix1 k)) = _
  rw [Ref.column0, Ref.column1, Ref.column2, Ref.column3, Ideal.ofBits_zero_f32]
  unfold inter
  rw [min_self, min_self, max_self, max_self]
  rfl
theorem areas_apply (x : FVec Ideal S20000x4 .f32) (k : Fin 20000) : (areas x (ix1 k) : EReal) = (boxNo x k).area := by
  show ((Ref.column ![0, 2] slices_S20000x4_S20000x1_0_2 x (ix1 k) : EReal) - Ref.column ![0, 0] slices_S20000x4_S20000x1_0_0 x (ix1 k))
    * ((Ref.column ![0, 3] slices_S20000x4_S20000x1_0_3 x (ix1 k) : EReal) - Ref.column ![0, 1] slices_S20000x4_S20000x1_0_1 x (ix1 k)) = _
  rw [Ref.column0, Ref.column1, Ref.column2, Ref.column3]
  rfl

/-- The precondition, read. -/
theorem pre_spec (x : FVec Ideal S20000x4 .f32) (s : FVec Ideal S20000 .f32) (h : fn (F := Ideal) x s = fun _ => 1#1) :
    (∀ (k : Fin 20000) (c : Fin 4), Ideal.ofBits .f32 0xBF800000#32 ≤ (x (ix2 k c) : EReal))
      ∧ ∀ k : Fin 20000, half < overlap (boxNo x k) (boxNo x k) (boxNo x k).area := by
  rw [fn_eq] at h
  obtain ⟨h1, h2⟩ := and_bits _ _ (congrFun h (Shape.Idx.first h_S_))
  refine ⟨fun k c => ?_, fun k => ?_⟩
  · have e := reduce_andi _ _ _ _ h1 (ix2 k c)
    exact of_ofBool (p := Ideal.ofBits .f32 0xBF800000#32 ≤ (x (ix2 k c) : EReal)) e
  · have e := reduce_andi _ _ _ _ h2 (ix1 k)
    have e' : half < Ideal.div (own x (ix1 k)) ((areas x (ix1 k) : EReal) + areas x (ix1 k) - own x (ix1 k) + eps) := of_ofBool e
    rw [own_apply, areas_apply] at e'
    exact e'

end Cert.Proof.Pre

end
-- ==== Proof.Val.Greedy.lean ====
/-
  Greedy suppression, apart from any program: scores by number on one side, scores by place of a plane on the other, places past the last number holding
  the filler. A step picks the first greatest score and puts out what overlaps the pick. The two sides pick alike and stay alike through a step, and a
  sweep that takes two picks at once stays alike through two steps.
-/
module

public import proofs.«01_k».proof.Proof.Val.Pick
public import proofs.«01_k».proof.Proof.Val.Box

@[expose] public section

noncomputable section

namespace Cert.Proof.Greedy

open Idealize.ShloMosaic
open Cert.Proof.KI (Place key key_lt key_inj)

/-- The plane `f` holds the scores `g` at their numbers' places, and the filler past the last. -/
def Rel (g : Fin 20000 → EReal) (f : Place → EReal) : Prop := ∀ j, f j = if h : key j < 20000 then g ⟨key j, h⟩ else filler

/-- The place of a number. -/
def placeOf (n : Fin 20000) : Place := (⟨n.val / 128, by have := n.isLt; omega⟩, ⟨n.val % 128, by omega⟩)

theorem key_placeOf (n : Fin 20000) : key (placeOf n) = n.val := by
  unfold key placeOf
  show n.val / 128 * 128 + n.val % 128 = n.val
  omega

theorem filler_lt : filler < cutoff := by
  have h1 : filler = ((-(13234890 * 2 ^ 76) : ℝ) : EReal) := by
    simp [Ideal.ofBits, Ideal.ieee]
  have h3 : cutoff = ((-(13234890 * 2 ^ 75) : ℝ) : EReal) := by
    simp [Ideal.ofBits, Ideal.ieee]
  rw [h1, h3, EReal.coe_lt_coe_iff]
  norm_num

variable {g : Fin 20000 → EReal} {f : Place → EReal}

theorem Rel.at_number (h : Rel g f) (n : Fin 20000) : f (placeOf n) = g n := by
  rw [h (placeOf n), dif_pos (by rw [key_placeOf]; exact n.isLt)]
  congr 1
  exact Fin.ext (key_placeOf n)

theorem Rel.at_place (h : Rel g f) (j : Place) (hj : key j < 20000) : f j = g ⟨key j, hj⟩ := by rw [h j, dif_pos hj]

/-- A place whose score counts is a number's. -/
theorem Rel.counts (h : Rel g f) (j : Place) (hj : cutoff < f j) : key j < 20000 := by
  by_contra hn
  rw [h j, dif_neg hn] at hj
  exact absurd hj (not_lt.mpr filler_lt.le)

/-- The pick counts on one side where it does on the other. -/
theorem Rel.counts_iff (h : Rel g f) {i : Place} (hi : First key f i) {b : Fin 20000} (hb : First (fun k : Fin 20000 => k.val) g b) :
    cutoff < f i ↔ cutoff < g b := by
  constructor
  · intro hc
    rw [h.at_place i (h.counts i hc)] at hc
    exact hc.trans_le (hb.1 _)
  · intro hc
    rw [← h.at_number b] at hc
    exact hc.trans_le (hi.1 _)

/-- A pick that counts is the same on both sides. -/
theorem Rel.same (h : Rel g f) {i : Place} (hi : First key f i) {b : Fin 20000} (hb : First (fun k : Fin 20000 => k.val) g b) (hc : cutoff < f i) :
    ∃ hk : key i < 20000, (⟨key i, hk⟩ : Fin 20000) = b := by
  have hk := h.counts i hc
  have e := h.at_place i hk
  refine ⟨hk, First.unique Fin.val_injective (f := g) ⟨fun n => ?_, fun n hn => ?_⟩ hb⟩
  · rw [← e, ← h.at_number n]; exact hi.1 _
  · rw [← e, ← h.at_number n]
    exact hi.2 _ (by rw [key_placeOf]; exact hn)

variable (ov : Fin 20000 → Fin 20000 → EReal) (ovP : Place → Place → EReal)

open Classical in
/-- The scores after a step that picks `b`. -/
def nextOf (g : Fin 20000 → EReal) (b k : Fin 20000) : EReal := if cutoff < g b ∧ half < ov b k then filler else g k

open Classical in
/-- The plane after a step that picks `i`. -/
def nextAt (f : Place → EReal) (i j : Place) : EReal := if half < ovP i j ∧ cutoff < f i then filler else f j

variable (hov : ∀ (i j : Place) (hi : key i < 20000) (hj : key j < 20000), ovP i j = ov ⟨key i, hi⟩ ⟨key j, hj⟩)

include hov in
/-- The two sides stay alike through a step. -/
theorem Rel.step (h : Rel g f) {i : Place} (hi : First key f i) {b : Fin 20000} (hb : First (fun k : Fin 20000 => k.val) g b) :
    Rel (nextOf ov g b) (nextAt ovP f i) := by
  intro j
  unfold nextAt nextOf
  by_cases hj : key j < 20000
  · rw [dif_pos hj, h.at_place j hj]
    by_cases hc : cutoff < f i
    · obtain ⟨hk, e⟩ := h.same hi hb hc
      have hc' := (h.counts_iff hi hb).mp hc
      rw [hov i j hk hj, e]
      refine if_congr ⟨fun q => ⟨hc', q.1⟩, fun q => ⟨q.2, hc⟩⟩ rfl rfl
    · have hc' := fun q => hc ((h.counts_iff hi hb).mpr q)
      rw [if_neg (fun q => hc q.2), if_neg (fun q => hc' q.1)]
  · rw [dif_neg hj, h j, dif_neg hj, ite_self]

open Classical in
/-- The plane after a sweep that takes two picks, `i` and `k`; `q` is the score of the second, `a` the overlap of the two. -/
def nextTwo (f : Place → EReal) (i k : Place) (q a : EReal) (j : Place) : EReal :=
  if (half < ovP i j ∧ cutoff < f i) ∨ (half < ovP k j ∧ cutoff < q ∧ a ≤ half) then filler else f j

open Classical in
/-- A sweep that does not take its second pick is one step. -/
theorem nextTwo_one (f : Place → EReal) (i k : Place) (q a : EReal) (hn : ¬ (cutoff < q ∧ a ≤ half)) : nextTwo ovP f i k q a = nextAt ovP f i := by
  funext j
  unfold nextTwo nextAt
  exact if_congr ⟨fun h => h.elim id fun h => absurd h.2 hn, Or.inl⟩ rfl rfl

variable (hself : ∀ n, half < ov n n)

open Classical in
include hov hself in
/-- A sweep that takes its second pick is two steps: the second pick is the first pick of the second step. -/
theorem Rel.two (h : Rel g f) {i : Place} (hi : First key f i) {k : Place} (hk : First key (fun j => if j = i then filler else f j) k)
    {q a : EReal} (hq : q = if k = i then filler else f k) (hq' : cutoff < q) (ha : ∀ hk : key k < 20000, a = ovP i k) (ha' : a ≤ half)
    {b : Fin 20000} (hb : First (fun k : Fin 20000 => k.val) g b) {b' : Fin 20000} (hb' : First (fun k : Fin 20000 => k.val) (nextOf ov g b) b') :
    (∃ hk : key k < 20000, (⟨key k, hk⟩ : Fin 20000) = b') ∧ q = nextOf ov g b b' ∧ Rel (nextOf ov (nextOf ov g b) b') (nextTwo ovP f i k q a) := by
  have hne : k ≠ i := fun e => by
    rw [hq, if_pos e] at hq'; exact absurd hq' (not_lt.mpr filler_lt.le)
  rw [if_neg hne] at hq
  subst hq
  have hkn := h.counts k hq'
  have hci : cutoff < f i := hq'.trans_le (hi.1 k)
  obtain ⟨hin, ei⟩ := h.same hi hb hci
  have ha0 := ha hkn
  subst ha0
  have h1 := h.step ov ovP hov hi hb
  have e1 : nextAt ovP f i k = f k := by
    unfold nextAt; rw [if_neg (fun z => absurd z.1 (not_lt.mpr ha'))]
  have hii : half < ovP i i := by rw [hov i i hin hin]; exact hself _
  have hfirst : First key (nextAt ovP f i) k := by
    refine ⟨fun j => ?_, fun j hj => ?_⟩
    · rw [e1]
      unfold nextAt
      by_cases hc : half < ovP i j ∧ cutoff < f i
      · rw [if_pos hc]; exact (filler_lt.trans hq').le
      · rw [if_neg hc]
        have hji : j ≠ i := fun e => hc (by subst e; exact ⟨hii, hci⟩)
        have := hk.1 j
        simp only [if_neg hji, if_neg hne] at this
        exact this
    · rw [e1]
      unfold nextAt
      by_cases hc : half < ovP i j ∧ cutoff < f i
      · rw [if_pos hc]; exact filler_lt.trans hq'
      · rw [if_neg hc]
        have hji : j ≠ i := fun e => hc (by subst e; exact ⟨hii, hci⟩)
        have := hk.2 j hj
        simp only [if_neg hji, if_neg hne] at this
        exact this
  have hck : cutoff < nextAt ovP f i k := by rw [e1]; exact hq'
  obtain ⟨hkn', ek⟩ := h1.same hfirst hb' hck
  refine ⟨⟨hkn', ek⟩, ?_, ?_⟩
  · rw [← e1, h1.at_place k hkn', ek]
  · have h2 := h1.step ov ovP hov hfirst hb'
    have e : nextAt ovP (nextAt ovP f i) k = nextTwo ovP f i k (f k) (ovP i k) := by
      funext j
      show (if half < ovP k j ∧ cutoff < nextAt ovP f i k then filler else nextAt ovP f i j) = _
      rw [e1]
      unfold nextAt nextTwo
      by_cases c1 : half < ovP i j ∧ cutoff < f i
      · rw [if_pos c1, if_pos (Or.inl c1), ite_self]
      · rw [if_neg c1]
        exact if_congr ⟨fun z => Or.inr ⟨z.1, z.2, ha'⟩, fun z => z.elim (fun z => absurd z c1) fun z => ⟨z.1, z.2.1⟩⟩ rfl rfl
    rw [← e]
    exact h2

end Cert.Proof.Greedy

end
-- ==== Proof.Equal.lean ====
/-
  The kernel's result is the reference's, on the extended reals: before the trip that stands at the kernel's counter the two hold the same scores in the
  running, and the rows that a sweep stores are the reference's.
-/
module

public import proofs.«01_k».proof.Defs
public import proofs.«01_k».proof.Proof.Val.Rows
public import proofs.«01_k».proof.Proof.Val.Host
public import proofs.«01_k».proof.Proof.Val.RefStep
public import proofs.«01_k».proof.Proof.Val.RefRow
public import proofs.«01_k».proof.Proof.Val.Pre
public import proofs.«01_k».proof.Proof.Val.Greedy

@[expose] public section

set_option maxRecDepth 16384

noncomputable section

namespace Cert.Proof

open Cert.KernelIdeal Cert.KernelIdeal.Gen
open Idealize.ShloMosaic Idealize.ShloMosaic.TcCoe
open Cert.Proof.KI Cert.Proof.Greedy

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The overlap of two boxes by number. -/
def ovNo (a b : Fin 20000) : EReal := overlap (boxNo (KI.boxesOf m c) a) (boxNo (KI.boxesOf m c) b) (boxNo (KI.boxesOf m c) b).area

/-- The overlap of two boxes by place, the second's area as the kernel is given it. -/
def ovAt (i j : Place) : EReal := overlap (boxAt (planes m c) i) (boxAt (planes m c) j) ((planes m c).ar (ix2 j.1 j.2))

theorem boxAt_no (i : Place) (h : key i < 20000) : boxAt (planes m c) i = boxNo (KI.boxesOf m c) ⟨key i, h⟩ := by
  rw [boxAt_planes, dif_pos h]

theorem ovAt_no (i j : Place) (hi : key i < 20000) (hj : key j < 20000) : ovAt m c i j = ovNo m c ⟨key i, hi⟩ ⟨key j, hj⟩ := by
  unfold ovAt ovNo
  rw [boxAt_no m c i hi, boxAt_no m c j hj, ar_planes m c j hj]

/-- Minus one is not above zero. -/
theorem neg_one_le : Ideal.ofBits .f32 0xBF800000#32 ≤ 0 := by
  have h : Ideal.ofBits .f32 0xBF800000#32 = ((-(1 : ℝ) : ℝ) : EReal) := by
    simp [Ideal.ofBits, Ideal.ieee, -EReal.coe_mul, -EReal.coe_neg]; norm_num
  rw [h]
  exact EReal.coe_nonpos.mpr (by norm_num)

/-- The planes hold no coordinate below minus one where the boxes hold none. -/
theorem aboveNeg (h : ∀ (k : Fin 20000) (d : Fin 4), Ideal.ofBits .f32 0xBF800000#32 ≤ (KI.boxesOf m c (ix2 k d) : EReal)) : AboveNeg (planes m c) := by
  intro r l
  have e := boxAt_planes m c (r, l)
  unfold boxAt at e
  by_cases hk : key (r, l) < 20000
  · rw [dif_pos hk] at e
    unfold boxNo at e
    obtain ⟨e1, e2, e3, e4⟩ := Box.mk.injEq .. ▸ e
    exact ⟨(h _ 0).trans_eq e1.symm, (h _ 1).trans_eq e2.symm, (h _ 2).trans_eq e3.symm, (h _ 3).trans_eq e4.symm⟩
  · rw [dif_neg hk] at e
    obtain ⟨e1, e2, e3, e4⟩ := Box.mk.injEq .. ▸ e
    exact ⟨neg_one_le.trans_eq e1.symm, neg_one_le.trans_eq e2.symm, neg_one_le.trans_eq e3.symm, neg_one_le.trans_eq e4.symm⟩

/-- What is assumed of a device: the two programs are given the same boxes and scores, no coordinate is below minus one, every box overlaps itself. -/
structure Given : Prop where
  boxes_eq : Ref.boxesOf m' c = KI.boxesOf m c
  scores_eq : Ref.scoresOf m' c = KI.scoresOf m c
  above : ∀ (k : Fin 20000) (d : Fin 4), Ideal.ofBits .f32 0xBF800000#32 ≤ (KI.boxesOf m c (ix2 k d) : EReal)
  self : ∀ k : Fin 20000, half < ovNo m c k k

/-- The scores in the running before the reference's trip `n`. -/
abbrev running (n : ℕ) : Fin 20000 → EReal := Ref.masked (Ref.before m' c n)

/-- The reference's result. -/
abbrev refOut : FVec Ideal ⟨2, ![512, 5]⟩ .f32 := Ref.result (Ref.boxesOf m' c) (Ref.scoresOf m' c) (Ref.keepEnd m' c)

variable {m m' c}

theorem running_step (h : Given m m' c) (n : ℕ) : ∃ b : Fin 20000, First (fun k : Fin 20000 => k.val) (running m' c n) b
    ∧ running m' c (n + 1) = nextOf (ovNo m c) (running m' c n) b := by
  obtain ⟨b, hb, hs, _⟩ := Ref.step_spec (Ref.before_fixed m' c n)
  refine ⟨b, hb, funext fun k => ?_⟩
  show Ref.masked (Ref.before m' c (n + 1)) k = _
  rw [Ref.before_succ, hs k, h.boxes_eq]
  rfl

/-- A row of the reference's result, by its trip's pick. -/
theorem refOut_row (h : Given m m' c) (r : Fin 512) (b : Fin 20000) (hb : First (fun k : Fin 20000 => k.val) (running m' c r.val) b) (d : Fin 5) :
    (refOut m' c (ix2 r d) : EReal) = rowOf (boxNo (KI.boxesOf m c) b) (running m' c r.val b) (cutoff < running m' c r.val b) d := by
  have hk := Ref.keep_before m' c r b hb 512 r.isLt (le_refl _)
  refine (Ref.result_row (Ref.boxesOf m' c) (Ref.scoresOf m' c) (Ref.keepEnd m' c) r b (cutoff < running m' c r.val b) (by convert hk; rfl) d).trans ?_
  by_cases hc : cutoff < running m' c r.val b
  · rcases Ref.masked_or (Ref.before_fixed m' c r.val) b with e | e
    · have hc' : cutoff < Ref.masked (Ref.before m' c r.val) b := hc
      rw [e] at hc'
      exact absurd hc' (not_lt.mpr filler_lt.le)
    · have e' : running m' c r.val b = Ref.scoresOf m' c (ix1 b) := e
      rw [e', h.boxes_eq]
  · rw [rowOf_neg _ _ _ hc, rowOf_neg _ _ _ hc]

/-- A pick of the kernel's gives the reference's row. -/
theorem pick_row (h : Given m m' c) (r : Fin 512) {f : Place → EReal} (hf : Rel (running m' c r.val) f) {i : Place} (hi : First key f i) (d : Fin 5) :
    rowOf (boxAt (planes m c) i) (f i) (cutoff < f i) d = (refOut m' c (ix2 r d) : EReal) := by
  obtain ⟨b, hb, _⟩ := running_step h r.val
  rw [refOut_row h r b hb d]
  by_cases hc : cutoff < f i
  · obtain ⟨hk, e⟩ := hf.same hi hb hc
    have e2 : f i = running m' c r.val b := by rw [hf.at_place i hk, e]
    rw [boxAt_no m c i hk, e, e2]
  · rw [rowOf_neg _ _ _ hc, rowOf_neg _ _ _ fun q => hc ((hf.counts_iff hi hb).mpr q)]

/-- A stored row, element by element. -/
theorem putRow_at (j : ℕ) (hj : j < 512) (f : FVec Ideal S512x5 .f32) (r : FVec Ideal S1x5 .f32) (n : Fin 512) (d : Fin 5) :
    (putRow j hj f r (ix2 n d) : EReal) = if n.val = j then (r (ix2 (0 : Fin 1) d) : EReal) else f (ix2 n d) := by
  refine (putRow_apply j hj f r (ix2 n d)).trans (if_congr Iff.rfl (congrArg r (funext fun a => ?_)) rfl)
  match a with
  | ⟨0, _⟩ => rfl
  | ⟨1, _⟩ => rfl

/-- The sweeps from counter `j` fill the rows from `j` on with the reference's and leave those below. -/
theorem outFrom_rows (h : Given m m' c) : ∀ (fuel j : ℕ) (ms : FVec Ideal S160x128 .f32) (f : FVec Ideal S512x5 .f32),
    512 ≤ j + fuel → (j < 512 → Rel (running m' c j) fun q => (ms (ix2 q.1 q.2) : EReal)) → ∀ (r : Fin 512) (d : Fin 5),
      (outFrom (planes m c) fuel j ms f (ix2 r d) : EReal) = if r.val < j then (f (ix2 r d) : EReal) else refOut m' c (ix2 r d)
  | 0, j, ms, f, hj, _, r, d => by
    rw [if_pos (by have := r.isLt; omega)]; rfl
  | fuel + 1, j, ms, f, hj, hrel, r, d => by
    unfold outFrom
    by_cases hlt : j < 512
    · rw [dif_pos hlt]
      have hf := hrel hlt
      obtain ⟨i, k, q, q', hi, hq, hk, hq', hacc, hnext, hrow1, hrow2⟩ := sweep (planes m c) ms (aboveNeg m c h.above)
      obtain ⟨b, hb, hG⟩ := running_step h j
      have hnext' : (fun z : Place => (msNext (planes m c) ms (ix2 z.1 z.2) : EReal))
          = nextTwo (ovAt m c) (fun z => (ms (ix2 z.1 z.2) : EReal)) i k q' (overlap (boxAt (planes m c) i) (boxAt (planes m c) k) (boxAt (planes m c) k).area) := by
        funext z
        rw [hnext z, hq]
        rfl
      have hr1 : ∀ d : Fin 5, (row1 (planes m c) ms (ix2 (0 : Fin 1) d) : EReal) = refOut m' c (ix2 (⟨j, hlt⟩ : Fin 512) d) := fun d => by
        rw [hrow1 d, hq]
        exact pick_row h ⟨j, hlt⟩ hf hi d
      by_cases h2 : two (planes m c) ms j
      · have hj' : jNext (planes m c) ms j = j + 2 := if_pos h2
        have hj511 : j < 511 := h2.2
        obtain ⟨hc, ha⟩ := hacc.mp h2.1
        obtain ⟨b', hb', hG'⟩ := running_step h (j + 1)
        rw [hG] at hb'
        have hak : ∀ hkn : key k < 20000, overlap (boxAt (planes m c) i) (boxAt (planes m c) k) (boxAt (planes m c) k).area = ovAt m c i k := fun hkn => by
          unfold ovAt
          rw [ar_planes m c k hkn, boxAt_no m c k hkn]
        obtain ⟨⟨hkn, ek⟩, eq', hR⟩ := hf.two (ovNo m c) (ovAt m c) (ovAt_no m c) h.self hi hk hq' hc hak ha hb hb'
        have hr2 : ∀ d : Fin 5, (row2 (planes m c) ms (ix2 (0 : Fin 1) d) : EReal) = refOut m' c (ix2 (⟨j + 1, by omega⟩ : Fin 512) d) := fun d => by
          rw [hrow2 d, refOut_row h ⟨j + 1, by omega⟩ b' (by rw [hG]; exact hb') d, boxAt_no m c k hkn, ek, eq']
          show _ = rowOf _ (running m' c (j + 1) b') (cutoff < running m' c (j + 1) b') d
          rw [hG]
        rw [hj', outFrom_rows h fuel (j + 2) _ _ (by omega) (fun _ => by rw [hnext']; rw [hG', hG]; exact hR) r d]
        unfold putRows
        rw [dif_pos h2, putRow_at, putRow_at]
        show (if r.val < j + 2 then (if r.val = j + 1 then row2 (planes m c) ms (ix2 (0 : Fin 1) d) else if r.val = j then row1 (planes m c) ms (ix2 (0 : Fin 1) d) else f (ix2 r d) : EReal) else refOut m' c (ix2 r d)) = _
        rw [hr1 d, hr2 d]
        by_cases e1 : r.val = j + 1
        · rw [if_pos (by omega), if_pos e1, if_neg (by omega)]
          exact congrArg (fun z => refOut m' c (ix2 z d)) (Fin.ext e1.symm)
        · rw [if_neg e1]
          by_cases e2 : r.val = j
          · rw [if_pos (by omega), if_pos e2, if_neg (by omega)]
            exact congrArg (fun z => refOut m' c (ix2 z d)) (Fin.ext e2.symm)
          · rw [if_neg e2]
            exact if_congr (by omega) rfl rfl
      · have hj' : jNext (planes m c) ms j = j + 1 := if_neg h2
        have hR : j + 1 < 512 → Rel (running m' c (j + 1)) fun z => (msNext (planes m c) ms (ix2 z.1 z.2) : EReal) := fun hlt' => by
          rw [hnext', nextTwo_one (ovAt m c) _ _ _ _ _ (fun z => h2 ⟨hacc.mpr z, by omega⟩), hG]
          exact hf.step (ovNo m c) (ovAt m c) (ovAt_no m c) hi hb
        rw [hj', outFrom_rows h fuel (j + 1) _ _ (by omega) hR r d]
        unfold putRows
        rw [dif_neg h2, putRow_at]
        show (if r.val < j + 1 then (if r.val = j then row1 (planes m c) ms (ix2 (0 : Fin 1) d) else f (ix2 r d) : EReal) else refOut m' c (ix2 r d)) = _
        rw [hr1 d]
        by_cases e2 : r.val = j
        · rw [if_pos (by omega), if_pos e2, if_neg (by omega)]
          exact congrArg (fun z => refOut m' c (ix2 z d)) (Fin.ext e2.symm)
        · rw [if_neg e2]
          exact if_congr (by omega) rfl rfl
    · rw [dif_neg hlt, if_pos (by have := r.isLt; omega)]

/-- **The results are equal.** -/
theorem outs_eq (h : Given m m' c) : outs (planes m c) (ms0 m c) = refOut m' c := by
  funext y
  obtain ⟨r, d, rfl⟩ : ∃ (r : Fin 512) (d : Fin 5), y = ix2 r d := ⟨y 0, y 1, by
    funext a
    match a with
    | ⟨0, _⟩ => rfl
    | ⟨1, _⟩ => rfl⟩
  refine (outFrom_rows h 512 0 (ms0 m c) _ (by omega) (fun _ q => ?_) r d).trans (if_neg (by omega))
  refine (ms0_planes m c q).trans ?_
  by_cases hq : key q < 20000
  · rw [dif_pos hq, dif_pos hq]
    show _ = Ref.masked (Ref.start m' c) _
    rw [Ref.start_masked, h.scores_eq]
  · rw [dif_neg hq, dif_neg hq]

/-- The precondition gives what is assumed of each device. -/
theorem given [Cert.Pre_boxes_ok.Facts] (hpre : Cert.Pre_KernelIdeal_boxes_ok m)
    (hargs : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (c : Dev Cert.KernelIdeal.nD) : Given m m' c :=
  have hp := Pre.pre_spec (KI.boxesOf m c) (KI.scoresOf m c) (hpre c)
  ⟨(hargs c).1, (hargs c).2, hp.1, hp.2⟩

end Cert.Proof

end
-- ==== Proof.Val.PreFacts.lean ====
/-
  The side conditions that the precondition's text states: its slices, reshapes, broadcasts and reductions have the shapes they name.
-/
module

public import proofs.«01_k».proof.Pre_boxes_ok

@[expose] public section

set_option maxRecDepth 16384

namespace Cert.Proof.Pre

/-- The precondition's side conditions hold. -/
theorem facts : Cert.Pre_boxes_ok.Facts where
  slices_S20000x4_S20000x1_0_0 := by decide
  shapeCasts_S20000x1_S20000 := by decide
  slices_S20000x4_S20000x1_0_1 := by decide
  slices_S20000x4_S20000x1_0_2 := by decide
  slices_S20000x4_S20000x1_0_3 := by decide
  bcast_S_S20000 := by decide
  bcast_S_S20000x4 := by decide
  reducesTo_S20000x4_S_d0_1 := by decide
  h_S_ := by decide
  reducesTo_S20000_S_d0 := by decide

end Cert.Proof.Pre

end
-- ==== Proof.lean ====
/- The claims, assembled: the kernel's two programs and the reference run to the end, leave their arguments and every counter
   as they should be, and on boxes that satisfy the precondition the kernel's result is the reference's. -/
module

public import proofs.«01_k».proof.Defs
public import proofs.«01_k».proof.Proof.K.Run
public import proofs.«01_k».proof.Proof.KI.Run
public import proofs.«01_k».proof.Proof.Ref.Out
public import proofs.«01_k».proof.Proof.Equal
public import proofs.«01_k».proof.Proof.Val.PreFacts

@[expose] public section

noncomputable section

namespace Cert.Proof

open Idealize.ShloMosaic Idealize.SL.Sem

/-- The kernel's program runs to the end, with its arguments unchanged and every counter at zero. -/
theorem frame_kernel : Cert.quiescent_Kernel (hKernel := Cert.Kernel.Gen.facts) := fun m g _ =>
  θ_run_mono (K.run_out m g) fun _ h => ⟨fun c => (h.1 c).2, h.2⟩

/-- So does the kernel's program on the extended reals. -/
theorem frame_kernelIdeal : Cert.quiescent_KernelIdeal (hKernelIdeal := Cert.KernelIdeal.Gen.facts) := fun m g _ =>
  θ_run_mono (KI.run_out m g) fun _ h => ⟨fun c => (h.1 c).2, h.2⟩

/-- So does the reference's program on the extended reals. -/
theorem frame_referenceIdeal : Cert.quiescent_ReferenceIdeal (hReferenceIdeal := Cert.ReferenceIdeal.Gen.facts) := fun m g _ =>
  θ_run_mono (Ref.run_out m g) fun _ h => ⟨fun c => (h.1 c).2, h.2⟩

/-- On boxes that satisfy the precondition the two results are equal. -/
theorem equal : Cert.algebraic_KernelIdeal_ReferenceIdeal_pre_boxes_ok (hKernelIdeal := Cert.KernelIdeal.Gen.facts)
    (hReferenceIdeal := Cert.ReferenceIdeal.Gen.facts) (hPre_boxes_ok := Pre.facts) := fun m g m' g' hpre hargs =>
  haveI := Pre.facts
  ⟨fun c => KI.outs (KI.planes m c) (KI.ms0 m c), θ_run_mono (KI.run_out m g) (fun _ h => h.1),
    θ_run_mono (Ref.run_out m' g') fun _ h c => ⟨(h.1 c).1.trans (outs_eq (given hpre hargs c)).symm, (h.1 c).2⟩⟩

/-- All the claims. -/
theorem claim : Cert.Claim :=
  ⟨Cert.Kernel.Gen.facts, Cert.KernelIdeal.Gen.facts, Cert.ReferenceIdeal.Gen.facts, Pre.facts,
    frame_kernel, frame_kernelIdeal, fun m g _ => frame_kernelIdeal m g trivial, frame_referenceIdeal,
    fun m g _ => frame_referenceIdeal m g trivial, trivial, equal⟩

end Cert.Proof

end
